-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![16384, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![16384, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S_ : Shape := ⟨0, ![]⟩

class Facts : Prop where
  bcast_S_S512x256 : S_.BroadcastsInDim S512x256 (![] : Fin 0 → Fin S512x256.rank)
  bcast_S_S256x128 : S_.BroadcastsInDim S256x128 (![] : Fin 0 → Fin S256x128.rank)
  bcast_S_S512x2 : S_.BroadcastsInDim S512x2 (![] : Fin 0 → Fin S512x2.rank)

variable [Facts]

def fn {F : FTy → Type} [FloatOps F] (main_arg0 : FVec F S512x256 .f32) (main_arg1 : FVec F S256x128 .f32) (main_arg2 : IVec S512x2 32) (main_arg3 : FVec F S4x256x512 .f32) : IVec S512x256 1 × IVec S256x128 1 × IVec S512x2 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_c : IVec S_ 32 := constantI S_ 32 0#32
  let main_v6 : IVec S512x2 32 := broadcastInDim S512x2 ![] bcast_S_S512x2 main_c
  let main_v7 : IVec S512x2 1 := cmpi .sge main_arg2 main_v6
  let main_c_1 : IVec S_ 32 := constantI S_ 32 128#32
  let main_v8 : IVec S512x2 32 := broadcastInDim S512x2 ![] bcast_S_S512x2 main_c_1
  let main_v9 : IVec S512x2 1 := cmpi .slt main_arg2 main_v8
  let main_v10 : IVec S512x2 1 := andi main_v7 main_v9
  (main_v2, main_v5, main_v10)
-- ==== Pre_finite_and_routed_ReferenceIdeal.lean ====
abbrev S16384x256 : Shape := ⟨2, ![16384, 256]⟩
abbrev S256x128 : Shape := ⟨2, ![256, 128]⟩
abbrev S16384x2 : Shape := ⟨2, ![16384, 2]⟩
abbrev S128x256x512 : Shape := ⟨3, ![128, 256, 512]⟩
abbrev S_ : Shape := ⟨0, ![]⟩

class Facts : Prop where
  bcast_S_S16384x256 : S_.BroadcastsInDim S16384x256 (![] : Fin 0 → Fin S16384x256.rank)
  bcast_S_S256x128 : S_.BroadcastsInDim S256x128 (![] : Fin 0 → Fin S256x128.rank)
  bcast_S_S16384x2 : S_.BroadcastsInDim S16384x2 (![] : Fin 0 → Fin S16384x2.rank)

variable [Facts]

def fn {F : FTy → Type} [FloatOps F] (main_arg0 : FVec F S16384x256 .f32) (main_arg1 : FVec F S256x128 .f32) (main_arg2 : IVec S16384x2 32) (main_arg3 : FVec F S128x256x512 .f32) : IVec S16384x256 1 × IVec S256x128 1 × IVec S16384x2 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S256x128 .f32 := Host.absf main_arg1
  let main_cst_0 : FVec F S_ .f32 := constant S_ .f32 0x7F800000#32
  let main_v4 : FVec F S256x128 .f32 := broadcastInDim S256x128 ![] bcast_S_S256x128 main_cst_0
  let main_v5 : IVec S256x128 1 := cmpf .olt main_v3 main_v4
  let main_c : IVec S_ 32 := constantI S_ 32 0#32
  let main_v6 : IVec S16384x2 32 := broadcastInDim S16384x2 ![] bcast_S_S16384x2 main_c
  let main_v7 : IVec S16384x2 1 := cmpi .sge main_arg2 main_v6
  let main_c_1 : IVec S_ 32 := constantI S_ 32 128#32
  let main_v8 : IVec S16384x2 32 := broadcastInDim S16384x2 ![] bcast_S_S16384x2 main_c_1
  let main_v9 : IVec S16384x2 1 := cmpi .slt main_arg2 main_v8
  let main_v10 : IVec S16384x2 1 := andi main_v7 main_v9
  (main_v2, main_v5, main_v10)
-- ==== Kernel.lean ====
abbrev S512x256 : Shape := ⟨2, ![512, 256]⟩
abbrev S256x128 : Shape := ⟨2, ![256, 128]⟩
abbrev S512x2 : Shape := ⟨2, ![512, 2]⟩
abbrev S4x256x512 : Shape := ⟨3, ![4, 256, 512]⟩
abbrev S32 : Shape := ⟨1, ![32]⟩
abbrev S512x512 : Shape := ⟨2, ![512, 512]⟩
abbrev S2x256x896 : Shape := ⟨3, ![2, 256, 896]⟩
abbrev S256x2048 : Shape := ⟨2, ![256, 2048]⟩
abbrev S_ : Shape := ⟨0, ![]⟩
abbrev S1 : Shape := ⟨1, ![1]⟩
abbrev S512x128 : Shape := ⟨2, ![512, 128]⟩
abbrev S512x1 : Shape := ⟨2, ![512, 1]⟩
abbrev S512 : Shape := ⟨1, ![512]⟩
abbrev S256x256 : Shape := ⟨2, ![256, 256]⟩
abbrev S1x256x256 : Shape := ⟨3, ![1, 256, 256]⟩
abbrev S1x256x128 : Shape := ⟨3, ![1, 256, 128]⟩
abbrev S256x512 : Shape := ⟨2, ![256, 512]⟩
abbrev S1x256x512 : Shape := ⟨3, ![1, 256, 512]⟩
abbrev S128x4 : Shape := ⟨2, ![128, 4]⟩
abbrev S1x256x384 : Shape := ⟨3, ![1, 256, 384]⟩
abbrev S256x384 : Shape := ⟨2, ![256, 384]⟩
abbrev S256x4 : Shape := ⟨2, ![256, 4]⟩
abbrev S256x1 : Shape := ⟨2, ![256, 1]⟩

abbrev nBuf : Space → Nat
  | .hbm => 7
  | .vmem => 8
  | .smem => 2
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x2, .i32⟩
  | .hbm, ⟨3, _⟩ => ⟨S4x256x512, .f32⟩
  | .hbm, ⟨4, _⟩ => ⟨S32, .i32⟩
  | .hbm, ⟨5, _⟩ => ⟨S32, .i32⟩
  | .hbm, ⟨6, _⟩ => ⟨S512x512, .f32⟩
  | .local _ .vmem, ⟨0, _⟩ => ⟨S512x256, .f32⟩
  | .local _ .vmem, ⟨1, _⟩ => ⟨S256x128, .f32⟩
  | .local _ .vmem, ⟨2, _⟩ => ⟨S512x2, .i32⟩
  | .local _ .vmem, ⟨3, _⟩ => ⟨S4x256x512, .f32⟩
  | .local _ .vmem, ⟨4, _⟩ => ⟨S512x512, .f32⟩
  | .local _ .vmem, ⟨5, _⟩ => ⟨S2x256x896, .bf16⟩
  | .local _ .vmem, ⟨6, _⟩ => ⟨S2x256x896, .bf16⟩
  | .local _ .vmem, ⟨7, _⟩ => ⟨S256x2048, .bf16⟩
  | .local _ .smem, ⟨0, _⟩ => ⟨S32, .i32⟩
  | .local _ .smem, ⟨1, _⟩ => ⟨S32, .i32⟩
  | _, _ => ⟨S512x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 263 → Bool
  | ⟨i, _⟩ => dmaSemScopedAt i

abbrev sig : RefSig :=
  (ofTc nBuf bufTy 5 263 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 4

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_dev1 (v6 : BitVec 32) : Nat :=
  let c0_i32 : BitVec 32 := 0#32
  let c1_i32_1 : BitVec 32 := 1#32
  let v8 : BitVec 32 := Scalar.muli v6 c1_i32_1
  let v9 : BitVec 32 := Scalar.addi c0_i32 v8
  v9.toNat

def k0_dev2 (v4 : BitVec 32) : Nat :=
  let c0_i32_4 : BitVec 32 := 0#32
  let c1_i32_3 : BitVec 32 := 1#32
  let v10 : BitVec 32 := Scalar.muli v4 c1_i32_3
  let v11 : BitVec 32 := Scalar.addi c0_i32_4 v10
  v11.toNat

def k0_dev3 (v4 : BitVec 32) : Nat :=
  let c0_i32_56 : BitVec 32 := 0#32
  let c1_i32_55 : BitVec 32 := 1#32
  let v107 : BitVec 32 := Scalar.muli v4 c1_i32_55
  let v108 : BitVec 32 := Scalar.addi c0_i32_56 v107
  v108.toNat
def k0_dev4 (v4 : BitVec 32) : Nat :=
  let c0_i32_82 : BitVec 32 := 0#32
  let c1_i32_81 : BitVec 32 := 1#32
  let v151 : BitVec 32 := Scalar.muli v4 c1_i32_81
  let v152 : BitVec 32 := Scalar.addi c0_i32_82 v151
  v152.toNat
def k0_dev5 (v6 : BitVec 32) : Nat :=
  let c0_i32_91 : BitVec 32 := 0#32
  let c1_i32_90 : BitVec 32 := 1#32
  let v161 : BitVec 32 := Scalar.muli v6 c1_i32_90
  let v162 : BitVec 32 := Scalar.addi c0_i32_91 v161
  v162.toNat
def k0_dev6 (v6 : BitVec 32) : Nat :=
  let c0_i32_117 : BitVec 32 := 0#32
  let c1_i32_116 : BitVec 32 := 1#32
  let v205 : BitVec 32 := Scalar.muli v6 c1_i32_116
  let v206 : BitVec 32 := Scalar.addi c0_i32_117 v205
  v206.toNat
def k0_dev7 (v6 : BitVec 32) : Nat :=
  let c0_i32_133 : BitVec 32 := 0#32
  let c1_i32_132 : BitVec 32 := 1#32
  let v221 : BitVec 32 := Scalar.muli v6 c1_i32_132
  let v222 : BitVec 32 := Scalar.addi c0_i32_133 v221
  v222.toNat
def k0_dev8 (v6 : BitVec 32) : Nat :=
  let c0_i32_145 : BitVec 32 := 0#32
  let c1_i32_144 : BitVec 32 := 1#32
  let v229 : BitVec 32 := Scalar.muli v6 c1_i32_144
  let v230 : BitVec 32 := Scalar.addi c0_i32_145 v229
  v230.toNat
def k0_dev9 (v4 : BitVec 32) : Nat :=
  let c0_i32_163 : BitVec 32 := 0#32
  let c1_i32_162 : BitVec 32 := 1#32
  let v239 : BitVec 32 := Scalar.muli v4 c1_i32_162
  let v240 : BitVec 32 := Scalar.addi c0_i32_163 v239
  v240.toNat
def k0_dev10 (v4 : BitVec 32) : Nat :=
  let c0_i32_201 : BitVec 32 := 0#32
  let c1_i32_200 : BitVec 32 := 1#32
  let v291 : BitVec 32 := Scalar.muli v4 c1_i32_200
  let v292 : BitVec 32 := Scalar.addi c0_i32_201 v291
  v292.toNat
def k0_dev11 (v4 : BitVec 32) : Nat :=
  let c0_i32_217 : BitVec 32 := 0#32
  let c1_i32_216 : BitVec 32 := 1#32
  let v307 : BitVec 32 := Scalar.muli v4 c1_i32_216
  let v308 : BitVec 32 := Scalar.addi c0_i32_217 v307
  v308.toNat
def k0_dev12 (v4 : BitVec 32) : Nat :=
  let c0_i32_229 : BitVec 32 := 0#32
  let c1_i32_228 : BitVec 32 := 1#32
  let v315 : BitVec 32 := Scalar.muli v4 c1_i32_228
  let v316 : BitVec 32 := Scalar.addi c0_i32_229 v315
  v316.toNat
def k0_dev13 (v6 : BitVec 32) : Nat :=
  let c0_i32_247 : BitVec 32 := 0#32
  let c1_i32_246 : BitVec 32 := 1#32
  let v325 : BitVec 32 := Scalar.muli v6 c1_i32_246
  let v326 : BitVec 32 := Scalar.addi c0_i32_247 v325
  v326.toNat
def k0_dev14 (v6 : BitVec 32) : Nat :=
  let c0_i32_285 : BitVec 32 := 0#32
  let c1_i32_284 : BitVec 32 := 1#32
  let v377 : BitVec 32 := Scalar.muli v6 c1_i32_284
  let v378 : BitVec 32 := Scalar.addi c0_i32_285 v377
  v378.toNat
def k0_dev15 (v6 : BitVec 32) : Nat :=
  let c0_i32_301 : BitVec 32 := 0#32
  let c1_i32_300 : BitVec 32 := 1#32
  let v393 : BitVec 32 := Scalar.muli v6 c1_i32_300
  let v394 : BitVec 32 := Scalar.addi c0_i32_301 v393
  v394.toNat
def k0_dev16 (v6 : BitVec 32) : Nat :=
  let c0_i32_313 : BitVec 32 := 0#32
  let c1_i32_312 : BitVec 32 := 1#32
  let v401 : BitVec 32 := Scalar.muli v6 c1_i32_312
  let v402 : BitVec 32 := Scalar.addi c0_i32_313 v401
  v402.toNat
def k0_dev17 (v4 : BitVec 32) : Nat :=
  let c0_i32_331 : BitVec 32 := 0#32
  let c1_i32_330 : BitVec 32 := 1#32
  let v411 : BitVec 32 := Scalar.muli v4 c1_i32_330
  let v412 : BitVec 32 := Scalar.addi c0_i32_331 v411
  v412.toNat
def k0_dev18 (v4 : BitVec 32) : Nat :=
  let c0_i32_369 : BitVec 32 := 0#32
  let c1_i32_368 : BitVec 32 := 1#32
  let v463 : BitVec 32 := Scalar.muli v4 c1_i32_368
  let v464 : BitVec 32 := Scalar.addi c0_i32_369 v463
  v464.toNat
def k0_dev19 (v4 : BitVec 32) : Nat :=
  let c0_i32_385 : BitVec 32 := 0#32
  let c1_i32_384 : BitVec 32 := 1#32
  let v479 : BitVec 32 := Scalar.muli v4 c1_i32_384
  let v480 : BitVec 32 := Scalar.addi c0_i32_385 v479
  v480.toNat
def k0_dev20 (v4 : BitVec 32) : Nat :=
  let c0_i32_397 : BitVec 32 := 0#32
  let c1_i32_396 : BitVec 32 := 1#32
  let v487 : BitVec 32 := Scalar.muli v4 c1_i32_396
  let v488 : BitVec 32 := Scalar.addi c0_i32_397 v487
  v488.toNat
def k0_dev21 (v6 : BitVec 32) : Nat :=
  let c0_i32_415 : BitVec 32 := 0#32
  let c1_i32_414 : BitVec 32 := 1#32
  let v497 : BitVec 32 := Scalar.muli v6 c1_i32_414
  let v498 : BitVec 32 := Scalar.addi c0_i32_415 v497
  v498.toNat
def k0_dev22 (v6 : BitVec 32) : Nat :=
  let c0_i32_453 : BitVec 32 := 0#32
  let c1_i32_452 : BitVec 32 := 1#32
  let v549 : BitVec 32 := Scalar.muli v6 c1_i32_452
  let v550 : BitVec 32 := Scalar.addi c0_i32_453 v549
  v550.toNat
def k0_dev23 (v6 : BitVec 32) : Nat :=
  let c0_i32_469 : BitVec 32 := 0#32
  let c1_i32_468 : BitVec 32 := 1#32
  let v565 : BitVec 32 := Scalar.muli v6 c1_i32_468
  let v566 : BitVec 32 := Scalar.addi c0_i32_469 v565
  v566.toNat
def k0_dev24 (v6 : BitVec 32) : Nat :=
  let c0_i32_481 : BitVec 32 := 0#32
  let c1_i32_480 : BitVec 32 := 1#32
  let v573 : BitVec 32 := Scalar.muli v6 c1_i32_480
  let v574 : BitVec 32 := Scalar.addi c0_i32_481 v573
  v574.toNat
def k0_dev25 (v4 : BitVec 32) : Nat :=
  let c0_i32_498 : BitVec 32 := 0#32
  let c1_i32_497 : BitVec 32 := 1#32
  let v583 : BitVec 32 := Scalar.muli v4 c1_i32_497
  let v584 : BitVec 32 := Scalar.addi c0_i32_498 v583
  v584.toNat
def k0_dev26 (v4 : BitVec 32) : Nat :=
  let c0_i32_536 : BitVec 32 := 0#32
  let c1_i32_535 : BitVec 32 := 1#32
  let v635 : BitVec 32 := Scalar.muli v4 c1_i32_535
  let v636 : BitVec 32 := Scalar.addi c0_i32_536 v635
  v636.toNat
def k0_dev27 (v4 : BitVec 32) : Nat :=
  let c0_i32_552 : BitVec 32 := 0#32
  let c1_i32_551 : BitVec 32 := 1#32
  let v651 : BitVec 32 := Scalar.muli v4 c1_i32_551
  let v652 : BitVec 32 := Scalar.addi c0_i32_552 v651
  v652.toNat
def k0_dev28 (v4 : BitVec 32) : Nat :=
  let c0_i32_564 : BitVec 32 := 0#32
  let c1_i32_563 : BitVec 32 := 1#32
  let v659 : BitVec 32 := Scalar.muli v4 c1_i32_563
  let v660 : BitVec 32 := Scalar.addi c0_i32_564 v659
  v660.toNat
def k0_dev29 (v6 : BitVec 32) : Nat :=
  let c0_i32_582 : BitVec 32 := 0#32
  let c1_i32_581 : BitVec 32 := 1#32
  let v669 : BitVec 32 := Scalar.muli v6 c1_i32_581
  let v670 : BitVec 32 := Scalar.addi c0_i32_582 v669
  v670.toNat
def k0_dev30 (v6 : BitVec 32) : Nat :=
  let c0_i32_620 : BitVec 32 := 0#32
  let c1_i32_619 : BitVec 32 := 1#32
  let v721 : BitVec 32 := Scalar.muli v6 c1_i32_619
  let v722 : BitVec 32 := Scalar.addi c0_i32_620 v721
  v722.toNat
def k0_dev31 (v6 : BitVec 32) : Nat :=
  let c0_i32_636 : BitVec 32 := 0#32
  let c1_i32_635 : BitVec 32 := 1#32
  let v737 : BitVec 32 := Scalar.muli v6 c1_i32_635
  let v738 : BitVec 32 := Scalar.addi c0_i32_636 v737
  v738.toNat
def k0_dev32 (v6 : BitVec 32) : Nat :=
  let c0_i32_648 : BitVec 32 := 0#32
  let c1_i32_647 : BitVec 32 := 1#32
  let v745 : BitVec 32 := Scalar.muli v6 c1_i32_647
  let v746 : BitVec 32 := Scalar.addi c0_i32_648 v745
  v746.toNat
def k0_dev33 (v4 : BitVec 32) : Nat :=
  let c0_i32_666 : BitVec 32 := 0#32
  let c1_i32_665 : BitVec 32 := 1#32
  let v755 : BitVec 32 := Scalar.muli v4 c1_i32_665
  let v756 : BitVec 32 := Scalar.addi c0_i32_666 v755
  v756.toNat
def k0_dev34 (v4 : BitVec 32) : Nat :=
  let c0_i32_704 : BitVec 32 := 0#32
  let c1_i32_703 : BitVec 32 := 1#32
  let v807 : BitVec 32 := Scalar.muli v4 c1_i32_703
  let v808 : BitVec 32 := Scalar.addi c0_i32_704 v807
  v808.toNat
def k0_dev35 (v4 : BitVec 32) : Nat :=
  let c0_i32_720 : BitVec 32 := 0#32
  let c1_i32_719 : BitVec 32 := 1#32
  let v823 : BitVec 32 := Scalar.muli v4 c1_i32_719
  let v824 : BitVec 32 := Scalar.addi c0_i32_720 v823
  v824.toNat
def k0_dev36 (v4 : BitVec 32) : Nat :=
  let c0_i32_732 : BitVec 32 := 0#32
  let c1_i32_731 : BitVec 32 := 1#32
  let v831 : BitVec 32 := Scalar.muli v4 c1_i32_731
  let v832 : BitVec 32 := Scalar.addi c0_i32_732 v831
  v832.toNat
def k0_dev37 (v6 : BitVec 32) : Nat :=
  let c0_i32_750 : BitVec 32 := 0#32
  let c1_i32_749 : BitVec 32 := 1#32
  let v841 : BitVec 32 := Scalar.muli v6 c1_i32_749
  let v842 : BitVec 32 := Scalar.addi c0_i32_750 v841
  v842.toNat
def k0_dev38 (v6 : BitVec 32) : Nat :=
  let c0_i32_788 : BitVec 32 := 0#32
  let c1_i32_787 : BitVec 32 := 1#32
  let v893 : BitVec 32 := Scalar.muli v6 c1_i32_787
  let v894 : BitVec 32 := Scalar.addi c0_i32_788 v893
  v894.toNat
def k0_dev39 (v6 : BitVec 32) : Nat :=
  let c0_i32_804 : BitVec 32 := 0#32
  let c1_i32_803 : BitVec 32 := 1#32
  let v909 : BitVec 32 := Scalar.muli v6 c1_i32_803
  let v910 : BitVec 32 := Scalar.addi c0_i32_804 v909
  v910.toNat
def k0_dev40 (v6 : BitVec 32) : Nat :=
  let c0_i32_816 : BitVec 32 := 0#32
  let c1_i32_815 : BitVec 32 := 1#32
  let v917 : BitVec 32 := Scalar.muli v6 c1_i32_815
  let v918 : BitVec 32 := Scalar.addi c0_i32_816 v917
  v918.toNat
def k0_dev41 (v4 : BitVec 32) : Nat :=
  let c0_i32_833 : BitVec 32 := 0#32
  let c1_i32_832 : BitVec 32 := 1#32
  let v927 : BitVec 32 := Scalar.muli v4 c1_i32_832
  let v928 : BitVec 32 := Scalar.addi c0_i32_833 v927
  v928.toNat
def k0_dev42 (v4 : BitVec 32) : Nat :=
  let c0_i32_871 : BitVec 32 := 0#32
  let c1_i32_870 : BitVec 32 := 1#32
  let v979 : BitVec 32 := Scalar.muli v4 c1_i32_870
  let v980 : BitVec 32 := Scalar.addi c0_i32_871 v979
  v980.toNat
def k0_dev43 (v4 : BitVec 32) : Nat :=
  let c0_i32_887 : BitVec 32 := 0#32
  let c1_i32_886 : BitVec 32 := 1#32
  let v995 : BitVec 32 := Scalar.muli v4 c1_i32_886
  let v996 : BitVec 32 := Scalar.addi c0_i32_887 v995
  v996.toNat
def k0_dev44 (v4 : BitVec 32) : Nat :=
  let c0_i32_899 : BitVec 32 := 0#32
  let c1_i32_898 : BitVec 32 := 1#32
  let v1003 : BitVec 32 := Scalar.muli v4 c1_i32_898
  let v1004 : BitVec 32 := Scalar.addi c0_i32_899 v1003
  v1004.toNat
def k0_dev45 (v6 : BitVec 32) : Nat :=
  let c0_i32_917 : BitVec 32 := 0#32
  let c1_i32_916 : BitVec 32 := 1#32
  let v1013 : BitVec 32 := Scalar.muli v6 c1_i32_916
  let v1014 : BitVec 32 := Scalar.addi c0_i32_917 v1013
  v1014.toNat
def k0_dev46 (v6 : BitVec 32) : Nat :=
  let c0_i32_955 : BitVec 32 := 0#32
  let c1_i32_954 : BitVec 32 := 1#32
  let v1065 : BitVec 32 := Scalar.muli v6 c1_i32_954
  let v1066 : BitVec 32 := Scalar.addi c0_i32_955 v1065
  v1066.toNat
def k0_dev47 (v6 : BitVec 32) : Nat :=
  let c0_i32_971 : BitVec 32 := 0#32
  let c1_i32_970 : BitVec 32 := 1#32
  let v1081 : BitVec 32 := Scalar.muli v6 c1_i32_970
  let v1082 : BitVec 32 := Scalar.addi c0_i32_971 v1081
  v1082.toNat
def k0_dev48 (v6 : BitVec 32) : Nat :=
  let c0_i32_983 : BitVec 32 := 0#32
  let c1_i32_982 : BitVec 32 := 1#32
  let v1089 : BitVec 32 := Scalar.muli v6 c1_i32_982
  let v1090 : BitVec 32 := Scalar.addi c0_i32_983 v1089
  v1090.toNat
def k0_dev49 (v4 : BitVec 32) : Nat :=
  let c0_i32_1000 : BitVec 32 := 0#32
  let c1_i32_999 : BitVec 32 := 1#32
  let v1099 : BitVec 32 := Scalar.muli v4 c1_i32_999
  let v1100 : BitVec 32 := Scalar.addi c0_i32_1000 v1099
  v1100.toNat
def k0_dev50 (v4 : BitVec 32) : Nat :=
  let c0_i32_1038 : BitVec 32 := 0#32
  let c1_i32_1037 : BitVec 32 := 1#32
  let v1151 : BitVec 32 := Scalar.muli v4 c1_i32_1037
  let v1152 : BitVec 32 := Scalar.addi c0_i32_1038 v1151
  v1152.toNat
def k0_dev51 (v4 : BitVec 32) : Nat :=
  let c0_i32_1054 : BitVec 32 := 0#32
  let c1_i32_1053 : BitVec 32 := 1#32
  let v1167 : BitVec 32 := Scalar.muli v4 c1_i32_1053
  let v1168 : BitVec 32 := Scalar.addi c0_i32_1054 v1167
  v1168.toNat
def k0_dev52 (v4 : BitVec 32) : Nat :=
  let c0_i32_1066 : BitVec 32 := 0#32
  let c1_i32_1065 : BitVec 32 := 1#32
  let v1175 : BitVec 32 := Scalar.muli v4 c1_i32_1065
  let v1176 : BitVec 32 := Scalar.addi c0_i32_1066 v1175
  v1176.toNat
def k0_dev53 (v6 : BitVec 32) : Nat :=
  let c0_i32_1084 : BitVec 32 := 0#32
  let c1_i32_1083 : BitVec 32 := 1#32
  let v1185 : BitVec 32 := Scalar.muli v6 c1_i32_1083
  let v1186 : BitVec 32 := Scalar.addi c0_i32_1084 v1185
  v1186.toNat
def k0_dev54 (v6 : BitVec 32) : Nat :=
  let c0_i32_1122 : BitVec 32 := 0#32
  let c1_i32_1121 : BitVec 32 := 1#32
  let v1237 : BitVec 32 := Scalar.muli v6 c1_i32_1121
  let v1238 : BitVec 32 := Scalar.addi c0_i32_1122 v1237
  v1238.toNat
def k0_dev55 (v6 : BitVec 32) : Nat :=
  let c0_i32_1138 : BitVec 32 := 0#32
  let c1_i32_1137 : BitVec 32 := 1#32
  let v1253 : BitVec 32 := Scalar.muli v6 c1_i32_1137
  let v1254 : BitVec 32 := Scalar.addi c0_i32_1138 v1253
  v1254.toNat
def k0_dev56 (v6 : BitVec 32) : Nat :=
  let c0_i32_1150 : BitVec 32 := 0#32
  let c1_i32_1149 : BitVec 32 := 1#32
  let v1261 : BitVec 32 := Scalar.muli v6 c1_i32_1149
  let v1262 : BitVec 32 := Scalar.addi c0_i32_1150 v1261
  v1262.toNat
def k0_dev57 (v4 : BitVec 32) : Nat :=
  let c0_i32_1167 : BitVec 32 := 0#32
  let c1_i32_1166 : BitVec 32 := 1#32
  let v1271 : BitVec 32 := Scalar.muli v4 c1_i32_1166
  let v1272 : BitVec 32 := Scalar.addi c0_i32_1167 v1271
  v1272.toNat
def k0_dev58 (v4 : BitVec 32) : Nat :=
  let c0_i32_1205 : BitVec 32 := 0#32
  let c1_i32_1204 : BitVec 32 := 1#32
  let v1323 : BitVec 32 := Scalar.muli v4 c1_i32_1204
  let v1324 : BitVec 32 := Scalar.addi c0_i32_1205 v1323
  v1324.toNat
def k0_dev59 (v4 : BitVec 32) : Nat :=
  let c0_i32_1221 : BitVec 32 := 0#32
  let c1_i32_1220 : BitVec 32 := 1#32
  let v1339 : BitVec 32 := Scalar.muli v4 c1_i32_1220
  let v1340 : BitVec 32 := Scalar.addi c0_i32_1221 v1339
  v1340.toNat
def k0_dev60 (v4 : BitVec 32) : Nat :=
  let c0_i32_1233 : BitVec 32 := 0#32
  let c1_i32_1232 : BitVec 32 := 1#32
  let v1347 : BitVec 32 := Scalar.muli v4 c1_i32_1232
  let v1348 : BitVec 32 := Scalar.addi c0_i32_1233 v1347
  v1348.toNat
def k0_dev61 (v6 : BitVec 32) : Nat :=
  let c0_i32_1251 : BitVec 32 := 0#32
  let c1_i32_1250 : BitVec 32 := 1#32
  let v1357 : BitVec 32 := Scalar.muli v6 c1_i32_1250
  let v1358 : BitVec 32 := Scalar.addi c0_i32_1251 v1357
  v1358.toNat
def k0_dev62 (v6 : BitVec 32) : Nat :=
  let c0_i32_1289 : BitVec 32 := 0#32
  let c1_i32_1288 : BitVec 32 := 1#32
  let v1409 : BitVec 32 := Scalar.muli v6 c1_i32_1288
  let v1410 : BitVec 32 := Scalar.addi c0_i32_1289 v1409
  v1410.toNat
def k0_dev63 (v6 : BitVec 32) : Nat :=
  let c0_i32_1305 : BitVec 32 := 0#32
  let c1_i32_1304 : BitVec 32 := 1#32
  let v1425 : BitVec 32 := Scalar.muli v6 c1_i32_1304
  let v1426 : BitVec 32 := Scalar.addi c0_i32_1305 v1425
  v1426.toNat
def k0_dev64 (v6 : BitVec 32) : Nat :=
  let c0_i32_1317 : BitVec 32 := 0#32
  let c1_i32_1316 : BitVec 32 := 1#32
  let v1433 : BitVec 32 := Scalar.muli v6 c1_i32_1316
  let v1434 : BitVec 32 := Scalar.addi c0_i32_1317 v1433
  v1434.toNat
def k0_dev65 (v4 : BitVec 32) : Nat :=
  let c0_i32_1334 : BitVec 32 := 0#32
  let c1_i32_1333 : BitVec 32 := 1#32
  let v1443 : BitVec 32 := Scalar.muli v4 c1_i32_1333
  let v1444 : BitVec 32 := Scalar.addi c0_i32_1334 v1443
  v1444.toNat
def k0_dev66 (v4 : BitVec 32) : Nat :=
  let c0_i32_1372 : BitVec 32 := 0#32
  let c1_i32_1371 : BitVec 32 := 1#32
  let v1495 : BitVec 32 := Scalar.muli v4 c1_i32_1371
  let v1496 : BitVec 32 := Scalar.addi c0_i32_1372 v1495
  v1496.toNat
def k0_dev67 (v4 : BitVec 32) : Nat :=
  let c0_i32_1388 : BitVec 32 := 0#32
  let c1_i32_1387 : BitVec 32 := 1#32
  let v1511 : BitVec 32 := Scalar.muli v4 c1_i32_1387
  let v1512 : BitVec 32 := Scalar.addi c0_i32_1388 v1511
  v1512.toNat
def k0_dev68 (v4 : BitVec 32) : Nat :=
  let c0_i32_1400 : BitVec 32 := 0#32
  let c1_i32_1399 : BitVec 32 := 1#32
  let v1519 : BitVec 32 := Scalar.muli v4 c1_i32_1399
  let v1520 : BitVec 32 := Scalar.addi c0_i32_1400 v1519
  v1520.toNat
def k0_dev69 (v6 : BitVec 32) : Nat :=
  let c0_i32_1418 : BitVec 32 := 0#32
  let c1_i32_1417 : BitVec 32 := 1#32
  let v1529 : BitVec 32 := Scalar.muli v6 c1_i32_1417
  let v1530 : BitVec 32 := Scalar.addi c0_i32_1418 v1529
  v1530.toNat
def k0_dev70 (v6 : BitVec 32) : Nat :=
  let c0_i32_1456 : BitVec 32 := 0#32
  let c1_i32_1455 : BitVec 32 := 1#32
  let v1581 : BitVec 32 := Scalar.muli v6 c1_i32_1455
  let v1582 : BitVec 32 := Scalar.addi c0_i32_1456 v1581
  v1582.toNat
def k0_dev71 (v6 : BitVec 32) : Nat :=
  let c0_i32_1472 : BitVec 32 := 0#32
  let c1_i32_1471 : BitVec 32 := 1#32
  let v1597 : BitVec 32 := Scalar.muli v6 c1_i32_1471
  let v1598 : BitVec 32 := Scalar.addi c0_i32_1472 v1597
  v1598.toNat
def k0_dev72 (v6 : BitVec 32) : Nat :=
  let c0_i32_1484 : BitVec 32 := 0#32
  let c1_i32_1483 : BitVec 32 := 1#32
  let v1605 : BitVec 32 := Scalar.muli v6 c1_i32_1483
  let v1606 : BitVec 32 := Scalar.addi c0_i32_1484 v1605
  v1606.toNat
def k0_dev73 (v4 : BitVec 32) : Nat :=
  let c0_i32_1501 : BitVec 32 := 0#32
  let c1_i32_1500 : BitVec 32 := 1#32
  let v1615 : BitVec 32 := Scalar.muli v4 c1_i32_1500
  let v1616 : BitVec 32 := Scalar.addi c0_i32_1501 v1615
  v1616.toNat
def k0_dev74 (v4 : BitVec 32) : Nat :=
  let c0_i32_1539 : BitVec 32 := 0#32
  let c1_i32_1538 : BitVec 32 := 1#32
  let v1667 : BitVec 32 := Scalar.muli v4 c1_i32_1538
  let v1668 : BitVec 32 := Scalar.addi c0_i32_1539 v1667
  v1668.toNat
def k0_dev75 (v4 : BitVec 32) : Nat :=
  let c0_i32_1555 : BitVec 32 := 0#32
  let c1_i32_1554 : BitVec 32 := 1#32
  let v1683 : BitVec 32 := Scalar.muli v4 c1_i32_1554
  let v1684 : BitVec 32 := Scalar.addi c0_i32_1555 v1683
  v1684.toNat
def k0_dev76 (v4 : BitVec 32) : Nat :=
  let c0_i32_1567 : BitVec 32 := 0#32
  let c1_i32_1566 : BitVec 32 := 1#32
  let v1691 : BitVec 32 := Scalar.muli v4 c1_i32_1566
  let v1692 : BitVec 32 := Scalar.addi c0_i32_1567 v1691
  v1692.toNat
def k0_dev77 (v6 : BitVec 32) : Nat :=
  let c0_i32_1585 : BitVec 32 := 0#32
  let c1_i32_1584 : BitVec 32 := 1#32
  let v1701 : BitVec 32 := Scalar.muli v6 c1_i32_1584
  let v1702 : BitVec 32 := Scalar.addi c0_i32_1585 v1701
  v1702.toNat
def k0_dev78 (v6 : BitVec 32) : Nat :=
  let c0_i32_1623 : BitVec 32 := 0#32
  let c1_i32_1622 : BitVec 32 := 1#32
  let v1753 : BitVec 32 := Scalar.muli v6 c1_i32_1622
  let v1754 : BitVec 32 := Scalar.addi c0_i32_1623 v1753
  v1754.toNat
def k0_dev79 (v6 : BitVec 32) : Nat :=
  let c0_i32_1639 : BitVec 32 := 0#32
  let c1_i32_1638 : BitVec 32 := 1#32
  let v1769 : BitVec 32 := Scalar.muli v6 c1_i32_1638
  let v1770 : BitVec 32 := Scalar.addi c0_i32_1639 v1769
  v1770.toNat
def k0_dev80 (v6 : BitVec 32) : Nat :=
  let c0_i32_1651 : BitVec 32 := 0#32
  let c1_i32_1650 : BitVec 32 := 1#32
  let v1777 : BitVec 32 := Scalar.muli v6 c1_i32_1650
  let v1778 : BitVec 32 := Scalar.addi c0_i32_1651 v1777
  v1778.toNat
def k0_dev81 (v4 : BitVec 32) : Nat :=
  let c0_i32_1668 : BitVec 32 := 0#32
  let c1_i32_1667 : BitVec 32 := 1#32
  let v1787 : BitVec 32 := Scalar.muli v4 c1_i32_1667
  let v1788 : BitVec 32 := Scalar.addi c0_i32_1668 v1787
  v1788.toNat
def k0_dev82 (v4 : BitVec 32) : Nat :=
  let c0_i32_1706 : BitVec 32 := 0#32
  let c1_i32_1705 : BitVec 32 := 1#32
  let v1839 : BitVec 32 := Scalar.muli v4 c1_i32_1705
  let v1840 : BitVec 32 := Scalar.addi c0_i32_1706 v1839
  v1840.toNat
def k0_dev83 (v4 : BitVec 32) : Nat :=
  let c0_i32_1722 : BitVec 32 := 0#32
  let c1_i32_1721 : BitVec 32 := 1#32
  let v1855 : BitVec 32 := Scalar.muli v4 c1_i32_1721
  let v1856 : BitVec 32 := Scalar.addi c0_i32_1722 v1855
  v1856.toNat
def k0_dev84 (v4 : BitVec 32) : Nat :=
  let c0_i32_1734 : BitVec 32 := 0#32
  let c1_i32_1733 : BitVec 32 := 1#32
  let v1863 : BitVec 32 := Scalar.muli v4 c1_i32_1733
  let v1864 : BitVec 32 := Scalar.addi c0_i32_1734 v1863
  v1864.toNat
def k0_dev85 (v6 : BitVec 32) : Nat :=
  let c0_i32_1752 : BitVec 32 := 0#32
  let c1_i32_1751 : BitVec 32 := 1#32
  let v1873 : BitVec 32 := Scalar.muli v6 c1_i32_1751
  let v1874 : BitVec 32 := Scalar.addi c0_i32_1752 v1873
  v1874.toNat
def k0_dev86 (v6 : BitVec 32) : Nat :=
  let c0_i32_1790 : BitVec 32 := 0#32
  let c1_i32_1789 : BitVec 32 := 1#32
  let v1925 : BitVec 32 := Scalar.muli v6 c1_i32_1789
  let v1926 : BitVec 32 := Scalar.addi c0_i32_1790 v1925
  v1926.toNat
def k0_dev87 (v6 : BitVec 32) : Nat :=
  let c0_i32_1806 : BitVec 32 := 0#32
  let c1_i32_1805 : BitVec 32 := 1#32
  let v1941 : BitVec 32 := Scalar.muli v6 c1_i32_1805
  let v1942 : BitVec 32 := Scalar.addi c0_i32_1806 v1941
  v1942.toNat
def k0_dev88 (v6 : BitVec 32) : Nat :=
  let c0_i32_1818 : BitVec 32 := 0#32
  let c1_i32_1817 : BitVec 32 := 1#32
  let v1949 : BitVec 32 := Scalar.muli v6 c1_i32_1817
  let v1950 : BitVec 32 := Scalar.addi c0_i32_1818 v1949
  v1950.toNat
def k0_dev89 (v4 : BitVec 32) : Nat :=
  let c0_i32_1835 : BitVec 32 := 0#32
  let c1_i32_1834 : BitVec 32 := 1#32
  let v1959 : BitVec 32 := Scalar.muli v4 c1_i32_1834
  let v1960 : BitVec 32 := Scalar.addi c0_i32_1835 v1959
  v1960.toNat
def k0_dev90 (v4 : BitVec 32) : Nat :=
  let c0_i32_1873 : BitVec 32 := 0#32
  let c1_i32_1872 : BitVec 32 := 1#32
  let v2011 : BitVec 32 := Scalar.muli v4 c1_i32_1872
  let v2012 : BitVec 32 := Scalar.addi c0_i32_1873 v2011
  v2012.toNat
def k0_dev91 (v4 : BitVec 32) : Nat :=
  let c0_i32_1889 : BitVec 32 := 0#32
  let c1_i32_1888 : BitVec 32 := 1#32
  let v2027 : BitVec 32 := Scalar.muli v4 c1_i32_1888
  let v2028 : BitVec 32 := Scalar.addi c0_i32_1889 v2027
  v2028.toNat
def k0_dev92 (v4 : BitVec 32) : Nat :=
  let c0_i32_1901 : BitVec 32 := 0#32
  let c1_i32_1900 : BitVec 32 := 1#32
  let v2035 : BitVec 32 := Scalar.muli v4 c1_i32_1900
  let v2036 : BitVec 32 := Scalar.addi c0_i32_1901 v2035
  v2036.toNat
def k0_dev93 (v6 : BitVec 32) : Nat :=
  let c0_i32_1919 : BitVec 32 := 0#32
  let c1_i32_1918 : BitVec 32 := 1#32
  let v2045 : BitVec 32 := Scalar.muli v6 c1_i32_1918
  let v2046 : BitVec 32 := Scalar.addi c0_i32_1919 v2045
  v2046.toNat
def k0_dev94 (v6 : BitVec 32) : Nat :=
  let c0_i32_1957 : BitVec 32 := 0#32
  let c1_i32_1956 : BitVec 32 := 1#32
  let v2097 : BitVec 32 := Scalar.muli v6 c1_i32_1956
  let v2098 : BitVec 32 := Scalar.addi c0_i32_1957 v2097
  v2098.toNat
def k0_dev95 (v6 : BitVec 32) : Nat :=
  let c0_i32_1973 : BitVec 32 := 0#32
  let c1_i32_1972 : BitVec 32 := 1#32
  let v2113 : BitVec 32 := Scalar.muli v6 c1_i32_1972
  let v2114 : BitVec 32 := Scalar.addi c0_i32_1973 v2113
  v2114.toNat
def k0_dev96 (v6 : BitVec 32) : Nat :=
  let c0_i32_1985 : BitVec 32 := 0#32
  let c1_i32_1984 : BitVec 32 := 1#32
  let v2121 : BitVec 32 := Scalar.muli v6 c1_i32_1984
  let v2122 : BitVec 32 := Scalar.addi c0_i32_1985 v2121
  v2122.toNat
def k0_dev97 (v4 : BitVec 32) : Nat :=
  let c0_i32_2002 : BitVec 32 := 0#32
  let c1_i32_2001 : BitVec 32 := 1#32
  let v2131 : BitVec 32 := Scalar.muli v4 c1_i32_2001
  let v2132 : BitVec 32 := Scalar.addi c0_i32_2002 v2131
  v2132.toNat
def k0_dev98 (v4 : BitVec 32) : Nat :=
  let c0_i32_2040 : BitVec 32 := 0#32
  let c1_i32_2039 : BitVec 32 := 1#32
  let v2183 : BitVec 32 := Scalar.muli v4 c1_i32_2039
  let v2184 : BitVec 32 := Scalar.addi c0_i32_2040 v2183
  v2184.toNat
def k0_dev99 (v4 : BitVec 32) : Nat :=
  let c0_i32_2056 : BitVec 32 := 0#32
  let c1_i32_2055 : BitVec 32 := 1#32
  let v2199 : BitVec 32 := Scalar.muli v4 c1_i32_2055
  let v2200 : BitVec 32 := Scalar.addi c0_i32_2056 v2199
  v2200.toNat
def k0_dev100 (v4 : BitVec 32) : Nat :=
  let c0_i32_2068 : BitVec 32 := 0#32
  let c1_i32_2067 : BitVec 32 := 1#32
  let v2207 : BitVec 32 := Scalar.muli v4 c1_i32_2067
  let v2208 : BitVec 32 := Scalar.addi c0_i32_2068 v2207
  v2208.toNat
def k0_dev101 (v6 : BitVec 32) : Nat :=
  let c0_i32_2086 : BitVec 32 := 0#32
  let c1_i32_2085 : BitVec 32 := 1#32
  let v2217 : BitVec 32 := Scalar.muli v6 c1_i32_2085
  let v2218 : BitVec 32 := Scalar.addi c0_i32_2086 v2217
  v2218.toNat
def k0_dev102 (v6 : BitVec 32) : Nat :=
  let c0_i32_2124 : BitVec 32 := 0#32
  let c1_i32_2123 : BitVec 32 := 1#32
  let v2269 : BitVec 32 := Scalar.muli v6 c1_i32_2123
  let v2270 : BitVec 32 := Scalar.addi c0_i32_2124 v2269
  v2270.toNat
def k0_dev103 (v6 : BitVec 32) : Nat :=
  let c0_i32_2140 : BitVec 32 := 0#32
  let c1_i32_2139 : BitVec 32 := 1#32
  let v2285 : BitVec 32 := Scalar.muli v6 c1_i32_2139
  let v2286 : BitVec 32 := Scalar.addi c0_i32_2140 v2285
  v2286.toNat
def k0_dev104 (v6 : BitVec 32) : Nat :=
  let c0_i32_2152 : BitVec 32 := 0#32
  let c1_i32_2151 : BitVec 32 := 1#32
  let v2293 : BitVec 32 := Scalar.muli v6 c1_i32_2151
  let v2294 : BitVec 32 := Scalar.addi c0_i32_2152 v2293
  v2294.toNat
def k0_dev105 (v4 : BitVec 32) : Nat :=
  let c0_i32_2169 : BitVec 32 := 0#32
  let c1_i32_2168 : BitVec 32 := 1#32
  let v2303 : BitVec 32 := Scalar.muli v4 c1_i32_2168
  let v2304 : BitVec 32 := Scalar.addi c0_i32_2169 v2303
  v2304.toNat
def k0_dev106 (v4 : BitVec 32) : Nat :=
  let c0_i32_2207 : BitVec 32 := 0#32
  let c1_i32_2206 : BitVec 32 := 1#32
  let v2355 : BitVec 32 := Scalar.muli v4 c1_i32_2206
  let v2356 : BitVec 32 := Scalar.addi c0_i32_2207 v2355
  v2356.toNat
def k0_dev107 (v4 : BitVec 32) : Nat :=
  let c0_i32_2223 : BitVec 32 := 0#32
  let c1_i32_2222 : BitVec 32 := 1#32
  let v2371 : BitVec 32 := Scalar.muli v4 c1_i32_2222
  let v2372 : BitVec 32 := Scalar.addi c0_i32_2223 v2371
  v2372.toNat
def k0_dev108 (v4 : BitVec 32) : Nat :=
  let c0_i32_2235 : BitVec 32 := 0#32
  let c1_i32_2234 : BitVec 32 := 1#32
  let v2379 : BitVec 32 := Scalar.muli v4 c1_i32_2234
  let v2380 : BitVec 32 := Scalar.addi c0_i32_2235 v2379
  v2380.toNat
def k0_dev109 (v6 : BitVec 32) : Nat :=
  let c0_i32_2253 : BitVec 32 := 0#32
  let c1_i32_2252 : BitVec 32 := 1#32
  let v2389 : BitVec 32 := Scalar.muli v6 c1_i32_2252
  let v2390 : BitVec 32 := Scalar.addi c0_i32_2253 v2389
  v2390.toNat
def k0_dev110 (v6 : BitVec 32) : Nat :=
  let c0_i32_2291 : BitVec 32 := 0#32
  let c1_i32_2290 : BitVec 32 := 1#32
  let v2441 : BitVec 32 := Scalar.muli v6 c1_i32_2290
  let v2442 : BitVec 32 := Scalar.addi c0_i32_2291 v2441
  v2442.toNat
def k0_dev111 (v6 : BitVec 32) : Nat :=
  let c0_i32_2307 : BitVec 32 := 0#32
  let c1_i32_2306 : BitVec 32 := 1#32
  let v2457 : BitVec 32 := Scalar.muli v6 c1_i32_2306
  let v2458 : BitVec 32 := Scalar.addi c0_i32_2307 v2457
  v2458.toNat
def k0_dev112 (v6 : BitVec 32) : Nat :=
  let c0_i32_2319 : BitVec 32 := 0#32
  let c1_i32_2318 : BitVec 32 := 1#32
  let v2465 : BitVec 32 := Scalar.muli v6 c1_i32_2318
  let v2466 : BitVec 32 := Scalar.addi c0_i32_2319 v2465
  v2466.toNat
def k0_dev113 (v4 : BitVec 32) : Nat :=
  let c0_i32_2336 : BitVec 32 := 0#32
  let c1_i32_2335 : BitVec 32 := 1#32
  let v2475 : BitVec 32 := Scalar.muli v4 c1_i32_2335
  let v2476 : BitVec 32 := Scalar.addi c0_i32_2336 v2475
  v2476.toNat
def k0_dev114 (v4 : BitVec 32) : Nat :=
  let c0_i32_2374 : BitVec 32 := 0#32
  let c1_i32_2373 : BitVec 32 := 1#32
  let v2527 : BitVec 32 := Scalar.muli v4 c1_i32_2373
  let v2528 : BitVec 32 := Scalar.addi c0_i32_2374 v2527
  v2528.toNat
def k0_dev115 (v4 : BitVec 32) : Nat :=
  let c0_i32_2390 : BitVec 32 := 0#32
  let c1_i32_2389 : BitVec 32 := 1#32
  let v2543 : BitVec 32 := Scalar.muli v4 c1_i32_2389
  let v2544 : BitVec 32 := Scalar.addi c0_i32_2390 v2543
  v2544.toNat
def k0_dev116 (v4 : BitVec 32) : Nat :=
  let c0_i32_2402 : BitVec 32 := 0#32
  let c1_i32_2401 : BitVec 32 := 1#32
  let v2551 : BitVec 32 := Scalar.muli v4 c1_i32_2401
  let v2552 : BitVec 32 := Scalar.addi c0_i32_2402 v2551
  v2552.toNat
def k0_dev117 (v6 : BitVec 32) : Nat :=
  let c0_i32_2420 : BitVec 32 := 0#32
  let c1_i32_2419 : BitVec 32 := 1#32
  let v2561 : BitVec 32 := Scalar.muli v6 c1_i32_2419
  let v2562 : BitVec 32 := Scalar.addi c0_i32_2420 v2561
  v2562.toNat
def k0_dev118 (v6 : BitVec 32) : Nat :=
  let c0_i32_2458 : BitVec 32 := 0#32
  let c1_i32_2457 : BitVec 32 := 1#32
  let v2613 : BitVec 32 := Scalar.muli v6 c1_i32_2457
  let v2614 : BitVec 32 := Scalar.addi c0_i32_2458 v2613
  v2614.toNat
def k0_dev119 (v6 : BitVec 32) : Nat :=
  let c0_i32_2474 : BitVec 32 := 0#32
  let c1_i32_2473 : BitVec 32 := 1#32
  let v2629 : BitVec 32 := Scalar.muli v6 c1_i32_2473
  let v2630 : BitVec 32 := Scalar.addi c0_i32_2474 v2629
  v2630.toNat
def k0_dev120 (v6 : BitVec 32) : Nat :=
  let c0_i32_2486 : BitVec 32 := 0#32
  let c1_i32_2485 : BitVec 32 := 1#32
  let v2637 : BitVec 32 := Scalar.muli v6 c1_i32_2485
  let v2638 : BitVec 32 := Scalar.addi c0_i32_2486 v2637
  v2638.toNat
def k0_dev121 (v4 : BitVec 32) : Nat :=
  let c0_i32_2503 : BitVec 32 := 0#32
  let c1_i32_2502 : BitVec 32 := 1#32
  let v2647 : BitVec 32 := Scalar.muli v4 c1_i32_2502
  let v2648 : BitVec 32 := Scalar.addi c0_i32_2503 v2647
  v2648.toNat
def k0_dev122 (v4 : BitVec 32) : Nat :=
  let c0_i32_2541 : BitVec 32 := 0#32
  let c1_i32_2540 : BitVec 32 := 1#32
  let v2699 : BitVec 32 := Scalar.muli v4 c1_i32_2540
  let v2700 : BitVec 32 := Scalar.addi c0_i32_2541 v2699
  v2700.toNat
def k0_dev123 (v4 : BitVec 32) : Nat :=
  let c0_i32_2557 : BitVec 32 := 0#32
  let c1_i32_2556 : BitVec 32 := 1#32
  let v2715 : BitVec 32 := Scalar.muli v4 c1_i32_2556
  let v2716 : BitVec 32 := Scalar.addi c0_i32_2557 v2715
  v2716.toNat
def k0_dev124 (v4 : BitVec 32) : Nat :=
  let c0_i32_2569 : BitVec 32 := 0#32
  let c1_i32_2568 : BitVec 32 := 1#32
  let v2723 : BitVec 32 := Scalar.muli v4 c1_i32_2568
  let v2724 : BitVec 32 := Scalar.addi c0_i32_2569 v2723
  v2724.toNat
def k0_dev125 (v6 : BitVec 32) : Nat :=
  let c0_i32_2587 : BitVec 32 := 0#32
  let c1_i32_2586 : BitVec 32 := 1#32
  let v2733 : BitVec 32 := Scalar.muli v6 c1_i32_2586
  let v2734 : BitVec 32 := Scalar.addi c0_i32_2587 v2733
  v2734.toNat
def k0_dev126 (v6 : BitVec 32) : Nat :=
  let c0_i32_2625 : BitVec 32 := 0#32
  let c1_i32_2624 : BitVec 32 := 1#32
  let v2785 : BitVec 32 := Scalar.muli v6 c1_i32_2624
  let v2786 : BitVec 32 := Scalar.addi c0_i32_2625 v2785
  v2786.toNat
def k0_dev127 (v6 : BitVec 32) : Nat :=
  let c0_i32_2641 : BitVec 32 := 0#32
  let c1_i32_2640 : BitVec 32 := 1#32
  let v2801 : BitVec 32 := Scalar.muli v6 c1_i32_2640
  let v2802 : BitVec 32 := Scalar.addi c0_i32_2641 v2801
  v2802.toNat
def k0_dev128 (v6 : BitVec 32) : Nat :=
  let c0_i32_2653 : BitVec 32 := 0#32
  let c1_i32_2652 : BitVec 32 := 1#32
  let v2809 : BitVec 32 := Scalar.muli v6 c1_i32_2652
  let v2810 : BitVec 32 := Scalar.addi c0_i32_2653 v2809
  v2810.toNat
def k0_dev129 (v4 : BitVec 32) : Nat :=
  let c0_i32_2670 : BitVec 32 := 0#32
  let c1_i32_2669 : BitVec 32 := 1#32
  let v2819 : BitVec 32 := Scalar.muli v4 c1_i32_2669
  let v2820 : BitVec 32 := Scalar.addi c0_i32_2670 v2819
  v2820.toNat
def k0_dev130 (v4 : BitVec 32) : Nat :=
  let c0_i32_2708 : BitVec 32 := 0#32
  let c1_i32_2707 : BitVec 32 := 1#32
  let v2871 : BitVec 32 := Scalar.muli v4 c1_i32_2707
  let v2872 : BitVec 32 := Scalar.addi c0_i32_2708 v2871
  v2872.toNat
def k0_dev131 (v4 : BitVec 32) : Nat :=
  let c0_i32_2724 : BitVec 32 := 0#32
  let c1_i32_2723 : BitVec 32 := 1#32
  let v2887 : BitVec 32 := Scalar.muli v4 c1_i32_2723
  let v2888 : BitVec 32 := Scalar.addi c0_i32_2724 v2887
  v2888.toNat
def k0_dev132 (v4 : BitVec 32) : Nat :=
  let c0_i32_2736 : BitVec 32 := 0#32
  let c1_i32_2735 : BitVec 32 := 1#32
  let v2895 : BitVec 32 := Scalar.muli v4 c1_i32_2735
  let v2896 : BitVec 32 := Scalar.addi c0_i32_2736 v2895
  v2896.toNat
def k0_dev133 (v6 : BitVec 32) : Nat :=
  let c0_i32_2754 : BitVec 32 := 0#32
  let c1_i32_2753 : BitVec 32 := 1#32
  let v2905 : BitVec 32 := Scalar.muli v6 c1_i32_2753
  let v2906 : BitVec 32 := Scalar.addi c0_i32_2754 v2905
  v2906.toNat
def k0_dev134 (v6 : BitVec 32) : Nat :=
  let c0_i32_2792 : BitVec 32 := 0#32
  let c1_i32_2791 : BitVec 32 := 1#32
  let v2957 : BitVec 32 := Scalar.muli v6 c1_i32_2791
  let v2958 : BitVec 32 := Scalar.addi c0_i32_2792 v2957
  v2958.toNat
def k0_dev135 (v6 : BitVec 32) : Nat :=
  let c0_i32_2808 : BitVec 32 := 0#32
  let c1_i32_2807 : BitVec 32 := 1#32
  let v2973 : BitVec 32 := Scalar.muli v6 c1_i32_2807
  let v2974 : BitVec 32 := Scalar.addi c0_i32_2808 v2973
  v2974.toNat
def k0_dev136 (v6 : BitVec 32) : Nat :=
  let c0_i32_2820 : BitVec 32 := 0#32
  let c1_i32_2819 : BitVec 32 := 1#32
  let v2981 : BitVec 32 := Scalar.muli v6 c1_i32_2819
  let v2982 : BitVec 32 := Scalar.addi c0_i32_2820 v2981
  v2982.toNat
def k0_dev137 (v4 : BitVec 32) : Nat :=
  let c0_i32_2837 : BitVec 32 := 0#32
  let c1_i32_2836 : BitVec 32 := 1#32
  let v2991 : BitVec 32 := Scalar.muli v4 c1_i32_2836
  let v2992 : BitVec 32 := Scalar.addi c0_i32_2837 v2991
  v2992.toNat
def k0_dev138 (v4 : BitVec 32) : Nat :=
  let c0_i32_2875 : BitVec 32 := 0#32
  let c1_i32_2874 : BitVec 32 := 1#32
  let v3043 : BitVec 32 := Scalar.muli v4 c1_i32_2874
  let v3044 : BitVec 32 := Scalar.addi c0_i32_2875 v3043
  v3044.toNat
def k0_dev139 (v4 : BitVec 32) : Nat :=
  let c0_i32_2891 : BitVec 32 := 0#32
  let c1_i32_2890 : BitVec 32 := 1#32
  let v3059 : BitVec 32 := Scalar.muli v4 c1_i32_2890
  let v3060 : BitVec 32 := Scalar.addi c0_i32_2891 v3059
  v3060.toNat
def k0_dev140 (v4 : BitVec 32) : Nat :=
  let c0_i32_2903 : BitVec 32 := 0#32
  let c1_i32_2902 : BitVec 32 := 1#32
  let v3067 : BitVec 32 := Scalar.muli v4 c1_i32_2902
  let v3068 : BitVec 32 := Scalar.addi c0_i32_2903 v3067
  v3068.toNat
def k0_dev141 (v6 : BitVec 32) : Nat :=
  let c0_i32_2921 : BitVec 32 := 0#32
  let c1_i32_2920 : BitVec 32 := 1#32
  let v3077 : BitVec 32 := Scalar.muli v6 c1_i32_2920
  let v3078 : BitVec 32 := Scalar.addi c0_i32_2921 v3077
  v3078.toNat
def k0_dev142 (v6 : BitVec 32) : Nat :=
  let c0_i32_2959 : BitVec 32 := 0#32
  let c1_i32_2958 : BitVec 32 := 1#32
  let v3129 : BitVec 32 := Scalar.muli v6 c1_i32_2958
  let v3130 : BitVec 32 := Scalar.addi c0_i32_2959 v3129
  v3130.toNat
def k0_dev143 (v6 : BitVec 32) : Nat :=
  let c0_i32_2975 : BitVec 32 := 0#32
  let c1_i32_2974 : BitVec 32 := 1#32
  let v3145 : BitVec 32 := Scalar.muli v6 c1_i32_2974
  let v3146 : BitVec 32 := Scalar.addi c0_i32_2975 v3145
  v3146.toNat
def k0_dev144 (v6 : BitVec 32) : Nat :=
  let c0_i32_2987 : BitVec 32 := 0#32
  let c1_i32_2986 : BitVec 32 := 1#32
  let v3153 : BitVec 32 := Scalar.muli v6 c1_i32_2986
  let v3154 : BitVec 32 := Scalar.addi c0_i32_2987 v3153
  v3154.toNat
def k0_dev145 (v4 : BitVec 32) : Nat :=
  let c0_i32_3004 : BitVec 32 := 0#32
  let c1_i32_3003 : BitVec 32 := 1#32
  let v3163 : BitVec 32 := Scalar.muli v4 c1_i32_3003
  let v3164 : BitVec 32 := Scalar.addi c0_i32_3004 v3163
  v3164.toNat
def k0_dev146 (v4 : BitVec 32) : Nat :=
  let c0_i32_3042 : BitVec 32 := 0#32
  let c1_i32_3041 : BitVec 32 := 1#32
  let v3215 : BitVec 32 := Scalar.muli v4 c1_i32_3041
  let v3216 : BitVec 32 := Scalar.addi c0_i32_3042 v3215
  v3216.toNat
def k0_dev147 (v4 : BitVec 32) : Nat :=
  let c0_i32_3058 : BitVec 32 := 0#32
  let c1_i32_3057 : BitVec 32 := 1#32
  let v3231 : BitVec 32 := Scalar.muli v4 c1_i32_3057
  let v3232 : BitVec 32 := Scalar.addi c0_i32_3058 v3231
  v3232.toNat
def k0_dev148 (v4 : BitVec 32) : Nat :=
  let c0_i32_3070 : BitVec 32 := 0#32
  let c1_i32_3069 : BitVec 32 := 1#32
  let v3239 : BitVec 32 := Scalar.muli v4 c1_i32_3069
  let v3240 : BitVec 32 := Scalar.addi c0_i32_3070 v3239
  v3240.toNat
def k0_dev149 (v6 : BitVec 32) : Nat :=
  let c0_i32_3088 : BitVec 32 := 0#32
  let c1_i32_3087 : BitVec 32 := 1#32
  let v3249 : BitVec 32 := Scalar.muli v6 c1_i32_3087
  let v3250 : BitVec 32 := Scalar.addi c0_i32_3088 v3249
  v3250.toNat
def k0_dev150 (v6 : BitVec 32) : Nat :=
  let c0_i32_3126 : BitVec 32 := 0#32
  let c1_i32_3125 : BitVec 32 := 1#32
  let v3301 : BitVec 32 := Scalar.muli v6 c1_i32_3125
  let v3302 : BitVec 32 := Scalar.addi c0_i32_3126 v3301
  v3302.toNat
def k0_dev151 (v6 : BitVec 32) : Nat :=
  let c0_i32_3142 : BitVec 32 := 0#32
  let c1_i32_3141 : BitVec 32 := 1#32
  let v3317 : BitVec 32 := Scalar.muli v6 c1_i32_3141
  let v3318 : BitVec 32 := Scalar.addi c0_i32_3142 v3317
  v3318.toNat
def k0_dev152 (v6 : BitVec 32) : Nat :=
  let c0_i32_3154 : BitVec 32 := 0#32
  let c1_i32_3153 : BitVec 32 := 1#32
  let v3325 : BitVec 32 := Scalar.muli v6 c1_i32_3153
  let v3326 : BitVec 32 := Scalar.addi c0_i32_3154 v3325
  v3326.toNat
def k0_dev153 (v4 : BitVec 32) : Nat :=
  let c0_i32_3171 : BitVec 32 := 0#32
  let c1_i32_3170 : BitVec 32 := 1#32
  let v3335 : BitVec 32 := Scalar.muli v4 c1_i32_3170
  let v3336 : BitVec 32 := Scalar.addi c0_i32_3171 v3335
  v3336.toNat
def k0_dev154 (v4 : BitVec 32) : Nat :=
  let c0_i32_3209 : BitVec 32 := 0#32
  let c1_i32_3208 : BitVec 32 := 1#32
  let v3387 : BitVec 32 := Scalar.muli v4 c1_i32_3208
  let v3388 : BitVec 32 := Scalar.addi c0_i32_3209 v3387
  v3388.toNat
def k0_dev155 (v4 : BitVec 32) : Nat :=
  let c0_i32_3225 : BitVec 32 := 0#32
  let c1_i32_3224 : BitVec 32 := 1#32
  let v3403 : BitVec 32 := Scalar.muli v4 c1_i32_3224
  let v3404 : BitVec 32 := Scalar.addi c0_i32_3225 v3403
  v3404.toNat
def k0_dev156 (v4 : BitVec 32) : Nat :=
  let c0_i32_3237 : BitVec 32 := 0#32
  let c1_i32_3236 : BitVec 32 := 1#32
  let v3411 : BitVec 32 := Scalar.muli v4 c1_i32_3236
  let v3412 : BitVec 32 := Scalar.addi c0_i32_3237 v3411
  v3412.toNat
def k0_dev157 (v6 : BitVec 32) : Nat :=
  let c0_i32_3255 : BitVec 32 := 0#32
  let c1_i32_3254 : BitVec 32 := 1#32
  let v3421 : BitVec 32 := Scalar.muli v6 c1_i32_3254
  let v3422 : BitVec 32 := Scalar.addi c0_i32_3255 v3421
  v3422.toNat
def k0_dev158 (v6 : BitVec 32) : Nat :=
  let c0_i32_3293 : BitVec 32 := 0#32
  let c1_i32_3292 : BitVec 32 := 1#32
  let v3473 : BitVec 32 := Scalar.muli v6 c1_i32_3292
  let v3474 : BitVec 32 := Scalar.addi c0_i32_3293 v3473
  v3474.toNat
def k0_dev159 (v6 : BitVec 32) : Nat :=
  let c0_i32_3309 : BitVec 32 := 0#32
  let c1_i32_3308 : BitVec 32 := 1#32
  let v3489 : BitVec 32 := Scalar.muli v6 c1_i32_3308
  let v3490 : BitVec 32 := Scalar.addi c0_i32_3309 v3489
  v3490.toNat
def k0_dev160 (v6 : BitVec 32) : Nat :=
  let c0_i32_3321 : BitVec 32 := 0#32
  let c1_i32_3320 : BitVec 32 := 1#32
  let v3497 : BitVec 32 := Scalar.muli v6 c1_i32_3320
  let v3498 : BitVec 32 := Scalar.addi c0_i32_3321 v3497
  v3498.toNat
def k0_dev161 (v4 : BitVec 32) : Nat :=
  let c0_i32_3338 : BitVec 32 := 0#32
  let c1_i32_3337 : BitVec 32 := 1#32
  let v3507 : BitVec 32 := Scalar.muli v4 c1_i32_3337
  let v3508 : BitVec 32 := Scalar.addi c0_i32_3338 v3507
  v3508.toNat
def k0_dev162 (v4 : BitVec 32) : Nat :=
  let c0_i32_3376 : BitVec 32 := 0#32
  let c1_i32_3375 : BitVec 32 := 1#32
  let v3559 : BitVec 32 := Scalar.muli v4 c1_i32_3375
  let v3560 : BitVec 32 := Scalar.addi c0_i32_3376 v3559
  v3560.toNat
def k0_dev163 (v4 : BitVec 32) : Nat :=
  let c0_i32_3392 : BitVec 32 := 0#32
  let c1_i32_3391 : BitVec 32 := 1#32
  let v3575 : BitVec 32 := Scalar.muli v4 c1_i32_3391
  let v3576 : BitVec 32 := Scalar.addi c0_i32_3392 v3575
  v3576.toNat
def k0_dev164 (v4 : BitVec 32) : Nat :=
  let c0_i32_3404 : BitVec 32 := 0#32
  let c1_i32_3403 : BitVec 32 := 1#32
  let v3583 : BitVec 32 := Scalar.muli v4 c1_i32_3403
  let v3584 : BitVec 32 := Scalar.addi c0_i32_3404 v3583
  v3584.toNat
def k0_dev165 (v6 : BitVec 32) : Nat :=
  let c0_i32_3422 : BitVec 32 := 0#32
  let c1_i32_3421 : BitVec 32 := 1#32
  let v3593 : BitVec 32 := Scalar.muli v6 c1_i32_3421
  let v3594 : BitVec 32 := Scalar.addi c0_i32_3422 v3593
  v3594.toNat
def k0_dev166 (v6 : BitVec 32) : Nat :=
  let c0_i32_3460 : BitVec 32 := 0#32
  let c1_i32_3459 : BitVec 32 := 1#32
  let v3645 : BitVec 32 := Scalar.muli v6 c1_i32_3459
  let v3646 : BitVec 32 := Scalar.addi c0_i32_3460 v3645
  v3646.toNat
def k0_dev167 (v6 : BitVec 32) : Nat :=
  let c0_i32_3476 : BitVec 32 := 0#32
  let c1_i32_3475 : BitVec 32 := 1#32
  let v3661 : BitVec 32 := Scalar.muli v6 c1_i32_3475
  let v3662 : BitVec 32 := Scalar.addi c0_i32_3476 v3661
  v3662.toNat
def k0_dev168 (v6 : BitVec 32) : Nat :=
  let c0_i32_3488 : BitVec 32 := 0#32
  let c1_i32_3487 : BitVec 32 := 1#32
  let v3669 : BitVec 32 := Scalar.muli v6 c1_i32_3487
  let v3670 : BitVec 32 := Scalar.addi c0_i32_3488 v3669
  v3670.toNat
def k0_dev169 (v4 : BitVec 32) : Nat :=
  let c0_i32_3505 : BitVec 32 := 0#32
  let c1_i32_3504 : BitVec 32 := 1#32
  let v3679 : BitVec 32 := Scalar.muli v4 c1_i32_3504
  let v3680 : BitVec 32 := Scalar.addi c0_i32_3505 v3679
  v3680.toNat
def k0_dev170 (v4 : BitVec 32) : Nat :=
  let c0_i32_3543 : BitVec 32 := 0#32
  let c1_i32_3542 : BitVec 32 := 1#32
  let v3731 : BitVec 32 := Scalar.muli v4 c1_i32_3542
  let v3732 : BitVec 32 := Scalar.addi c0_i32_3543 v3731
  v3732.toNat
def k0_dev171 (v4 : BitVec 32) : Nat :=
  let c0_i32_3559 : BitVec 32 := 0#32
  let c1_i32_3558 : BitVec 32 := 1#32
  let v3747 : BitVec 32 := Scalar.muli v4 c1_i32_3558
  let v3748 : BitVec 32 := Scalar.addi c0_i32_3559 v3747
  v3748.toNat
def k0_dev172 (v4 : BitVec 32) : Nat :=
  let c0_i32_3571 : BitVec 32 := 0#32
  let c1_i32_3570 : BitVec 32 := 1#32
  let v3755 : BitVec 32 := Scalar.muli v4 c1_i32_3570
  let v3756 : BitVec 32 := Scalar.addi c0_i32_3571 v3755
  v3756.toNat
def k0_dev173 (v6 : BitVec 32) : Nat :=
  let c0_i32_3589 : BitVec 32 := 0#32
  let c1_i32_3588 : BitVec 32 := 1#32
  let v3765 : BitVec 32 := Scalar.muli v6 c1_i32_3588
  let v3766 : BitVec 32 := Scalar.addi c0_i32_3589 v3765
  v3766.toNat
def k0_dev174 (v6 : BitVec 32) : Nat :=
  let c0_i32_3627 : BitVec 32 := 0#32
  let c1_i32_3626 : BitVec 32 := 1#32
  let v3817 : BitVec 32 := Scalar.muli v6 c1_i32_3626
  let v3818 : BitVec 32 := Scalar.addi c0_i32_3627 v3817
  v3818.toNat
def k0_dev175 (v6 : BitVec 32) : Nat :=
  let c0_i32_3643 : BitVec 32 := 0#32
  let c1_i32_3642 : BitVec 32 := 1#32
  let v3833 : BitVec 32 := Scalar.muli v6 c1_i32_3642
  let v3834 : BitVec 32 := Scalar.addi c0_i32_3643 v3833
  v3834.toNat
def k0_dev176 (v6 : BitVec 32) : Nat :=
  let c0_i32_3655 : BitVec 32 := 0#32
  let c1_i32_3654 : BitVec 32 := 1#32
  let v3841 : BitVec 32 := Scalar.muli v6 c1_i32_3654
  let v3842 : BitVec 32 := Scalar.addi c0_i32_3655 v3841
  v3842.toNat
def k0_dev177 (v4 : BitVec 32) : Nat :=
  let c0_i32_3672 : BitVec 32 := 0#32
  let c1_i32_3671 : BitVec 32 := 1#32
  let v3851 : BitVec 32 := Scalar.muli v4 c1_i32_3671
  let v3852 : BitVec 32 := Scalar.addi c0_i32_3672 v3851
  v3852.toNat
def k0_dev178 (v4 : BitVec 32) : Nat :=
  let c0_i32_3710 : BitVec 32 := 0#32
  let c1_i32_3709 : BitVec 32 := 1#32
  let v3903 : BitVec 32 := Scalar.muli v4 c1_i32_3709
  let v3904 : BitVec 32 := Scalar.addi c0_i32_3710 v3903
  v3904.toNat
def k0_dev179 (v4 : BitVec 32) : Nat :=
  let c0_i32_3726 : BitVec 32 := 0#32
  let c1_i32_3725 : BitVec 32 := 1#32
  let v3919 : BitVec 32 := Scalar.muli v4 c1_i32_3725
  let v3920 : BitVec 32 := Scalar.addi c0_i32_3726 v3919
  v3920.toNat
def k0_dev180 (v4 : BitVec 32) : Nat :=
  let c0_i32_3738 : BitVec 32 := 0#32
  let c1_i32_3737 : BitVec 32 := 1#32
  let v3927 : BitVec 32 := Scalar.muli v4 c1_i32_3737
  let v3928 : BitVec 32 := Scalar.addi c0_i32_3738 v3927
  v3928.toNat
def k0_dev181 (v6 : BitVec 32) : Nat :=
  let c0_i32_3756 : BitVec 32 := 0#32
  let c1_i32_3755 : BitVec 32 := 1#32
  let v3937 : BitVec 32 := Scalar.muli v6 c1_i32_3755
  let v3938 : BitVec 32 := Scalar.addi c0_i32_3756 v3937
  v3938.toNat
def k0_dev182 (v6 : BitVec 32) : Nat :=
  let c0_i32_3794 : BitVec 32 := 0#32
  let c1_i32_3793 : BitVec 32 := 1#32
  let v3989 : BitVec 32 := Scalar.muli v6 c1_i32_3793
  let v3990 : BitVec 32 := Scalar.addi c0_i32_3794 v3989
  v3990.toNat
def k0_dev183 (v6 : BitVec 32) : Nat :=
  let c0_i32_3810 : BitVec 32 := 0#32
  let c1_i32_3809 : BitVec 32 := 1#32
  let v4005 : BitVec 32 := Scalar.muli v6 c1_i32_3809
  let v4006 : BitVec 32 := Scalar.addi c0_i32_3810 v4005
  v4006.toNat
def k0_dev184 (v6 : BitVec 32) : Nat :=
  let c0_i32_3822 : BitVec 32 := 0#32
  let c1_i32_3821 : BitVec 32 := 1#32
  let v4013 : BitVec 32 := Scalar.muli v6 c1_i32_3821
  let v4014 : BitVec 32 := Scalar.addi c0_i32_3822 v4013
  v4014.toNat
def k0_dev185 (v4 : BitVec 32) : Nat :=
  let c0_i32_3839 : BitVec 32 := 0#32
  let c1_i32_3838 : BitVec 32 := 1#32
  let v4023 : BitVec 32 := Scalar.muli v4 c1_i32_3838
  let v4024 : BitVec 32 := Scalar.addi c0_i32_3839 v4023
  v4024.toNat
def k0_dev186 (v4 : BitVec 32) : Nat :=
  let c0_i32_3877 : BitVec 32 := 0#32
  let c1_i32_3876 : BitVec 32 := 1#32
  let v4075 : BitVec 32 := Scalar.muli v4 c1_i32_3876
  let v4076 : BitVec 32 := Scalar.addi c0_i32_3877 v4075
  v4076.toNat
def k0_dev187 (v4 : BitVec 32) : Nat :=
  let c0_i32_3893 : BitVec 32 := 0#32
  let c1_i32_3892 : BitVec 32 := 1#32
  let v4091 : BitVec 32 := Scalar.muli v4 c1_i32_3892
  let v4092 : BitVec 32 := Scalar.addi c0_i32_3893 v4091
  v4092.toNat
def k0_dev188 (v4 : BitVec 32) : Nat :=
  let c0_i32_3905 : BitVec 32 := 0#32
  let c1_i32_3904 : BitVec 32 := 1#32
  let v4099 : BitVec 32 := Scalar.muli v4 c1_i32_3904
  let v4100 : BitVec 32 := Scalar.addi c0_i32_3905 v4099
  v4100.toNat
def k0_dev189 (v6 : BitVec 32) : Nat :=
  let c0_i32_3923 : BitVec 32 := 0#32
  let c1_i32_3922 : BitVec 32 := 1#32
  let v4109 : BitVec 32 := Scalar.muli v6 c1_i32_3922
  let v4110 : BitVec 32 := Scalar.addi c0_i32_3923 v4109
  v4110.toNat
def k0_dev190 (v6 : BitVec 32) : Nat :=
  let c0_i32_3961 : BitVec 32 := 0#32
  let c1_i32_3960 : BitVec 32 := 1#32
  let v4161 : BitVec 32 := Scalar.muli v6 c1_i32_3960
  let v4162 : BitVec 32 := Scalar.addi c0_i32_3961 v4161
  v4162.toNat
def k0_dev191 (v6 : BitVec 32) : Nat :=
  let c0_i32_3977 : BitVec 32 := 0#32
  let c1_i32_3976 : BitVec 32 := 1#32
  let v4177 : BitVec 32 := Scalar.muli v6 c1_i32_3976
  let v4178 : BitVec 32 := Scalar.addi c0_i32_3977 v4177
  v4178.toNat
def k0_dev192 (v6 : BitVec 32) : Nat :=
  let c0_i32_3989 : BitVec 32 := 0#32
  let c1_i32_3988 : BitVec 32 := 1#32
  let v4185 : BitVec 32 := Scalar.muli v6 c1_i32_3988
  let v4186 : BitVec 32 := Scalar.addi c0_i32_3989 v4185
  v4186.toNat
def k0_dev193 (v4 : BitVec 32) : Nat :=
  let c0_i32_4006 : BitVec 32 := 0#32
  let c1_i32_4005 : BitVec 32 := 1#32
  let v4195 : BitVec 32 := Scalar.muli v4 c1_i32_4005
  let v4196 : BitVec 32 := Scalar.addi c0_i32_4006 v4195
  v4196.toNat
def k0_dev194 (v4 : BitVec 32) : Nat :=
  let c0_i32_4044 : BitVec 32 := 0#32
  let c1_i32_4043 : BitVec 32 := 1#32
  let v4247 : BitVec 32 := Scalar.muli v4 c1_i32_4043
  let v4248 : BitVec 32 := Scalar.addi c0_i32_4044 v4247
  v4248.toNat
def k0_dev195 (v4 : BitVec 32) : Nat :=
  let c0_i32_4060 : BitVec 32 := 0#32
  let c1_i32_4059 : BitVec 32 := 1#32
  let v4263 : BitVec 32 := Scalar.muli v4 c1_i32_4059
  let v4264 : BitVec 32 := Scalar.addi c0_i32_4060 v4263
  v4264.toNat
def k0_dev196 (v4 : BitVec 32) : Nat :=
  let c0_i32_4072 : BitVec 32 := 0#32
  let c1_i32_4071 : BitVec 32 := 1#32
  let v4271 : BitVec 32 := Scalar.muli v4 c1_i32_4071
  let v4272 : BitVec 32 := Scalar.addi c0_i32_4072 v4271
  v4272.toNat
def k0_dev197 (v6 : BitVec 32) : Nat :=
  let c0_i32_4090 : BitVec 32 := 0#32
  let c1_i32_4089 : BitVec 32 := 1#32
  let v4281 : BitVec 32 := Scalar.muli v6 c1_i32_4089
  let v4282 : BitVec 32 := Scalar.addi c0_i32_4090 v4281
  v4282.toNat
def k0_dev198 (v6 : BitVec 32) : Nat :=
  let c0_i32_4128 : BitVec 32 := 0#32
  let c1_i32_4127 : BitVec 32 := 1#32
  let v4333 : BitVec 32 := Scalar.muli v6 c1_i32_4127
  let v4334 : BitVec 32 := Scalar.addi c0_i32_4128 v4333
  v4334.toNat
def k0_dev199 (v6 : BitVec 32) : Nat :=
  let c0_i32_4144 : BitVec 32 := 0#32
  let c1_i32_4143 : BitVec 32 := 1#32
  let v4349 : BitVec 32 := Scalar.muli v6 c1_i32_4143
  let v4350 : BitVec 32 := Scalar.addi c0_i32_4144 v4349
  v4350.toNat
def k0_dev200 (v6 : BitVec 32) : Nat :=
  let c0_i32_4156 : BitVec 32 := 0#32
  let c1_i32_4155 : BitVec 32 := 1#32
  let v4357 : BitVec 32 := Scalar.muli v6 c1_i32_4155
  let v4358 : BitVec 32 := Scalar.addi c0_i32_4156 v4357
  v4358.toNat
def k0_dev201 (v4 : BitVec 32) : Nat :=
  let c0_i32_4173 : BitVec 32 := 0#32
  let c1_i32_4172 : BitVec 32 := 1#32
  let v4367 : BitVec 32 := Scalar.muli v4 c1_i32_4172
  let v4368 : BitVec 32 := Scalar.addi c0_i32_4173 v4367
  v4368.toNat
def k0_dev202 (v4 : BitVec 32) : Nat :=
  let c0_i32_4211 : BitVec 32 := 0#32
  let c1_i32_4210 : BitVec 32 := 1#32
  let v4419 : BitVec 32 := Scalar.muli v4 c1_i32_4210
  let v4420 : BitVec 32 := Scalar.addi c0_i32_4211 v4419
  v4420.toNat
def k0_dev203 (v4 : BitVec 32) : Nat :=
  let c0_i32_4227 : BitVec 32 := 0#32
  let c1_i32_4226 : BitVec 32 := 1#32
  let v4435 : BitVec 32 := Scalar.muli v4 c1_i32_4226
  let v4436 : BitVec 32 := Scalar.addi c0_i32_4227 v4435
  v4436.toNat
def k0_dev204 (v4 : BitVec 32) : Nat :=
  let c0_i32_4239 : BitVec 32 := 0#32
  let c1_i32_4238 : BitVec 32 := 1#32
  let v4443 : BitVec 32 := Scalar.muli v4 c1_i32_4238
  let v4444 : BitVec 32 := Scalar.addi c0_i32_4239 v4443
  v4444.toNat
def k0_dev205 (v6 : BitVec 32) : Nat :=
  let c0_i32_4257 : BitVec 32 := 0#32
  let c1_i32_4256 : BitVec 32 := 1#32
  let v4453 : BitVec 32 := Scalar.muli v6 c1_i32_4256
  let v4454 : BitVec 32 := Scalar.addi c0_i32_4257 v4453
  v4454.toNat
def k0_dev206 (v6 : BitVec 32) : Nat :=
  let c0_i32_4295 : BitVec 32 := 0#32
  let c1_i32_4294 : BitVec 32 := 1#32
  let v4505 : BitVec 32 := Scalar.muli v6 c1_i32_4294
  let v4506 : BitVec 32 := Scalar.addi c0_i32_4295 v4505
  v4506.toNat
def k0_dev207 (v6 : BitVec 32) : Nat :=
  let c0_i32_4311 : BitVec 32 := 0#32
  let c1_i32_4310 : BitVec 32 := 1#32
  let v4521 : BitVec 32 := Scalar.muli v6 c1_i32_4310
  let v4522 : BitVec 32 := Scalar.addi c0_i32_4311 v4521
  v4522.toNat
def k0_dev208 (v6 : BitVec 32) : Nat :=
  let c0_i32_4323 : BitVec 32 := 0#32
  let c1_i32_4322 : BitVec 32 := 1#32
  let v4529 : BitVec 32 := Scalar.muli v6 c1_i32_4322
  let v4530 : BitVec 32 := Scalar.addi c0_i32_4323 v4529
  v4530.toNat
def k0_dev209 (v4 : BitVec 32) : Nat :=
  let c0_i32_4340 : BitVec 32 := 0#32
  let c1_i32_4339 : BitVec 32 := 1#32
  let v4539 : BitVec 32 := Scalar.muli v4 c1_i32_4339
  let v4540 : BitVec 32 := Scalar.addi c0_i32_4340 v4539
  v4540.toNat
def k0_dev210 (v4 : BitVec 32) : Nat :=
  let c0_i32_4378 : BitVec 32 := 0#32
  let c1_i32_4377 : BitVec 32 := 1#32
  let v4591 : BitVec 32 := Scalar.muli v4 c1_i32_4377
  let v4592 : BitVec 32 := Scalar.addi c0_i32_4378 v4591
  v4592.toNat
def k0_dev211 (v4 : BitVec 32) : Nat :=
  let c0_i32_4394 : BitVec 32 := 0#32
  let c1_i32_4393 : BitVec 32 := 1#32
  let v4607 : BitVec 32 := Scalar.muli v4 c1_i32_4393
  let v4608 : BitVec 32 := Scalar.addi c0_i32_4394 v4607
  v4608.toNat
def k0_dev212 (v4 : BitVec 32) : Nat :=
  let c0_i32_4406 : BitVec 32 := 0#32
  let c1_i32_4405 : BitVec 32 := 1#32
  let v4615 : BitVec 32 := Scalar.muli v4 c1_i32_4405
  let v4616 : BitVec 32 := Scalar.addi c0_i32_4406 v4615
  v4616.toNat
def k0_dev213 (v6 : BitVec 32) : Nat :=
  let c0_i32_4424 : BitVec 32 := 0#32
  let c1_i32_4423 : BitVec 32 := 1#32
  let v4625 : BitVec 32 := Scalar.muli v6 c1_i32_4423
  let v4626 : BitVec 32 := Scalar.addi c0_i32_4424 v4625
  v4626.toNat
def k0_dev214 (v6 : BitVec 32) : Nat :=
  let c0_i32_4462 : BitVec 32 := 0#32
  let c1_i32_4461 : BitVec 32 := 1#32
  let v4677 : BitVec 32 := Scalar.muli v6 c1_i32_4461
  let v4678 : BitVec 32 := Scalar.addi c0_i32_4462 v4677
  v4678.toNat
def k0_dev215 (v6 : BitVec 32) : Nat :=
  let c0_i32_4478 : BitVec 32 := 0#32
  let c1_i32_4477 : BitVec 32 := 1#32
  let v4693 : BitVec 32 := Scalar.muli v6 c1_i32_4477
  let v4694 : BitVec 32 := Scalar.addi c0_i32_4478 v4693
  v4694.toNat
def k0_dev216 (v6 : BitVec 32) : Nat :=
  let c0_i32_4490 : BitVec 32 := 0#32
  let c1_i32_4489 : BitVec 32 := 1#32
  let v4701 : BitVec 32 := Scalar.muli v6 c1_i32_4489
  let v4702 : BitVec 32 := Scalar.addi c0_i32_4490 v4701
  v4702.toNat
def k0_dev217 (v4 : BitVec 32) : Nat :=
  let c0_i32_4507 : BitVec 32 := 0#32
  let c1_i32_4506 : BitVec 32 := 1#32
  let v4711 : BitVec 32 := Scalar.muli v4 c1_i32_4506
  let v4712 : BitVec 32 := Scalar.addi c0_i32_4507 v4711
  v4712.toNat
def k0_dev218 (v4 : BitVec 32) : Nat :=
  let c0_i32_4545 : BitVec 32 := 0#32
  let c1_i32_4544 : BitVec 32 := 1#32
  let v4763 : BitVec 32 := Scalar.muli v4 c1_i32_4544
  let v4764 : BitVec 32 := Scalar.addi c0_i32_4545 v4763
  v4764.toNat
def k0_dev219 (v4 : BitVec 32) : Nat :=
  let c0_i32_4561 : BitVec 32 := 0#32
  let c1_i32_4560 : BitVec 32 := 1#32
  let v4779 : BitVec 32 := Scalar.muli v4 c1_i32_4560
  let v4780 : BitVec 32 := Scalar.addi c0_i32_4561 v4779
  v4780.toNat
def k0_dev220 (v4 : BitVec 32) : Nat :=
  let c0_i32_4573 : BitVec 32 := 0#32
  let c1_i32_4572 : BitVec 32 := 1#32
  let v4787 : BitVec 32 := Scalar.muli v4 c1_i32_4572
  let v4788 : BitVec 32 := Scalar.addi c0_i32_4573 v4787
  v4788.toNat
def k0_dev221 (v6 : BitVec 32) : Nat :=
  let c0_i32_4591 : BitVec 32 := 0#32
  let c1_i32_4590 : BitVec 32 := 1#32
  let v4797 : BitVec 32 := Scalar.muli v6 c1_i32_4590
  let v4798 : BitVec 32 := Scalar.addi c0_i32_4591 v4797
  v4798.toNat
def k0_dev222 (v6 : BitVec 32) : Nat :=
  let c0_i32_4629 : BitVec 32 := 0#32
  let c1_i32_4628 : BitVec 32 := 1#32
  let v4849 : BitVec 32 := Scalar.muli v6 c1_i32_4628
  let v4850 : BitVec 32 := Scalar.addi c0_i32_4629 v4849
  v4850.toNat
def k0_dev223 (v6 : BitVec 32) : Nat :=
  let c0_i32_4645 : BitVec 32 := 0#32
  let c1_i32_4644 : BitVec 32 := 1#32
  let v4865 : BitVec 32 := Scalar.muli v6 c1_i32_4644
  let v4866 : BitVec 32 := Scalar.addi c0_i32_4645 v4865
  v4866.toNat
def k0_dev224 (v6 : BitVec 32) : Nat :=
  let c0_i32_4657 : BitVec 32 := 0#32
  let c1_i32_4656 : BitVec 32 := 1#32
  let v4873 : BitVec 32 := Scalar.muli v6 c1_i32_4656
  let v4874 : BitVec 32 := Scalar.addi c0_i32_4657 v4873
  v4874.toNat
def k0_dev225 (v4 : BitVec 32) : Nat :=
  let c0_i32_4674 : BitVec 32 := 0#32
  let c1_i32_4673 : BitVec 32 := 1#32
  let v4883 : BitVec 32 := Scalar.muli v4 c1_i32_4673
  let v4884 : BitVec 32 := Scalar.addi c0_i32_4674 v4883
  v4884.toNat
def k0_dev226 (v4 : BitVec 32) : Nat :=
  let c0_i32_4712 : BitVec 32 := 0#32
  let c1_i32_4711 : BitVec 32 := 1#32
  let v4935 : BitVec 32 := Scalar.muli v4 c1_i32_4711
  let v4936 : BitVec 32 := Scalar.addi c0_i32_4712 v4935
  v4936.toNat
def k0_dev227 (v4 : BitVec 32) : Nat :=
  let c0_i32_4728 : BitVec 32 := 0#32
  let c1_i32_4727 : BitVec 32 := 1#32
  let v4951 : BitVec 32 := Scalar.muli v4 c1_i32_4727
  let v4952 : BitVec 32 := Scalar.addi c0_i32_4728 v4951
  v4952.toNat
def k0_dev228 (v4 : BitVec 32) : Nat :=
  let c0_i32_4740 : BitVec 32 := 0#32
  let c1_i32_4739 : BitVec 32 := 1#32
  let v4959 : BitVec 32 := Scalar.muli v4 c1_i32_4739
  let v4960 : BitVec 32 := Scalar.addi c0_i32_4740 v4959
  v4960.toNat
def k0_dev229 (v6 : BitVec 32) : Nat :=
  let c0_i32_4758 : BitVec 32 := 0#32
  let c1_i32_4757 : BitVec 32 := 1#32
  let v4969 : BitVec 32 := Scalar.muli v6 c1_i32_4757
  let v4970 : BitVec 32 := Scalar.addi c0_i32_4758 v4969
  v4970.toNat
def k0_dev230 (v6 : BitVec 32) : Nat :=
  let c0_i32_4796 : BitVec 32 := 0#32
  let c1_i32_4795 : BitVec 32 := 1#32
  let v5021 : BitVec 32 := Scalar.muli v6 c1_i32_4795
  let v5022 : BitVec 32 := Scalar.addi c0_i32_4796 v5021
  v5022.toNat
def k0_dev231 (v6 : BitVec 32) : Nat :=
  let c0_i32_4812 : BitVec 32 := 0#32
  let c1_i32_4811 : BitVec 32 := 1#32
  let v5037 : BitVec 32 := Scalar.muli v6 c1_i32_4811
  let v5038 : BitVec 32 := Scalar.addi c0_i32_4812 v5037
  v5038.toNat
def k0_dev232 (v6 : BitVec 32) : Nat :=
  let c0_i32_4824 : BitVec 32 := 0#32
  let c1_i32_4823 : BitVec 32 := 1#32
  let v5045 : BitVec 32 := Scalar.muli v6 c1_i32_4823
  let v5046 : BitVec 32 := Scalar.addi c0_i32_4824 v5045
  v5046.toNat
def k0_dev233 (v4 : BitVec 32) : Nat :=
  let c0_i32_4841 : BitVec 32 := 0#32
  let c1_i32_4840 : BitVec 32 := 1#32
  let v5055 : BitVec 32 := Scalar.muli v4 c1_i32_4840
  let v5056 : BitVec 32 := Scalar.addi c0_i32_4841 v5055
  v5056.toNat
def k0_dev234 (v4 : BitVec 32) : Nat :=
  let c0_i32_4879 : BitVec 32 := 0#32
  let c1_i32_4878 : BitVec 32 := 1#32
  let v5107 : BitVec 32 := Scalar.muli v4 c1_i32_4878
  let v5108 : BitVec 32 := Scalar.addi c0_i32_4879 v5107
  v5108.toNat
def k0_dev235 (v4 : BitVec 32) : Nat :=
  let c0_i32_4895 : BitVec 32 := 0#32
  let c1_i32_4894 : BitVec 32 := 1#32
  let v5123 : BitVec 32 := Scalar.muli v4 c1_i32_4894
  let v5124 : BitVec 32 := Scalar.addi c0_i32_4895 v5123
  v5124.toNat
def k0_dev236 (v4 : BitVec 32) : Nat :=
  let c0_i32_4907 : BitVec 32 := 0#32
  let c1_i32_4906 : BitVec 32 := 1#32
  let v5131 : BitVec 32 := Scalar.muli v4 c1_i32_4906
  let v5132 : BitVec 32 := Scalar.addi c0_i32_4907 v5131
  v5132.toNat
def k0_dev237 (v6 : BitVec 32) : Nat :=
  let c0_i32_4925 : BitVec 32 := 0#32
  let c1_i32_4924 : BitVec 32 := 1#32
  let v5141 : BitVec 32 := Scalar.muli v6 c1_i32_4924
  let v5142 : BitVec 32 := Scalar.addi c0_i32_4925 v5141
  v5142.toNat
def k0_dev238 (v6 : BitVec 32) : Nat :=
  let c0_i32_4963 : BitVec 32 := 0#32
  let c1_i32_4962 : BitVec 32 := 1#32
  let v5193 : BitVec 32 := Scalar.muli v6 c1_i32_4962
  let v5194 : BitVec 32 := Scalar.addi c0_i32_4963 v5193
  v5194.toNat
def k0_dev239 (v6 : BitVec 32) : Nat :=
  let c0_i32_4979 : BitVec 32 := 0#32
  let c1_i32_4978 : BitVec 32 := 1#32
  let v5209 : BitVec 32 := Scalar.muli v6 c1_i32_4978
  let v5210 : BitVec 32 := Scalar.addi c0_i32_4979 v5209
  v5210.toNat
def k0_dev240 (v6 : BitVec 32) : Nat :=
  let c0_i32_4991 : BitVec 32 := 0#32
  let c1_i32_4990 : BitVec 32 := 1#32
  let v5217 : BitVec 32 := Scalar.muli v6 c1_i32_4990
  let v5218 : BitVec 32 := Scalar.addi c0_i32_4991 v5217
  v5218.toNat
def k0_dev241 (v4 : BitVec 32) : Nat :=
  let c0_i32_5008 : BitVec 32 := 0#32
  let c1_i32_5007 : BitVec 32 := 1#32
  let v5227 : BitVec 32 := Scalar.muli v4 c1_i32_5007
  let v5228 : BitVec 32 := Scalar.addi c0_i32_5008 v5227
  v5228.toNat
def k0_dev242 (v4 : BitVec 32) : Nat :=
  let c0_i32_5046 : BitVec 32 := 0#32
  let c1_i32_5045 : BitVec 32 := 1#32
  let v5279 : BitVec 32 := Scalar.muli v4 c1_i32_5045
  let v5280 : BitVec 32 := Scalar.addi c0_i32_5046 v5279
  v5280.toNat
def k0_dev243 (v4 : BitVec 32) : Nat :=
  let c0_i32_5062 : BitVec 32 := 0#32
  let c1_i32_5061 : BitVec 32 := 1#32
  let v5295 : BitVec 32 := Scalar.muli v4 c1_i32_5061
  let v5296 : BitVec 32 := Scalar.addi c0_i32_5062 v5295
  v5296.toNat
def k0_dev244 (v4 : BitVec 32) : Nat :=
  let c0_i32_5074 : BitVec 32 := 0#32
  let c1_i32_5073 : BitVec 32 := 1#32
  let v5303 : BitVec 32 := Scalar.muli v4 c1_i32_5073
  let v5304 : BitVec 32 := Scalar.addi c0_i32_5074 v5303
  v5304.toNat
def k0_dev245 (v6 : BitVec 32) : Nat :=
  let c0_i32_5092 : BitVec 32 := 0#32
  let c1_i32_5091 : BitVec 32 := 1#32
  let v5313 : BitVec 32 := Scalar.muli v6 c1_i32_5091
  let v5314 : BitVec 32 := Scalar.addi c0_i32_5092 v5313
  v5314.toNat
def k0_dev246 (v6 : BitVec 32) : Nat :=
  let c0_i32_5130 : BitVec 32 := 0#32
  let c1_i32_5129 : BitVec 32 := 1#32
  let v5365 : BitVec 32 := Scalar.muli v6 c1_i32_5129
  let v5366 : BitVec 32 := Scalar.addi c0_i32_5130 v5365
  v5366.toNat
def k0_dev247 (v6 : BitVec 32) : Nat :=
  let c0_i32_5155 : BitVec 32 := 0#32
  let c1_i32_5154 : BitVec 32 := 1#32
  let v5387 : BitVec 32 := Scalar.muli v6 c1_i32_5154
  let v5388 : BitVec 32 := Scalar.addi c0_i32_5155 v5387
  v5388.toNat
def k0_dev248 (v4 : BitVec 32) : Nat :=
  let c0_i32_5198 : BitVec 32 := 0#32
  let c1_i32_5197 : BitVec 32 := 1#32
  let v5439 : BitVec 32 := Scalar.muli v4 c1_i32_5197
  let v5440 : BitVec 32 := Scalar.addi c0_i32_5198 v5439
  v5440.toNat
def k0_dev249 (v4 : BitVec 32) : Nat :=
  let c0_i32_5223 : BitVec 32 := 0#32
  let c1_i32_5222 : BitVec 32 := 1#32
  let v5461 : BitVec 32 := Scalar.muli v4 c1_i32_5222
  let v5462 : BitVec 32 := Scalar.addi c0_i32_5223 v5461
  v5462.toNat

def k0_chk2_0 (v4 : BitVec 32) : Prop :=
  ((k0_dev2 v4) < nD) ∧
  ((k0_dev3 v4) < nD) ∧
  ((k0_dev4 v4) < nD) ∧
  ((k0_dev9 v4) < nD) ∧
  ((k0_dev10 v4) < nD) ∧
  ((k0_dev11 v4) < nD) ∧
  ((k0_dev12 v4) < nD) ∧
  ((k0_dev17 v4) < nD) ∧
  ((k0_dev18 v4) < nD) ∧
  ((k0_dev19 v4) < nD) ∧
  ((k0_dev20 v4) < nD) ∧
  ((k0_dev25 v4) < nD) ∧
  ((k0_dev26 v4) < nD) ∧
  ((k0_dev27 v4) < nD) ∧
  ((k0_dev28 v4) < nD) ∧
  ((k0_dev33 v4) < nD) ∧
  ((k0_dev34 v4) < nD) ∧
  ((k0_dev35 v4) < nD) ∧
  ((k0_dev36 v4) < nD) ∧
  ((k0_dev41 v4) < nD) ∧
  ((k0_dev42 v4) < nD) ∧
  ((k0_dev43 v4) < nD) ∧
  ((k0_dev44 v4) < nD) ∧
  ((k0_dev49 v4) < nD) ∧
  ((k0_dev50 v4) < nD) ∧
  ((k0_dev51 v4) < nD) ∧
  ((k0_dev52 v4) < nD) ∧
  ((k0_dev57 v4) < nD) ∧
  ((k0_dev58 v4) < nD) ∧
  ((k0_dev59 v4) < nD) ∧
  ((k0_dev60 v4) < nD) ∧
  ((k0_dev65 v4) < nD)
def k0_chk2_1 (v4 : BitVec 32) : Prop :=
  ((k0_dev66 v4) < nD) ∧
  ((k0_dev67 v4) < nD) ∧
  ((k0_dev68 v4) < nD) ∧
  ((k0_dev73 v4) < nD) ∧
  ((k0_dev74 v4) < nD) ∧
  ((k0_dev75 v4) < nD) ∧
  ((k0_dev76 v4) < nD) ∧
  ((k0_dev81 v4) < nD) ∧
  ((k0_dev82 v4) < nD) ∧
  ((k0_dev83 v4) < nD) ∧
  ((k0_dev84 v4) < nD) ∧
  ((k0_dev89 v4) < nD) ∧
  ((k0_dev90 v4) < nD) ∧
  ((k0_dev91 v4) < nD) ∧
  ((k0_dev92 v4) < nD) ∧
  ((k0_dev97 v4) < nD) ∧
  ((k0_dev98 v4) < nD) ∧
  ((k0_dev99 v4) < nD) ∧
  ((k0_dev100 v4) < nD) ∧
  ((k0_dev105 v4) < nD) ∧
  ((k0_dev106 v4) < nD) ∧
  ((k0_dev107 v4) < nD) ∧
  ((k0_dev108 v4) < nD) ∧
  ((k0_dev113 v4) < nD) ∧
  ((k0_dev114 v4) < nD) ∧
  ((k0_dev115 v4) < nD) ∧
  ((k0_dev116 v4) < nD) ∧
  ((k0_dev121 v4) < nD) ∧
  ((k0_dev122 v4) < nD) ∧
  ((k0_dev123 v4) < nD) ∧
  ((k0_dev124 v4) < nD) ∧
  ((k0_dev129 v4) < nD)
def k0_chk2_2 (v4 : BitVec 32) : Prop :=
  ((k0_dev130 v4) < nD) ∧
  ((k0_dev131 v4) < nD) ∧
  ((k0_dev132 v4) < nD) ∧
  ((k0_dev137 v4) < nD) ∧
  ((k0_dev138 v4) < nD) ∧
  ((k0_dev139 v4) < nD) ∧
  ((k0_dev140 v4) < nD) ∧
  ((k0_dev145 v4) < nD) ∧
  ((k0_dev146 v4) < nD) ∧
  ((k0_dev147 v4) < nD) ∧
  ((k0_dev148 v4) < nD) ∧
  ((k0_dev153 v4) < nD) ∧
  ((k0_dev154 v4) < nD) ∧
  ((k0_dev155 v4) < nD) ∧
  ((k0_dev156 v4) < nD) ∧
  ((k0_dev161 v4) < nD) ∧
  ((k0_dev162 v4) < nD) ∧
  ((k0_dev163 v4) < nD) ∧
  ((k0_dev164 v4) < nD) ∧
  ((k0_dev169 v4) < nD) ∧
  ((k0_dev170 v4) < nD) ∧
  ((k0_dev171 v4) < nD) ∧
  ((k0_dev172 v4) < nD) ∧
  ((k0_dev177 v4) < nD) ∧
  ((k0_dev178 v4) < nD) ∧
  ((k0_dev179 v4) < nD) ∧
  ((k0_dev180 v4) < nD) ∧
  ((k0_dev185 v4) < nD) ∧
  ((k0_dev186 v4) < nD) ∧
  ((k0_dev187 v4) < nD) ∧
  ((k0_dev188 v4) < nD) ∧
  ((k0_dev193 v4) < nD)
def k0_chk2_3 (v4 : BitVec 32) : Prop :=
  ((k0_dev194 v4) < nD) ∧
  ((k0_dev195 v4) < nD) ∧
  ((k0_dev196 v4) < nD) ∧
  ((k0_dev201 v4) < nD) ∧
  ((k0_dev202 v4) < nD) ∧
  ((k0_dev203 v4) < nD) ∧
  ((k0_dev204 v4) < nD) ∧
  ((k0_dev209 v4) < nD) ∧
  ((k0_dev210 v4) < nD) ∧
  ((k0_dev211 v4) < nD) ∧
  ((k0_dev212 v4) < nD) ∧
  ((k0_dev217 v4) < nD) ∧
  ((k0_dev218 v4) < nD) ∧
  ((k0_dev219 v4) < nD) ∧
  ((k0_dev220 v4) < nD) ∧
  ((k0_dev225 v4) < nD) ∧
  ((k0_dev226 v4) < nD) ∧
  ((k0_dev227 v4) < nD) ∧
  ((k0_dev228 v4) < nD) ∧
  ((k0_dev233 v4) < nD) ∧
  ((k0_dev234 v4) < nD) ∧
  ((k0_dev235 v4) < nD) ∧
  ((k0_dev236 v4) < nD) ∧
  ((k0_dev241 v4) < nD) ∧
  ((k0_dev242 v4) < nD) ∧
  ((k0_dev243 v4) < nD) ∧
  ((k0_dev244 v4) < nD) ∧
  ((k0_dev248 v4) < nD) ∧
  ((k0_dev249 v4) < nD)
def k0_chk2 (v4 : BitVec 32) : Prop :=
  k0_chk2_0 v4 ∧
  k0_chk2_1 v4 ∧
  k0_chk2_2 v4 ∧
  k0_chk2_3 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev4_lt : ∀ (v4 : BitVec 32) (k0_hw2 : k0_chk2 v4), (k0_dev4 v4) < nD := fun v4 k0_hw2 => k0_hw2.1.2.2.1
theorem k0_dev9_lt : ∀ (v4 : BitVec 32) (k0_hw2 : k0_chk2 v4), (k0_dev9 v4) < nD := fun v4 k0_hw2 => k0_hw2.1.2.2.2.1
theorem k0_dev10_lt : ∀ (v4 : BitVec 32) (k0_hw2 : k0_chk2 v4), (k0_dev10 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev12_lt : ∀ (v4 : BitVec 32) (k0_hw2 : k0_chk2 v4), (k0_dev12 v4) < nD := fun v4 k0_hw2 => k0_hw2.1.2.2.2.2.2.2.1
theorem k0_dev17_lt : ∀ (v4 : BitVec 32) (k0_hw2 : k0_chk2 v4), (k0_dev17 v4) < nD := fun v4 k0_hw2 => k0_hw2.1.2.2.2.2.2.2.2.1
theorem k0_dev18_lt : ∀ (v4 : BitVec 32) (k0_hw2 : k0_chk2 v4), (k0_dev18 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev20_lt : ∀ (v4 : BitVec 32) (k0_hw2 : k0_chk2 v4), (k0_dev20 v4) < nD := fun v4 k0_hw2 => k0_hw2.1.2.2.2.2.2.2.2.2.2.2.1
theorem k0_dev25_lt : ∀ (v4 : BitVec 32) (k0_hw2 : k0_chk2 v4), (k0_dev25 v4) < nD := fun v4 k0_hw2 => k0_hw2.1.2.2.2.2.2.2.2.2.2.2.2.1
theorem k0_dev26_lt : ∀ (v4 : BitVec 32) (k0_hw2 : k0_chk2 v4), (k0_dev26 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev28_lt : ∀ (v4 : BitVec 32) (k0_hw2 : k0_chk2 v4), (k0_dev28 v4) < nD := fun v4 k0_hw2 => k0_hw2.1.2.2.2.2.2.2.2.2.2.2.2.2.2.2.1
theorem k0_dev33_lt : ∀ (v4 : BitVec 32) (k0_hw2 : k0_chk2 v4), (k0_dev33 v4) < nD := fun v4 k0_hw2 => k0_hw2.1.2.2.2.2.2.2.2.2.2.2.2.2.2.2.2.1
theorem k0_dev34_lt : ∀ (v4 : BitVec 32) (k0_hw2 : k0_chk2 v4), (k0_dev34 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev36_lt : ∀ (v4 : BitVec 32) (k0_hw2 : k0_chk2 v4), (k0_dev36 v4) < nD := fun v4 k0_hw2 => k0_hw2.1.2.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.2.1
theorem k0_dev42_lt : ∀ (v4 : BitVec 32) (k0_hw2 : k0_chk2 v4), (k0_dev42 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.2.1
theorem k0_dev49_lt : ∀ (v4 : BitVec 32) (k0_hw2 : k0_chk2 v4), (k0_dev49 v4) < nD := fun v4 k0_hw2 => k0_hw2.1.2.2.2.2.2.2.2.2.2.2.2.2.2.2.2.2.2.2.2.2.2.2.2.1
theorem k0_dev50_lt : ∀ (v4 : BitVec 32) (k0_hw2 : k0_chk2 v4), (k0_dev50 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.1.2.2.2.2.2.2.2.2.2.2.2.2.2.2.2.2.2.2.2.2.2.2.2.2.2.2.1
theorem k0_dev57_lt : ∀ (v4 : BitVec 32) (k0_hw2 : k0_chk2 v4), (k0_dev57 v4) < nD := fun v4 k0_hw2 => k0_hw2.1.2.2.2.2.2.2.2.2.2.2.2.2.2.2.2.2.2.2.2.2.2.2.2.2.2.2.2.1
theorem k0_dev58_lt : ∀ (v4 : BitVec 32) (k0_hw2 : k0_chk2 v4), (k0_dev58 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.1.2.2.2.2.2.2.2.2.2.2.2.2.2.2.2.2.2.2.2.2.2.2.2.2.2.2.2.2.2.2.1
theorem k0_dev65_lt : ∀ (v4 : BitVec 32) (k0_hw2 : k0_chk2 v4), (k0_dev65 v4) < nD := fun v4 k0_hw2 => k0_hw2.1.2.2.2.2.2.2.2.2.2.2.2.2.2.2.2.2.2.2.2.2.2.2.2.2.2.2.2.2.2.2.2
theorem k0_dev66_lt : ∀ (v4 : BitVec 32) (k0_hw2 : k0_chk2 v4), (k0_dev66 v4) < nD := fun v4 k0_hw2 => k0_hw2.2.1.1
theorem k0_dev67_lt : ∀ (v4 : BitVec 32) (k0_hw2 : k0_chk2 v4), (k0_dev67 v4) < nD := fun v4 k0_hw2 => k0_hw2.2.1.2.1
theorem k0_dev68_lt : ∀ (v4 : BitVec 32) (k0_hw2 : k0_chk2 v4), (k0_dev68 v4) < nD := fun v4 k0_hw2 => k0_hw2.2.1.2.2.1
theorem k0_dev73_lt : ∀ (v4 : BitVec 32) (k0_hw2 : k0_chk2 v4), (k0_dev73 v4) < nD := fun v4 k0_hw2 => k0_hw2.2.1.2.2.2.1
theorem k0_dev74_lt : ∀ (v4 : BitVec 32) (k0_hw2 : k0_chk2 v4), (k0_dev74 v4) < nD := fun v4 k0_hw2 => k0_hw2.2.1.2.2.2.2.1
theorem k0_dev75_lt : ∀ (v4 : BitVec 32) (k0_hw2 : k0_chk2 v4), (k0_dev75 v4) < nD := fun v4 k0_hw2 => k0_hw2.2.1.2.2.2.2.2.1
theorem k0_dev76_lt : ∀ (v4 : BitVec 32) (k0_hw2 : k0_chk2 v4), (k0_dev76 v4) < nD := fun v4 k0_hw2 => k0_hw2.2.1.2.2.2.2.2.2.1
theorem k0_dev81_lt : ∀ (v4 : BitVec 32) (k0_hw2 : k0_chk2 v4), (k0_dev81 v4) < nD := fun v4 k0_hw2 => k0_hw2.2.1.2.2.2.2.2.2.2.1
theorem k0_dev82_lt : ∀ (v4 : BitVec 32) (k0_hw2 : k0_chk2 v4), (k0_dev82 v4) < nD := fun v4 k0_hw2 => k0_hw2.2.1.2.2.2.2.2.2.2.2.1
theorem k0_dev83_lt : ∀ (v4 : BitVec 32) (k0_hw2 : k0_chk2 v4), (k0_dev83 v4) < nD := fun v4 k0_hw2 => k0_hw2.2.1.2.2.2.2.2.2.2.2.2.1
theorem k0_dev84_lt : ∀ (v4 : BitVec 32) (k0_hw2 : k0_chk2 v4), (k0_dev84 v4) < nD := fun v4 k0_hw2 => k0_hw2.2.1.2.2.2.2.2.2.2.2.2.2.1
theorem k0_dev89_lt : ∀ (v4 : BitVec 32) (k0_hw2 : k0_chk2 v4), (k0_dev89 v4) < nD := fun v4 k0_hw2 => k0_hw2.2.1.2.2.2.2.2.2.2.2.2.2.2.1
theorem k0_dev90_lt : ∀ (v4 : BitVec 32) (k0_hw2 : k0_chk2 v4), (k0_dev90 v4) < nD := fun v4 k0_hw2 => k0_hw2.2.1.2.2.2.2.2.2.2.2.2.2.2.2.1
theorem k0_dev91_lt : ∀ (v4 : BitVec 32) (k0_hw2 : k0_chk2 v4), (k0_dev91 v4) < nD := fun v4 k0_hw2 => k0_hw2.2.1.2.2.2.2.2.2.2.2.2.2.2.2.2.1
theorem k0_dev92_lt : ∀ (v4 : BitVec 32) (k0_hw2 : k0_chk2 v4), (k0_dev92 v4) < nD := fun v4 k0_hw2 => k0_hw2.2.1.2.2.2.2.2.2.2.2.2.2.2.2.2.2.1
theorem k0_dev97_lt : ∀ (v4 : BitVec 32) (k0_hw2 : k0_chk2 v4), (k0_dev97 v4) < nD := fun v4 k0_hw2 => k0_hw2.2.1.2.2.2.2.2.2.2.2.2.2.2.2.2.2.2.1
theorem k0_dev98_lt : ∀ (v4 : BitVec 32) (k0_hw2 : k0_chk2 v4), (k0_dev98 v4) < nD := fun v4 k0_hw2 => k0_hw2.2.1.2.2.2.2.2.2.2.2.2.2.2.2.2.2.2.2.1
theorem k0_dev99_lt : ∀ (v4 : BitVec 32) (k0_hw2 : k0_chk2 v4), (k0_dev99 v4) < nD := fun v4 k0_hw2 => k0_hw2.2.1.2.2.2.2.2.2.2.2.2.2.2.2.2.2.2.2.2.1
theorem k0_dev100_lt : ∀ (v4 : BitVec 32) (k0_hw2 : k0_chk2 v4), (k0_dev100 v4) < nD := fun v4 k0_hw2 => k0_hw2.2.1.2.2.2.2.2.2.2.2.2.2.2.2.2.2.2.2.2.2.1
theorem k0_dev105_lt : ∀ (v4 : BitVec 32) (k0_hw2 : k0_chk2 v4), (k0_dev105 v4) < nD := fun v4 k0_hw2 => k0_hw2.2.1.2.2.2.2.2.2.2.2.2.2.2.2.2.2.2.2.2.2.2.1
theorem k0_dev106_lt : ∀ (v4 : BitVec 32) (k0_hw2 : k0_chk2 v4), (k0_dev106 v4) < nD := fun v4 k0_hw2 => k0_hw2.2.1.2.2.2.2.2.2.2.2.2.2.2.2.2.2.2.2.2.2.2.2.1
theorem k0_dev107_lt : ∀ (v4 : BitVec 32) (k0_hw2 : k0_chk2 v4), (k0_dev107 v4) < nD := fun v4 k0_hw2 => k0_hw2.2.1.2.2.2.2.2.2.2.2.2.2.2.2.2.2.2.2.2.2.2.2.2.1
theorem k0_dev108_lt : ∀ (v4 : BitVec 32) (k0_hw2 : k0_chk2 v4), (k0_dev108 v4) < nD := fun v4 k0_hw2 => k0_hw2.2.1.2.2.2.2.2.2.2.2.2.2.2.2.2.2.2.2.2.2.2.2.2.2.1
theorem k0_dev113_lt : ∀ (v4 : BitVec 32) (k0_hw2 : k0_chk2 v4), (k0_dev113 v4) < nD := fun v4 k0_hw2 => k0_hw2.2.1.2.2.2.2.2.2.2.2.2.2.2.2.2.2.2.2.2.2.2.2.2.2.2.1
theorem k0_dev114_lt : ∀ (v4 : BitVec 32) (k0_hw2 : k0_chk2 v4), (k0_dev114 v4) < nD := fun v4 k0_hw2 => k0_hw2.2.1.2.2.2.2.2.2.2.2.2.2.2.2.2.2.2.2.2.2.2.2.2.2.2.2.1
theorem k0_dev115_lt : ∀ (v4 : BitVec 32) (k0_hw2 : k0_chk2 v4), (k0_dev115 v4) < nD := fun v4 k0_hw2 => k0_hw2.2.1.2.2.2.2.2.2.2.2.2.2.2.2.2.2.2.2.2.2.2.2.2.2.2.2.2.1
theorem k0_dev116_lt : ∀ (v4 : BitVec 32) (k0_hw2 : k0_chk2 v4), (k0_dev116 v4) < nD := fun v4 k0_hw2 => k0_hw2.2.1.2.2.2.2.2.2.2.2.2.2.2.2.2.2.2.2.2.2.2.2.2.2.2.2.2.2.1
theorem k0_dev121_lt : ∀ (v4 : BitVec 32) (k0_hw2 : k0_chk2 v4), (k0_dev121 v4) < nD := fun v4 k0_hw2 => k0_hw2.2.1.2.2.2.2.2.2.2.2.2.2.2.2.2.2.2.2.2.2.2.2.2.2.2.2.2.2.2.1
theorem k0_dev122_lt : ∀ (v4 : BitVec 32) (k0_hw2 : k0_chk2 v4), (k0_dev122 v4) < nD := fun v4 k0_hw2 => k0_hw2.2.1.2.2.2.2.2.2.2.2.2.2.2.2.2.2.2.2.2.2.2.2.2.2.2.2.2.2.2.2.1
theorem k0_dev123_lt : ∀ (v4 : BitVec 32) (k0_hw2 : k0_chk2 v4), (k0_dev123 v4) < nD := fun v4 k0_hw2 => k0_hw2.2.1.2.2.2.2.2.2.2.2.2.2.2.2.2.2.2.2.2.2.2.2.2.2.2.2.2.2.2.2.2.1
theorem k0_dev124_lt : ∀ (v4 : BitVec 32) (k0_hw2 : k0_chk2 v4), (k0_dev124 v4) < nD := fun v4 k0_hw2 => k0_hw2.2.1.2.2.2.2.2.2.2.2.2.2.2.2.2.2.2.2.2.2.2.2.2.2.2.2.2.2.2.2.2.2.1
theorem k0_dev129_lt : ∀ (v4 : BitVec 32) (k0_hw2 : k0_chk2 v4), (k0_dev129 v4) < nD := fun v4 k0_hw2 => k0_hw2.2.1.2.2.2.2.2.2.2.2.2.2.2.2.2.2.2.2.2.2.2.2.2.2.2.2.2.2.2.2.2.2.2
theorem k0_dev130_lt : ∀ (v4 : BitVec 32) (k0_hw2 : k0_chk2 v4), (k0_dev130 v4) < nD := fun v4 k0_hw2 => k0_hw2.2.2.1.1
theorem k0_dev131_lt : ∀ (v4 : BitVec 32) (k0_hw2 : k0_chk2 v4), (k0_dev131 v4) < nD := fun v4 k0_hw2 => k0_hw2.2.2.1.2.1
theorem k0_dev132_lt : ∀ (v4 : BitVec 32) (k0_hw2 : k0_chk2 v4), (k0_dev132 v4) < nD := fun v4 k0_hw2 => k0_hw2.2.2.1.2.2.1
theorem k0_dev137_lt : ∀ (v4 : BitVec 32) (k0_hw2 : k0_chk2 v4), (k0_dev137 v4) < nD := fun v4 k0_hw2 => k0_hw2.2.2.1.2.2.2.1
theorem k0_dev138_lt : ∀ (v4 : BitVec 32) (k0_hw2 : k0_chk2 v4), (k0_dev138 v4) < nD := fun v4 k0_hw2 => k0_hw2.2.2.1.2.2.2.2.1
theorem k0_dev139_lt : ∀ (v4 : BitVec 32) (k0_hw2 : k0_chk2 v4), (k0_dev139 v4) < nD := fun v4 k0_hw2 => k0_hw2.2.2.1.2.2.2.2.2.1
theorem k0_dev140_lt : ∀ (v4 : BitVec 32) (k0_hw2 : k0_chk2 v4), (k0_dev140 v4) < nD := fun v4 k0_hw2 => k0_hw2.2.2.1.2.2.2.2.2.2.1
theorem k0_dev145_lt : ∀ (v4 : BitVec 32) (k0_hw2 : k0_chk2 v4), (k0_dev145 v4) < nD := fun v4 k0_hw2 => k0_hw2.2.2.1.2.2.2.2.2.2.2.1
theorem k0_dev146_lt : ∀ (v4 : BitVec 32) (k0_hw2 : k0_chk2 v4), (k0_dev146 v4) < nD := fun v4 k0_hw2 => k0_hw2.2.2.1.2.2.2.2.2.2.2.2.1
theorem k0_dev147_lt : ∀ (v4 : BitVec 32) (k0_hw2 : k0_chk2 v4), (k0_dev147 v4) < nD := fun v4 k0_hw2 => k0_hw2.2.2.1.2.2.2.2.2.2.2.2.2.1
theorem k0_dev148_lt : ∀ (v4 : BitVec 32) (k0_hw2 : k0_chk2 v4), (k0_dev148 v4) < nD := fun v4 k0_hw2 => k0_hw2.2.2.1.2.2.2.2.2.2.2.2.2.2.1
theorem k0_dev153_lt : ∀ (v4 : BitVec 32) (k0_hw2 : k0_chk2 v4), (k0_dev153 v4) < nD := fun v4 k0_hw2 => k0_hw2.2.2.1.2.2.2.2.2.2.2.2.2.2.2.1
theorem k0_dev154_lt : ∀ (v4 : BitVec 32) (k0_hw2 : k0_chk2 v4), (k0_dev154 v4) < nD := fun v4 k0_hw2 => k0_hw2.2.2.1.2.2.2.2.2.2.2.2.2.2.2.2.1
theorem k0_dev155_lt : ∀ (v4 : BitVec 32) (k0_hw2 : k0_chk2 v4), (k0_dev155 v4) < nD := fun v4 k0_hw2 => k0_hw2.2.2.1.2.2.2.2.2.2.2.2.2.2.2.2.2.1
theorem k0_dev156_lt : ∀ (v4 : BitVec 32) (k0_hw2 : k0_chk2 v4), (k0_dev156 v4) < nD := fun v4 k0_hw2 => k0_hw2.2.2.1.2.2.2.2.2.2.2.2.2.2.2.2.2.2.1
theorem k0_dev161_lt : ∀ (v4 : BitVec 32) (k0_hw2 : k0_chk2 v4), (k0_dev161 v4) < nD := fun v4 k0_hw2 => k0_hw2.2.2.1.2.2.2.2.2.2.2.2.2.2.2.2.2.2.2.1
theorem k0_dev162_lt : ∀ (v4 : BitVec 32) (k0_hw2 : k0_chk2 v4), (k0_dev162 v4) < nD := fun v4 k0_hw2 => k0_hw2.2.2.1.2.2.2.2.2.2.2.2.2.2.2.2.2.2.2.2.1
theorem k0_dev163_lt : ∀ (v4 : BitVec 32) (k0_hw2 : k0_chk2 v4), (k0_dev163 v4) < nD := fun v4 k0_hw2 => k0_hw2.2.2.1.2.2.2.2.2.2.2.2.2.2.2.2.2.2.2.2.2.1
theorem k0_dev164_lt : ∀ (v4 : BitVec 32) (k0_hw2 : k0_chk2 v4), (k0_dev164 v4) < nD := fun v4 k0_hw2 => k0_hw2.2.2.1.2.2.2.2.2.2.2.2.2.2.2.2.2.2.2.2.2.2.1
theorem k0_dev169_lt : ∀ (v4 : BitVec 32) (k0_hw2 : k0_chk2 v4), (k0_dev169 v4) < nD := fun v4 k0_hw2 => k0_hw2.2.2.1.2.2.2.2.2.2.2.2.2.2.2.2.2.2.2.2.2.2.2.1
theorem k0_dev170_lt : ∀ (v4 : BitVec 32) (k0_hw2 : k0_chk2 v4), (k0_dev170 v4) < nD := fun v4 k0_hw2 => k0_hw2.2.2.1.2.2.2.2.2.2.2.2.2.2.2.2.2.2.2.2.2.2.2.2.1
theorem k0_dev171_lt : ∀ (v4 : BitVec 32) (k0_hw2 : k0_chk2 v4), (k0_dev171 v4) < nD := fun v4 k0_hw2 => k0_hw2.2.2.1.2.2.2.2.2.2.2.2.2.2.2.2.2.2.2.2.2.2.2.2.2.1
theorem k0_dev172_lt : ∀ (v4 : BitVec 32) (k0_hw2 : k0_chk2 v4), (k0_dev172 v4) < nD := fun v4 k0_hw2 => k0_hw2.2.2.1.2.2.2.2.2.2.2.2.2.2.2.2.2.2.2.2.2.2.2.2.2.2.1
theorem k0_dev177_lt : ∀ (v4 : BitVec 32) (k0_hw2 : k0_chk2 v4), (k0_dev177 v4) < nD := fun v4 k0_hw2 => k0_hw2.2.2.1.2.2.2.2.2.2.2.2.2.2.2.2.2.2.2.2.2.2.2.2.2.2.2.1
theorem k0_dev178_lt : ∀ (v4 : BitVec 32) (k0_hw2 : k0_chk2 v4), (k0_dev178 v4) < nD := fun v4 k0_hw2 => k0_hw2.2.2.1.2.2.2.2.2.2.2.2.2.2.2.2.2.2.2.2.2.2.2.2.2.2.2.2.1
theorem k0_dev179_lt : ∀ (v4 : BitVec 32) (k0_hw2 : k0_chk2 v4), (k0_dev179 v4) < nD := fun v4 k0_hw2 => k0_hw2.2.2.1.2.2.2.2.2.2.2.2.2.2.2.2.2.2.2.2.2.2.2.2.2.2.2.2.2.1
theorem k0_dev180_lt : ∀ (v4 : BitVec 32) (k0_hw2 : k0_chk2 v4), (k0_dev180 v4) < nD := fun v4 k0_hw2 => k0_hw2.2.2.1.2.2.2.2.2.2.2.2.2.2.2.2.2.2.2.2.2.2.2.2.2.2.2.2.2.2.1
theorem k0_dev185_lt : ∀ (v4 : BitVec 32) (k0_hw2 : k0_chk2 v4), (k0_dev185 v4) < nD := fun v4 k0_hw2 => k0_hw2.2.2.1.2.2.2.2.2.2.2.2.2.2.2.2.2.2.2.2.2.2.2.2.2.2.2.2.2.2.2.1
theorem k0_dev186_lt : ∀ (v4 : BitVec 32) (k0_hw2 : k0_chk2 v4), (k0_dev186 v4) < nD := fun v4 k0_hw2 => k0_hw2.2.2.1.2.2.2.2.2.2.2.2.2.2.2.2.2.2.2.2.2.2.2.2.2.2.2.2.2.2.2.2.1
theorem k0_dev187_lt : ∀ (v4 : BitVec 32) (k0_hw2 : k0_chk2 v4), (k0_dev187 v4) < nD := fun v4 k0_hw2 => k0_hw2.2.2.1.2.2.2.2.2.2.2.2.2.2.2.2.2.2.2.2.2.2.2.2.2.2.2.2.2.2.2.2.2.1
theorem k0_dev188_lt : ∀ (v4 : BitVec 32) (k0_hw2 : k0_chk2 v4), (k0_dev188 v4) < nD := fun v4 k0_hw2 => k0_hw2.2.2.1.2.2.2.2.2.2.2.2.2.2.2.2.2.2.2.2.2.2.2.2.2.2.2.2.2.2.2.2.2.2.1
theorem k0_dev193_lt : ∀ (v4 : BitVec 32) (k0_hw2 : k0_chk2 v4), (k0_dev193 v4) < nD := fun v4 k0_hw2 => k0_hw2.2.2.1.2.2.2.2.2.2.2.2.2.2.2.2.2.2.2.2.2.2.2.2.2.2.2.2.2.2.2.2.2.2.2
theorem k0_dev194_lt : ∀ (v4 : BitVec 32) (k0_hw2 : k0_chk2 v4), (k0_dev194 v4) < nD := fun v4 k0_hw2 => k0_hw2.2.2.2.1
theorem k0_dev195_lt : ∀ (v4 : BitVec 32) (k0_hw2 : k0_chk2 v4), (k0_dev195 v4) < nD := fun v4 k0_hw2 => k0_hw2.2.2.2.2.1
theorem k0_dev196_lt : ∀ (v4 : BitVec 32) (k0_hw2 : k0_chk2 v4), (k0_dev196 v4) < nD := fun v4 k0_hw2 => k0_hw2.2.2.2.2.2.1
theorem k0_dev201_lt : ∀ (v4 : BitVec 32) (k0_hw2 : k0_chk2 v4), (k0_dev201 v4) < nD := fun v4 k0_hw2 => k0_hw2.2.2.2.2.2.2.1
theorem k0_dev202_lt : ∀ (v4 : BitVec 32) (k0_hw2 : k0_chk2 v4), (k0_dev202 v4) < nD := fun v4 k0_hw2 => k0_hw2.2.2.2.2.2.2.2.1
theorem k0_dev203_lt : ∀ (v4 : BitVec 32) (k0_hw2 : k0_chk2 v4), (k0_dev203 v4) < nD := fun v4 k0_hw2 => k0_hw2.2.2.2.2.2.2.2.2.1
theorem k0_dev204_lt : ∀ (v4 : BitVec 32) (k0_hw2 : k0_chk2 v4), (k0_dev204 v4) < nD := fun v4 k0_hw2 => k0_hw2.2.2.2.2.2.2.2.2.2.1
theorem k0_dev209_lt : ∀ (v4 : BitVec 32) (k0_hw2 : k0_chk2 v4), (k0_dev209 v4) < nD := fun v4 k0_hw2 => k0_hw2.2.2.2.2.2.2.2.2.2.2.1
theorem k0_dev210_lt : ∀ (v4 : BitVec 32) (k0_hw2 : k0_chk2 v4), (k0_dev210 v4) < nD := fun v4 k0_hw2 => k0_hw2.2.2.2.2.2.2.2.2.2.2.2.1
theorem k0_dev211_lt : ∀ (v4 : BitVec 32) (k0_hw2 : k0_chk2 v4), (k0_dev211 v4) < nD := fun v4 k0_hw2 => k0_hw2.2.2.2.2.2.2.2.2.2.2.2.2.1
theorem k0_dev212_lt : ∀ (v4 : BitVec 32) (k0_hw2 : k0_chk2 v4), (k0_dev212 v4) < nD := fun v4 k0_hw2 => k0_hw2.2.2.2.2.2.2.2.2.2.2.2.2.2.1
theorem k0_dev217_lt : ∀ (v4 : BitVec 32) (k0_hw2 : k0_chk2 v4), (k0_dev217 v4) < nD := fun v4 k0_hw2 => k0_hw2.2.2.2.2.2.2.2.2.2.2.2.2.2.2.1
theorem k0_dev218_lt : ∀ (v4 : BitVec 32) (k0_hw2 : k0_chk2 v4), (k0_dev218 v4) < nD := fun v4 k0_hw2 => k0_hw2.2.2.2.2.2.2.2.2.2.2.2.2.2.2.2.1
theorem k0_dev219_lt : ∀ (v4 : BitVec 32) (k0_hw2 : k0_chk2 v4), (k0_dev219 v4) < nD := fun v4 k0_hw2 => k0_hw2.2.2.2.2.2.2.2.2.2.2.2.2.2.2.2.2.1
theorem k0_dev220_lt : ∀ (v4 : BitVec 32) (k0_hw2 : k0_chk2 v4), (k0_dev220 v4) < nD := fun v4 k0_hw2 => k0_hw2.2.2.2.2.2.2.2.2.2.2.2.2.2.2.2.2.2.1
theorem k0_dev225_lt : ∀ (v4 : BitVec 32) (k0_hw2 : k0_chk2 v4), (k0_dev225 v4) < nD := fun v4 k0_hw2 => k0_hw2.2.2.2.2.2.2.2.2.2.2.2.2.2.2.2.2.2.2.1
theorem k0_dev226_lt : ∀ (v4 : BitVec 32) (k0_hw2 : k0_chk2 v4), (k0_dev226 v4) < nD := fun v4 k0_hw2 => k0_hw2.2.2.2.2.2.2.2.2.2.2.2.2.2.2.2.2.2.2.2.1
theorem k0_dev227_lt : ∀ (v4 : BitVec 32) (k0_hw2 : k0_chk2 v4), (k0_dev227 v4) < nD := fun v4 k0_hw2 => k0_hw2.2.2.2.2.2.2.2.2.2.2.2.2.2.2.2.2.2.2.2.2.1
theorem k0_dev228_lt : ∀ (v4 : BitVec 32) (k0_hw2 : k0_chk2 v4), (k0_dev228 v4) < nD := fun v4 k0_hw2 => k0_hw2.2.2.2.2.2.2.2.2.2.2.2.2.2.2.2.2.2.2.2.2.2.1
theorem k0_dev233_lt : ∀ (v4 : BitVec 32) (k0_hw2 : k0_chk2 v4), (k0_dev233 v4) < nD := fun v4 k0_hw2 => k0_hw2.2.2.2.2.2.2.2.2.2.2.2.2.2.2.2.2.2.2.2.2.2.2.1
theorem k0_dev234_lt : ∀ (v4 : BitVec 32) (k0_hw2 : k0_chk2 v4), (k0_dev234 v4) < nD := fun v4 k0_hw2 => k0_hw2.2.2.2.2.2.2.2.2.2.2.2.2.2.2.2.2.2.2.2.2.2.2.2.1
theorem k0_dev235_lt : ∀ (v4 : BitVec 32) (k0_hw2 : k0_chk2 v4), (k0_dev235 v4) < nD := fun v4 k0_hw2 => k0_hw2.2.2.2.2.2.2.2.2.2.2.2.2.2.2.2.2.2.2.2.2.2.2.2.2.1
theorem k0_dev236_lt : ∀ (v4 : BitVec 32) (k0_hw2 : k0_chk2 v4), (k0_dev236 v4) < nD := fun v4 k0_hw2 => k0_hw2.2.2.2.2.2.2.2.2.2.2.2.2.2.2.2.2.2.2.2.2.2.2.2.2.2.1
theorem k0_dev241_lt : ∀ (v4 : BitVec 32) (k0_hw2 : k0_chk2 v4), (k0_dev241 v4) < nD := fun v4 k0_hw2 => k0_hw2.2.2.2.2.2.2.2.2.2.2.2.2.2.2.2.2.2.2.2.2.2.2.2.2.2.2.1
theorem k0_dev242_lt : ∀ (v4 : BitVec 32) (k0_hw2 : k0_chk2 v4), (k0_dev242 v4) < nD := fun v4 k0_hw2 => k0_hw2.2.2.2.2.2.2.2.2.2.2.2.2.2.2.2.2.2.2.2.2.2.2.2.2.2.2.2.1
theorem k0_dev243_lt : ∀ (v4 : BitVec 32) (k0_hw2 : k0_chk2 v4), (k0_dev243 v4) < nD := fun v4 k0_hw2 => k0_hw2.2.2.2.2.2.2.2.2.2.2.2.2.2.2.2.2.2.2.2.2.2.2.2.2.2.2.2.2.1
theorem k0_dev244_lt : ∀ (v4 : BitVec 32) (k0_hw2 : k0_chk2 v4), (k0_dev244 v4) < nD := fun v4 k0_hw2 => k0_hw2.2.2.2.2.2.2.2.2.2.2.2.2.2.2.2.2.2.2.2.2.2.2.2.2.2.2.2.2.2.1
theorem k0_dev248_lt : ∀ (v4 : BitVec 32) (k0_hw2 : k0_chk2 v4), (k0_dev248 v4) < nD := fun v4 k0_hw2 => k0_hw2.2.2.2.2.2.2.2.2.2.2.2.2.2.2.2.2.2.2.2.2.2.2.2.2.2.2.2.2.2.2.1
theorem k0_dev249_lt : ∀ (v4 : BitVec 32) (k0_hw2 : k0_chk2 v4), (k0_dev249 v4) < nD := fun v4 k0_hw2 => k0_hw2.2.2.2.2.2.2.2.2.2.2.2.2.2.2.2.2.2.2.2.2.2.2.2.2.2.2.2.2.2.2.2

def k0_dev250 (v6 : BitVec 32) : Nat :=
  let c0_i32_5267 : BitVec 32 := 0#32
  let c1_i32_5266 : BitVec 32 := 1#32
  let v5513 : BitVec 32 := Scalar.muli v6 c1_i32_5266
  let v5514 : BitVec 32 := Scalar.addi c0_i32_5267 v5513
  v5514.toNat

def k0_chk1_0 (v6 : BitVec 32) : Prop :=
  ((k0_dev1 v6) < nD) ∧
  ((k0_dev5 v6) < nD) ∧
  ((k0_dev6 v6) < nD) ∧
  ((k0_dev7 v6) < nD) ∧
  ((k0_dev8 v6) < nD) ∧
  ((k0_dev13 v6) < nD) ∧
  ((k0_dev14 v6) < nD) ∧
  ((k0_dev15 v6) < nD) ∧
  ((k0_dev16 v6) < nD) ∧
  ((k0_dev21 v6) < nD) ∧
  ((k0_dev22 v6) < nD) ∧
  ((k0_dev23 v6) < nD) ∧
  ((k0_dev24 v6) < nD) ∧
  ((k0_dev29 v6) < nD) ∧
  ((k0_dev30 v6) < nD) ∧
  ((k0_dev31 v6) < nD) ∧
  ((k0_dev32 v6) < nD) ∧
  ((k0_dev37 v6) < nD) ∧
  ((k0_dev38 v6) < nD) ∧
  ((k0_dev39 v6) < nD) ∧
  ((k0_dev40 v6) < nD) ∧
  ((k0_dev45 v6) < nD) ∧
  ((k0_dev46 v6) < nD) ∧
  ((k0_dev47 v6) < nD) ∧
  ((k0_dev48 v6) < nD) ∧
  ((k0_dev53 v6) < nD) ∧
  ((k0_dev54 v6) < nD) ∧
  ((k0_dev55 v6) < nD) ∧
  ((k0_dev56 v6) < nD) ∧
  ((k0_dev61 v6) < nD) ∧
  ((k0_dev62 v6) < nD) ∧
  ((k0_dev63 v6) < nD)
def k0_chk1_1 (v6 : BitVec 32) : Prop :=
  ((k0_dev64 v6) < nD) ∧
  ((k0_dev69 v6) < nD) ∧
  ((k0_dev70 v6) < nD) ∧
  ((k0_dev71 v6) < nD) ∧
  ((k0_dev72 v6) < nD) ∧
  ((k0_dev77 v6) < nD) ∧
  ((k0_dev78 v6) < nD) ∧
  ((k0_dev79 v6) < nD) ∧
  ((k0_dev80 v6) < nD) ∧
  ((k0_dev85 v6) < nD) ∧
  ((k0_dev86 v6) < nD) ∧
  ((k0_dev87 v6) < nD) ∧
  ((k0_dev88 v6) < nD) ∧
  ((k0_dev93 v6) < nD) ∧
  ((k0_dev94 v6) < nD) ∧
  ((k0_dev95 v6) < nD) ∧
  ((k0_dev96 v6) < nD) ∧
  ((k0_dev101 v6) < nD) ∧
  ((k0_dev102 v6) < nD) ∧
  ((k0_dev103 v6) < nD) ∧
  ((k0_dev104 v6) < nD) ∧
  ((k0_dev109 v6) < nD) ∧
  ((k0_dev110 v6) < nD) ∧
  ((k0_dev111 v6) < nD) ∧
  ((k0_dev112 v6) < nD) ∧
  ((k0_dev117 v6) < nD) ∧
  ((k0_dev118 v6) < nD) ∧
  ((k0_dev119 v6) < nD) ∧
  ((k0_dev120 v6) < nD) ∧
  ((k0_dev125 v6) < nD) ∧
  ((k0_dev126 v6) < nD) ∧
  ((k0_dev127 v6) < nD)
def k0_chk1_2 (v6 : BitVec 32) : Prop :=
  ((k0_dev128 v6) < nD) ∧
  ((k0_dev133 v6) < nD) ∧
  ((k0_dev134 v6) < nD) ∧
  ((k0_dev135 v6) < nD) ∧
  ((k0_dev136 v6) < nD) ∧
  ((k0_dev141 v6) < nD) ∧
  ((k0_dev142 v6) < nD) ∧
  ((k0_dev143 v6) < nD) ∧
  ((k0_dev144 v6) < nD) ∧
  ((k0_dev149 v6) < nD) ∧
  ((k0_dev150 v6) < nD) ∧
  ((k0_dev151 v6) < nD) ∧
  ((k0_dev152 v6) < nD) ∧
  ((k0_dev157 v6) < nD) ∧
  ((k0_dev158 v6) < nD) ∧
  ((k0_dev159 v6) < nD) ∧
  ((k0_dev160 v6) < nD) ∧
  ((k0_dev165 v6) < nD) ∧
  ((k0_dev166 v6) < nD) ∧
  ((k0_dev167 v6) < nD) ∧
  ((k0_dev168 v6) < nD) ∧
  ((k0_dev173 v6) < nD) ∧
  ((k0_dev174 v6) < nD) ∧
  ((k0_dev175 v6) < nD) ∧
  ((k0_dev176 v6) < nD) ∧
  ((k0_dev181 v6) < nD) ∧
  ((k0_dev182 v6) < nD) ∧
  ((k0_dev183 v6) < nD) ∧
  ((k0_dev184 v6) < nD) ∧
  ((k0_dev189 v6) < nD) ∧
  ((k0_dev190 v6) < nD) ∧
  ((k0_dev191 v6) < nD)
def k0_chk1_3 (v6 : BitVec 32) : Prop :=
  ((k0_dev192 v6) < nD) ∧
  ((k0_dev197 v6) < nD) ∧
  ((k0_dev198 v6) < nD) ∧
  ((k0_dev199 v6) < nD) ∧
  ((k0_dev200 v6) < nD) ∧
  ((k0_dev205 v6) < nD) ∧
  ((k0_dev206 v6) < nD) ∧
  ((k0_dev207 v6) < nD) ∧
  ((k0_dev208 v6) < nD) ∧
  ((k0_dev213 v6) < nD) ∧
  ((k0_dev214 v6) < nD) ∧
  ((k0_dev215 v6) < nD) ∧
  ((k0_dev216 v6) < nD) ∧
  ((k0_dev221 v6) < nD) ∧
  ((k0_dev222 v6) < nD) ∧
  ((k0_dev223 v6) < nD) ∧
  ((k0_dev224 v6) < nD) ∧
  ((k0_dev229 v6) < nD) ∧
  ((k0_dev230 v6) < nD) ∧
  ((k0_dev231 v6) < nD) ∧
  ((k0_dev232 v6) < nD) ∧
  ((k0_dev237 v6) < nD) ∧
  ((k0_dev238 v6) < nD) ∧
  ((k0_dev239 v6) < nD) ∧
  ((k0_dev240 v6) < nD) ∧
  ((k0_dev245 v6) < nD) ∧
  ((k0_dev246 v6) < nD) ∧
  ((k0_dev247 v6) < nD) ∧
  ((k0_dev250 v6) < nD)
def k0_chk1 (v6 : BitVec 32) : Prop :=
  k0_chk1_0 v6 ∧
  k0_chk1_1 v6 ∧
  k0_chk1_2 v6 ∧
  k0_chk1_3 v6
theorem k0_dev1_lt : ∀ (v6 : BitVec 32) (k0_hw1 : k0_chk1 v6), (k0_dev1 v6) < nD := fun v6 k0_hw1 => k0_hw1.1.1
theorem k0_dev5_lt : ∀ (v6 : BitVec 32) (k0_hw1 : k0_chk1 v6), (k0_dev5 v6) < nD := fun v6 k0_hw1 => k0_hw1.1.2.1
theorem k0_dev6_lt : ∀ (v6 : BitVec 32) (k0_hw1 : k0_chk1 v6), (k0_dev6 v6) < nD := fun v6 k0_hw1 => k0_hw1.1.2.2.1
theorem k0_dev7_lt : ∀ (v6 : BitVec 32) (k0_hw1 : k0_chk1 v6), (k0_dev7 v6) < nD := fun v6 k0_hw1 => k0_hw1.1.2.2.2.1
theorem k0_dev8_lt : ∀ (v6 : BitVec 32) (k0_hw1 : k0_chk1 v6), (k0_dev8 v6) < nD := fun v6 k0_hw1 => k0_hw1.1.2.2.2.2.1
theorem k0_dev13_lt : ∀ (v6 : BitVec 32) (k0_hw1 : k0_chk1 v6), (k0_dev13 v6) < nD := fun v6 k0_hw1 => k0_hw1.1.2.2.2.2.2.1
theorem k0_dev14_lt : ∀ (v6 : BitVec 32) (k0_hw1 : k0_chk1 v6), (k0_dev14 v6) < nD := fun v6 k0_hw1 => k0_hw1.1.2.2.2.2.2.2.1
theorem k0_dev15_lt : ∀ (v6 : BitVec 32) (k0_hw1 : k0_chk1 v6), (k0_dev15 v6) < nD := fun v6 k0_hw1 => k0_hw1.1.2.2.2.2.2.2.2.1
theorem k0_dev16_lt : ∀ (v6 : BitVec 32) (k0_hw1 : k0_chk1 v6), (k0_dev16 v6) < nD := fun v6 k0_hw1 => k0_hw1.1.2.2.2.2.2.2.2.2.1
theorem k0_dev21_lt : ∀ (v6 : BitVec 32) (k0_hw1 : k0_chk1 v6), (k0_dev21 v6) < nD := fun v6 k0_hw1 => k0_hw1.1.2.2.2.2.2.2.2.2.2.1
theorem k0_dev22_lt : ∀ (v6 : BitVec 32) (k0_hw1 : k0_chk1 v6), (k0_dev22 v6) < nD := fun v6 k0_hw1 => k0_hw1.1.2.2.2.2.2.2.2.2.2.2.1
theorem k0_dev23_lt : ∀ (v6 : BitVec 32) (k0_hw1 : k0_chk1 v6), (k0_dev23 v6) < nD := fun v6 k0_hw1 => k0_hw1.1.2.2.2.2.2.2.2.2.2.2.2.1
theorem k0_dev24_lt : ∀ (v6 : BitVec 32) (k0_hw1 : k0_chk1 v6), (k0_dev24 v6) < nD := fun v6 k0_hw1 => k0_hw1.1.2.2.2.2.2.2.2.2.2.2.2.2.1
theorem k0_dev29_lt : ∀ (v6 : BitVec 32) (k0_hw1 : k0_chk1 v6), (k0_dev29 v6) < nD := fun v6 k0_hw1 => k0_hw1.1.2.2.2.2.2.2.2.2.2.2.2.2.2.1
theorem k0_dev30_lt : ∀ (v6 : BitVec 32) (k0_hw1 : k0_chk1 v6), (k0_dev30 v6) < nD := fun v6 k0_hw1 => k0_hw1.1.2.2.2.2.2.2.2.2.2.2.2.2.2.2.1
theorem k0_dev31_lt : ∀ (v6 : BitVec 32) (k0_hw1 : k0_chk1 v6), (k0_dev31 v6) < nD := fun v6 k0_hw1 => k0_hw1.1.2.2.2.2.2.2.2.2.2.2.2.2.2.2.2.1
theorem k0_dev32_lt : ∀ (v6 : BitVec 32) (k0_hw1 : k0_chk1 v6), (k0_dev32 v6) < nD := fun v6 k0_hw1 => k0_hw1.1.2.2.2.2.2.2.2.2.2.2.2.2.2.2.2.2.1
theorem k0_dev37_lt : ∀ (v6 : BitVec 32) (k0_hw1 : k0_chk1 v6), (k0_dev37 v6) < nD := fun v6 k0_hw1 => k0_hw1.1.2.2.2.2.2.2.2.2.2.2.2.2.2.2.2.2.2.1
theorem k0_dev38_lt : ∀ (v6 : BitVec 32) (k0_hw1 : k0_chk1 v6), (k0_dev38 v6) < nD := fun v6 k0_hw1 => k0_hw1.1.2.2.2.2.2.2.2.2.2.2.2.2.2.2.2.2.2.2.1
theorem k0_dev39_lt : ∀ (v6 : BitVec 32) (k0_hw1 : k0_chk1 v6), (k0_dev39 v6) < nD := fun v6 k0_hw1 => k0_hw1.1.2.2.2.2.2.2.2.2.2.2.2.2.2.2.2.2.2.2.2.1
theorem k0_dev40_lt : ∀ (v6 : BitVec 32) (k0_hw1 : k0_chk1 v6), (k0_dev40 v6) < nD := fun v6 k0_hw1 => k0_hw1.1.2.2.2.2.2.2.2.2.2.2.2.2.2.2.2.2.2.2.2.2.1
theorem k0_dev45_lt : ∀ (v6 : BitVec 32) (k0_hw1 : k0_chk1 v6), (k0_dev45 v6) < nD := fun v6 k0_hw1 => k0_hw1.1.2.2.2.2.2.2.2.2.2.2.2.2.2.2.2.2.2.2.2.2.2.1
theorem k0_dev46_lt : ∀ (v6 : BitVec 32) (k0_hw1 : k0_chk1 v6), (k0_dev46 v6) < nD := fun v6 k0_hw1 => k0_hw1.1.2.2.2.2.2.2.2.2.2.2.2.2.2.2.2.2.2.2.2.2.2.2.1
theorem k0_dev47_lt : ∀ (v6 : BitVec 32) (k0_hw1 : k0_chk1 v6), (k0_dev47 v6) < nD := fun v6 k0_hw1 => k0_hw1.1.2.2.2.2.2.2.2.2.2.2.2.2.2.2.2.2.2.2.2.2.2.2.2.1
theorem k0_dev48_lt : ∀ (v6 : BitVec 32) (k0_hw1 : k0_chk1 v6), (k0_dev48 v6) < nD := fun v6 k0_hw1 => k0_hw1.1.2.2.2.2.2.2.2.2.2.2.2.2.2.2.2.2.2.2.2.2.2.2.2.2.1
theorem k0_dev53_lt : ∀ (v6 : BitVec 32) (k0_hw1 : k0_chk1 v6), (k0_dev53 v6) < nD := fun v6 k0_hw1 => k0_hw1.1.2.2.2.2.2.2.2.2.2.2.2.2.2.2.2.2.2.2.2.2.2.2.2.2.2.1
theorem k0_dev54_lt : ∀ (v6 : BitVec 32) (k0_hw1 : k0_chk1 v6), (k0_dev54 v6) < nD := fun v6 k0_hw1 => k0_hw1.1.2.2.2.2.2.2.2.2.2.2.2.2.2.2.2.2.2.2.2.2.2.2.2.2.2.2.1
theorem k0_dev55_lt : ∀ (v6 : BitVec 32) (k0_hw1 : k0_chk1 v6), (k0_dev55 v6) < nD := fun v6 k0_hw1 => k0_hw1.1.2.2.2.2.2.2.2.2.2.2.2.2.2.2.2.2.2.2.2.2.2.2.2.2.2.2.2.1
theorem k0_dev56_lt : ∀ (v6 : BitVec 32) (k0_hw1 : k0_chk1 v6), (k0_dev56 v6) < nD := fun v6 k0_hw1 => k0_hw1.1.2.2.2.2.2.2.2.2.2.2.2.2.2.2.2.2.2.2.2.2.2.2.2.2.2.2.2.2.1
theorem k0_dev61_lt : ∀ (v6 : BitVec 32) (k0_hw1 : k0_chk1 v6), (k0_dev61 v6) < nD := fun v6 k0_hw1 => k0_hw1.1.2.2.2.2.2.2.2.2.2.2.2.2.2.2.2.2.2.2.2.2.2.2.2.2.2.2.2.2.2.1
theorem k0_dev62_lt : ∀ (v6 : BitVec 32) (k0_hw1 : k0_chk1 v6), (k0_dev62 v6) < nD := fun v6 k0_hw1 => k0_hw1.1.2.2.2.2.2.2.2.2.2.2.2.2.2.2.2.2.2.2.2.2.2.2.2.2.2.2.2.2.2.2.1
theorem k0_dev63_lt : ∀ (v6 : BitVec 32) (k0_hw1 : k0_chk1 v6), (k0_dev63 v6) < nD := fun v6 k0_hw1 => k0_hw1.1.2.2.2.2.2.2.2.2.2.2.2.2.2.2.2.2.2.2.2.2.2.2.2.2.2.2.2.2.2.2.2
theorem k0_dev64_lt : ∀ (v6 : BitVec 32) (k0_hw1 : k0_chk1 v6), (k0_dev64 v6) < nD := fun v6 k0_hw1 => k0_hw1.2.1.1
theorem k0_dev69_lt : ∀ (v6 : BitVec 32) (k0_hw1 : k0_chk1 v6), (k0_dev69 v6) < nD := fun v6 k0_hw1 => k0_hw1.2.1.2.1
theorem k0_dev70_lt : ∀ (v6 : BitVec 32) (k0_hw1 : k0_chk1 v6), (k0_dev70 v6) < nD := fun v6 k0_hw1 => k0_hw1.2.1.2.2.1
theorem k0_dev71_lt : ∀ (v6 : BitVec 32) (k0_hw1 : k0_chk1 v6), (k0_dev71 v6) < nD := fun v6 k0_hw1 => k0_hw1.2.1.2.2.2.1
theorem k0_dev72_lt : ∀ (v6 : BitVec 32) (k0_hw1 : k0_chk1 v6), (k0_dev72 v6) < nD := fun v6 k0_hw1 => k0_hw1.2.1.2.2.2.2.1
theorem k0_dev77_lt : ∀ (v6 : BitVec 32) (k0_hw1 : k0_chk1 v6), (k0_dev77 v6) < nD := fun v6 k0_hw1 => k0_hw1.2.1.2.2.2.2.2.1
theorem k0_dev78_lt : ∀ (v6 : BitVec 32) (k0_hw1 : k0_chk1 v6), (k0_dev78 v6) < nD := fun v6 k0_hw1 => k0_hw1.2.1.2.2.2.2.2.2.1
theorem k0_dev79_lt : ∀ (v6 : BitVec 32) (k0_hw1 : k0_chk1 v6), (k0_dev79 v6) < nD := fun v6 k0_hw1 => k0_hw1.2.1.2.2.2.2.2.2.2.1
theorem k0_dev80_lt : ∀ (v6 : BitVec 32) (k0_hw1 : k0_chk1 v6), (k0_dev80 v6) < nD := fun v6 k0_hw1 => k0_hw1.2.1.2.2.2.2.2.2.2.2.1
theorem k0_dev85_lt : ∀ (v6 : BitVec 32) (k0_hw1 : k0_chk1 v6), (k0_dev85 v6) < nD := fun v6 k0_hw1 => k0_hw1.2.1.2.2.2.2.2.2.2.2.2.1
theorem k0_dev86_lt : ∀ (v6 : BitVec 32) (k0_hw1 : k0_chk1 v6), (k0_dev86 v6) < nD := fun v6 k0_hw1 => k0_hw1.2.1.2.2.2.2.2.2.2.2.2.2.1
theorem k0_dev87_lt : ∀ (v6 : BitVec 32) (k0_hw1 : k0_chk1 v6), (k0_dev87 v6) < nD := fun v6 k0_hw1 => k0_hw1.2.1.2.2.2.2.2.2.2.2.2.2.2.1
theorem k0_dev88_lt : ∀ (v6 : BitVec 32) (k0_hw1 : k0_chk1 v6), (k0_dev88 v6) < nD := fun v6 k0_hw1 => k0_hw1.2.1.2.2.2.2.2.2.2.2.2.2.2.2.1
theorem k0_dev93_lt : ∀ (v6 : BitVec 32) (k0_hw1 : k0_chk1 v6), (k0_dev93 v6) < nD := fun v6 k0_hw1 => k0_hw1.2.1.2.2.2.2.2.2.2.2.2.2.2.2.2.1
theorem k0_dev94_lt : ∀ (v6 : BitVec 32) (k0_hw1 : k0_chk1 v6), (k0_dev94 v6) < nD := fun v6 k0_hw1 => k0_hw1.2.1.2.2.2.2.2.2.2.2.2.2.2.2.2.2.1
theorem k0_dev95_lt : ∀ (v6 : BitVec 32) (k0_hw1 : k0_chk1 v6), (k0_dev95 v6) < nD := fun v6 k0_hw1 => k0_hw1.2.1.2.2.2.2.2.2.2.2.2.2.2.2.2.2.2.1
theorem k0_dev96_lt : ∀ (v6 : BitVec 32) (k0_hw1 : k0_chk1 v6), (k0_dev96 v6) < nD := fun v6 k0_hw1 => k0_hw1.2.1.2.2.2.2.2.2.2.2.2.2.2.2.2.2.2.2.1
theorem k0_dev101_lt : ∀ (v6 : BitVec 32) (k0_hw1 : k0_chk1 v6), (k0_dev101 v6) < nD := fun v6 k0_hw1 => k0_hw1.2.1.2.2.2.2.2.2.2.2.2.2.2.2.2.2.2.2.2.1
theorem k0_dev102_lt : ∀ (v6 : BitVec 32) (k0_hw1 : k0_chk1 v6), (k0_dev102 v6) < nD := fun v6 k0_hw1 => k0_hw1.2.1.2.2.2.2.2.2.2.2.2.2.2.2.2.2.2.2.2.2.1
theorem k0_dev103_lt : ∀ (v6 : BitVec 32) (k0_hw1 : k0_chk1 v6), (k0_dev103 v6) < nD := fun v6 k0_hw1 => k0_hw1.2.1.2.2.2.2.2.2.2.2.2.2.2.2.2.2.2.2.2.2.2.1
theorem k0_dev104_lt : ∀ (v6 : BitVec 32) (k0_hw1 : k0_chk1 v6), (k0_dev104 v6) < nD := fun v6 k0_hw1 => k0_hw1.2.1.2.2.2.2.2.2.2.2.2.2.2.2.2.2.2.2.2.2.2.2.1
theorem k0_dev109_lt : ∀ (v6 : BitVec 32) (k0_hw1 : k0_chk1 v6), (k0_dev109 v6) < nD := fun v6 k0_hw1 => k0_hw1.2.1.2.2.2.2.2.2.2.2.2.2.2.2.2.2.2.2.2.2.2.2.2.1
theorem k0_dev110_lt : ∀ (v6 : BitVec 32) (k0_hw1 : k0_chk1 v6), (k0_dev110 v6) < nD := fun v6 k0_hw1 => k0_hw1.2.1.2.2.2.2.2.2.2.2.2.2.2.2.2.2.2.2.2.2.2.2.2.2.1
theorem k0_dev111_lt : ∀ (v6 : BitVec 32) (k0_hw1 : k0_chk1 v6), (k0_dev111 v6) < nD := fun v6 k0_hw1 => k0_hw1.2.1.2.2.2.2.2.2.2.2.2.2.2.2.2.2.2.2.2.2.2.2.2.2.2.1
theorem k0_dev112_lt : ∀ (v6 : BitVec 32) (k0_hw1 : k0_chk1 v6), (k0_dev112 v6) < nD := fun v6 k0_hw1 => k0_hw1.2.1.2.2.2.2.2.2.2.2.2.2.2.2.2.2.2.2.2.2.2.2.2.2.2.2.1
theorem k0_dev117_lt : ∀ (v6 : BitVec 32) (k0_hw1 : k0_chk1 v6), (k0_dev117 v6) < nD := fun v6 k0_hw1 => k0_hw1.2.1.2.2.2.2.2.2.2.2.2.2.2.2.2.2.2.2.2.2.2.2.2.2.2.2.2.1
theorem k0_dev118_lt : ∀ (v6 : BitVec 32) (k0_hw1 : k0_chk1 v6), (k0_dev118 v6) < nD := fun v6 k0_hw1 => k0_hw1.2.1.2.2.2.2.2.2.2.2.2.2.2.2.2.2.2.2.2.2.2.2.2.2.2.2.2.2.1
theorem k0_dev119_lt : ∀ (v6 : BitVec 32) (k0_hw1 : k0_chk1 v6), (k0_dev119 v6) < nD := fun v6 k0_hw1 => k0_hw1.2.1.2.2.2.2.2.2.2.2.2.2.2.2.2.2.2.2.2.2.2.2.2.2.2.2.2.2.2.1
theorem k0_dev120_lt : ∀ (v6 : BitVec 32) (k0_hw1 : k0_chk1 v6), (k0_dev120 v6) < nD := fun v6 k0_hw1 => k0_hw1.2.1.2.2.2.2.2.2.2.2.2.2.2.2.2.2.2.2.2.2.2.2.2.2.2.2.2.2.2.2.1
theorem k0_dev125_lt : ∀ (v6 : BitVec 32) (k0_hw1 : k0_chk1 v6), (k0_dev125 v6) < nD := fun v6 k0_hw1 => k0_hw1.2.1.2.2.2.2.2.2.2.2.2.2.2.2.2.2.2.2.2.2.2.2.2.2.2.2.2.2.2.2.2.1
theorem k0_dev126_lt : ∀ (v6 : BitVec 32) (k0_hw1 : k0_chk1 v6), (k0_dev126 v6) < nD := fun v6 k0_hw1 => k0_hw1.2.1.2.2.2.2.2.2.2.2.2.2.2.2.2.2.2.2.2.2.2.2.2.2.2.2.2.2.2.2.2.2.1
theorem k0_dev127_lt : ∀ (v6 : BitVec 32) (k0_hw1 : k0_chk1 v6), (k0_dev127 v6) < nD := fun v6 k0_hw1 => k0_hw1.2.1.2.2.2.2.2.2.2.2.2.2.2.2.2.2.2.2.2.2.2.2.2.2.2.2.2.2.2.2.2.2.2
theorem k0_dev128_lt : ∀ (v6 : BitVec 32) (k0_hw1 : k0_chk1 v6), (k0_dev128 v6) < nD := fun v6 k0_hw1 => k0_hw1.2.2.1.1
theorem k0_dev133_lt : ∀ (v6 : BitVec 32) (k0_hw1 : k0_chk1 v6), (k0_dev133 v6) < nD := fun v6 k0_hw1 => k0_hw1.2.2.1.2.1
theorem k0_dev134_lt : ∀ (v6 : BitVec 32) (k0_hw1 : k0_chk1 v6), (k0_dev134 v6) < nD := fun v6 k0_hw1 => k0_hw1.2.2.1.2.2.1
theorem k0_dev135_lt : ∀ (v6 : BitVec 32) (k0_hw1 : k0_chk1 v6), (k0_dev135 v6) < nD := fun v6 k0_hw1 => k0_hw1.2.2.1.2.2.2.1
theorem k0_dev136_lt : ∀ (v6 : BitVec 32) (k0_hw1 : k0_chk1 v6), (k0_dev136 v6) < nD := fun v6 k0_hw1 => k0_hw1.2.2.1.2.2.2.2.1
theorem k0_dev141_lt : ∀ (v6 : BitVec 32) (k0_hw1 : k0_chk1 v6), (k0_dev141 v6) < nD := fun v6 k0_hw1 => k0_hw1.2.2.1.2.2.2.2.2.1
theorem k0_dev142_lt : ∀ (v6 : BitVec 32) (k0_hw1 : k0_chk1 v6), (k0_dev142 v6) < nD := fun v6 k0_hw1 => k0_hw1.2.2.1.2.2.2.2.2.2.1
theorem k0_dev143_lt : ∀ (v6 : BitVec 32) (k0_hw1 : k0_chk1 v6), (k0_dev143 v6) < nD := fun v6 k0_hw1 => k0_hw1.2.2.1.2.2.2.2.2.2.2.1
theorem k0_dev144_lt : ∀ (v6 : BitVec 32) (k0_hw1 : k0_chk1 v6), (k0_dev144 v6) < nD := fun v6 k0_hw1 => k0_hw1.2.2.1.2.2.2.2.2.2.2.2.1
theorem k0_dev149_lt : ∀ (v6 : BitVec 32) (k0_hw1 : k0_chk1 v6), (k0_dev149 v6) < nD := fun v6 k0_hw1 => k0_hw1.2.2.1.2.2.2.2.2.2.2.2.2.1
theorem k0_dev150_lt : ∀ (v6 : BitVec 32) (k0_hw1 : k0_chk1 v6), (k0_dev150 v6) < nD := fun v6 k0_hw1 => k0_hw1.2.2.1.2.2.2.2.2.2.2.2.2.2.1
theorem k0_dev151_lt : ∀ (v6 : BitVec 32) (k0_hw1 : k0_chk1 v6), (k0_dev151 v6) < nD := fun v6 k0_hw1 => k0_hw1.2.2.1.2.2.2.2.2.2.2.2.2.2.2.1
theorem k0_dev152_lt : ∀ (v6 : BitVec 32) (k0_hw1 : k0_chk1 v6), (k0_dev152 v6) < nD := fun v6 k0_hw1 => k0_hw1.2.2.1.2.2.2.2.2.2.2.2.2.2.2.2.1
theorem k0_dev157_lt : ∀ (v6 : BitVec 32) (k0_hw1 : k0_chk1 v6), (k0_dev157 v6) < nD := fun v6 k0_hw1 => k0_hw1.2.2.1.2.2.2.2.2.2.2.2.2.2.2.2.2.1
theorem k0_dev158_lt : ∀ (v6 : BitVec 32) (k0_hw1 : k0_chk1 v6), (k0_dev158 v6) < nD := fun v6 k0_hw1 => k0_hw1.2.2.1.2.2.2.2.2.2.2.2.2.2.2.2.2.2.1
theorem k0_dev159_lt : ∀ (v6 : BitVec 32) (k0_hw1 : k0_chk1 v6), (k0_dev159 v6) < nD := fun v6 k0_hw1 => k0_hw1.2.2.1.2.2.2.2.2.2.2.2.2.2.2.2.2.2.2.1
theorem k0_dev160_lt : ∀ (v6 : BitVec 32) (k0_hw1 : k0_chk1 v6), (k0_dev160 v6) < nD := fun v6 k0_hw1 => k0_hw1.2.2.1.2.2.2.2.2.2.2.2.2.2.2.2.2.2.2.2.1
theorem k0_dev165_lt : ∀ (v6 : BitVec 32) (k0_hw1 : k0_chk1 v6), (k0_dev165 v6) < nD := fun v6 k0_hw1 => k0_hw1.2.2.1.2.2.2.2.2.2.2.2.2.2.2.2.2.2.2.2.2.1
theorem k0_dev166_lt : ∀ (v6 : BitVec 32) (k0_hw1 : k0_chk1 v6), (k0_dev166 v6) < nD := fun v6 k0_hw1 => k0_hw1.2.2.1.2.2.2.2.2.2.2.2.2.2.2.2.2.2.2.2.2.2.1
theorem k0_dev167_lt : ∀ (v6 : BitVec 32) (k0_hw1 : k0_chk1 v6), (k0_dev167 v6) < nD := fun v6 k0_hw1 => k0_hw1.2.2.1.2.2.2.2.2.2.2.2.2.2.2.2.2.2.2.2.2.2.2.1
theorem k0_dev168_lt : ∀ (v6 : BitVec 32) (k0_hw1 : k0_chk1 v6), (k0_dev168 v6) < nD := fun v6 k0_hw1 => k0_hw1.2.2.1.2.2.2.2.2.2.2.2.2.2.2.2.2.2.2.2.2.2.2.2.1
theorem k0_dev173_lt : ∀ (v6 : BitVec 32) (k0_hw1 : k0_chk1 v6), (k0_dev173 v6) < nD := fun v6 k0_hw1 => k0_hw1.2.2.1.2.2.2.2.2.2.2.2.2.2.2.2.2.2.2.2.2.2.2.2.2.1
theorem k0_dev174_lt : ∀ (v6 : BitVec 32) (k0_hw1 : k0_chk1 v6), (k0_dev174 v6) < nD := fun v6 k0_hw1 => k0_hw1.2.2.1.2.2.2.2.2.2.2.2.2.2.2.2.2.2.2.2.2.2.2.2.2.2.1
theorem k0_dev175_lt : ∀ (v6 : BitVec 32) (k0_hw1 : k0_chk1 v6), (k0_dev175 v6) < nD := fun v6 k0_hw1 => k0_hw1.2.2.1.2.2.2.2.2.2.2.2.2.2.2.2.2.2.2.2.2.2.2.2.2.2.2.1
theorem k0_dev176_lt : ∀ (v6 : BitVec 32) (k0_hw1 : k0_chk1 v6), (k0_dev176 v6) < nD := fun v6 k0_hw1 => k0_hw1.2.2.1.2.2.2.2.2.2.2.2.2.2.2.2.2.2.2.2.2.2.2.2.2.2.2.2.1
theorem k0_dev181_lt : ∀ (v6 : BitVec 32) (k0_hw1 : k0_chk1 v6), (k0_dev181 v6) < nD := fun v6 k0_hw1 => k0_hw1.2.2.1.2.2.2.2.2.2.2.2.2.2.2.2.2.2.2.2.2.2.2.2.2.2.2.2.2.1
theorem k0_dev182_lt : ∀ (v6 : BitVec 32) (k0_hw1 : k0_chk1 v6), (k0_dev182 v6) < nD := fun v6 k0_hw1 => k0_hw1.2.2.1.2.2.2.2.2.2.2.2.2.2.2.2.2.2.2.2.2.2.2.2.2.2.2.2.2.2.1
theorem k0_dev183_lt : ∀ (v6 : BitVec 32) (k0_hw1 : k0_chk1 v6), (k0_dev183 v6) < nD := fun v6 k0_hw1 => k0_hw1.2.2.1.2.2.2.2.2.2.2.2.2.2.2.2.2.2.2.2.2.2.2.2.2.2.2.2.2.2.2.1
theorem k0_dev184_lt : ∀ (v6 : BitVec 32) (k0_hw1 : k0_chk1 v6), (k0_dev184 v6) < nD := fun v6 k0_hw1 => k0_hw1.2.2.1.2.2.2.2.2.2.2.2.2.2.2.2.2.2.2.2.2.2.2.2.2.2.2.2.2.2.2.2.1
theorem k0_dev189_lt : ∀ (v6 : BitVec 32) (k0_hw1 : k0_chk1 v6), (k0_dev189 v6) < nD := fun v6 k0_hw1 => k0_hw1.2.2.1.2.2.2.2.2.2.2.2.2.2.2.2.2.2.2.2.2.2.2.2.2.2.2.2.2.2.2.2.2.1
theorem k0_dev190_lt : ∀ (v6 : BitVec 32) (k0_hw1 : k0_chk1 v6), (k0_dev190 v6) < nD := fun v6 k0_hw1 => k0_hw1.2.2.1.2.2.2.2.2.2.2.2.2.2.2.2.2.2.2.2.2.2.2.2.2.2.2.2.2.2.2.2.2.2.1
theorem k0_dev191_lt : ∀ (v6 : BitVec 32) (k0_hw1 : k0_chk1 v6), (k0_dev191 v6) < nD := fun v6 k0_hw1 => k0_hw1.2.2.1.2.2.2.2.2.2.2.2.2.2.2.2.2.2.2.2.2.2.2.2.2.2.2.2.2.2.2.2.2.2.2
theorem k0_dev192_lt : ∀ (v6 : BitVec 32) (k0_hw1 : k0_chk1 v6), (k0_dev192 v6) < nD := fun v6 k0_hw1 => k0_hw1.2.2.2.1
theorem k0_dev197_lt : ∀ (v6 : BitVec 32) (k0_hw1 : k0_chk1 v6), (k0_dev197 v6) < nD := fun v6 k0_hw1 => k0_hw1.2.2.2.2.1
theorem k0_dev198_lt : ∀ (v6 : BitVec 32) (k0_hw1 : k0_chk1 v6), (k0_dev198 v6) < nD := fun v6 k0_hw1 => k0_hw1.2.2.2.2.2.1
theorem k0_dev199_lt : ∀ (v6 : BitVec 32) (k0_hw1 : k0_chk1 v6), (k0_dev199 v6) < nD := fun v6 k0_hw1 => k0_hw1.2.2.2.2.2.2.1
theorem k0_dev200_lt : ∀ (v6 : BitVec 32) (k0_hw1 : k0_chk1 v6), (k0_dev200 v6) < nD := fun v6 k0_hw1 => k0_hw1.2.2.2.2.2.2.2.1
theorem k0_dev205_lt : ∀ (v6 : BitVec 32) (k0_hw1 : k0_chk1 v6), (k0_dev205 v6) < nD := fun v6 k0_hw1 => k0_hw1.2.2.2.2.2.2.2.2.1
theorem k0_dev206_lt : ∀ (v6 : BitVec 32) (k0_hw1 : k0_chk1 v6), (k0_dev206 v6) < nD := fun v6 k0_hw1 => k0_hw1.2.2.2.2.2.2.2.2.2.1
theorem k0_dev207_lt : ∀ (v6 : BitVec 32) (k0_hw1 : k0_chk1 v6), (k0_dev207 v6) < nD := fun v6 k0_hw1 => k0_hw1.2.2.2.2.2.2.2.2.2.2.1
theorem k0_dev208_lt : ∀ (v6 : BitVec 32) (k0_hw1 : k0_chk1 v6), (k0_dev208 v6) < nD := fun v6 k0_hw1 => k0_hw1.2.2.2.2.2.2.2.2.2.2.2.1
theorem k0_dev213_lt : ∀ (v6 : BitVec 32) (k0_hw1 : k0_chk1 v6), (k0_dev213 v6) < nD := fun v6 k0_hw1 => k0_hw1.2.2.2.2.2.2.2.2.2.2.2.2.1
theorem k0_dev214_lt : ∀ (v6 : BitVec 32) (k0_hw1 : k0_chk1 v6), (k0_dev214 v6) < nD := fun v6 k0_hw1 => k0_hw1.2.2.2.2.2.2.2.2.2.2.2.2.2.1
theorem k0_dev215_lt : ∀ (v6 : BitVec 32) (k0_hw1 : k0_chk1 v6), (k0_dev215 v6) < nD := fun v6 k0_hw1 => k0_hw1.2.2.2.2.2.2.2.2.2.2.2.2.2.2.1
theorem k0_dev216_lt : ∀ (v6 : BitVec 32) (k0_hw1 : k0_chk1 v6), (k0_dev216 v6) < nD := fun v6 k0_hw1 => k0_hw1.2.2.2.2.2.2.2.2.2.2.2.2.2.2.2.1
theorem k0_dev221_lt : ∀ (v6 : BitVec 32) (k0_hw1 : k0_chk1 v6), (k0_dev221 v6) < nD := fun v6 k0_hw1 => k0_hw1.2.2.2.2.2.2.2.2.2.2.2.2.2.2.2.2.1
theorem k0_dev222_lt : ∀ (v6 : BitVec 32) (k0_hw1 : k0_chk1 v6), (k0_dev222 v6) < nD := fun v6 k0_hw1 => k0_hw1.2.2.2.2.2.2.2.2.2.2.2.2.2.2.2.2.2.1
theorem k0_dev223_lt : ∀ (v6 : BitVec 32) (k0_hw1 : k0_chk1 v6), (k0_dev223 v6) < nD := fun v6 k0_hw1 => k0_hw1.2.2.2.2.2.2.2.2.2.2.2.2.2.2.2.2.2.2.1
theorem k0_dev224_lt : ∀ (v6 : BitVec 32) (k0_hw1 : k0_chk1 v6), (k0_dev224 v6) < nD := fun v6 k0_hw1 => k0_hw1.2.2.2.2.2.2.2.2.2.2.2.2.2.2.2.2.2.2.2.1
theorem k0_dev229_lt : ∀ (v6 : BitVec 32) (k0_hw1 : k0_chk1 v6), (k0_dev229 v6) < nD := fun v6 k0_hw1 => k0_hw1.2.2.2.2.2.2.2.2.2.2.2.2.2.2.2.2.2.2.2.2.1
theorem k0_dev230_lt : ∀ (v6 : BitVec 32) (k0_hw1 : k0_chk1 v6), (k0_dev230 v6) < nD := fun v6 k0_hw1 => k0_hw1.2.2.2.2.2.2.2.2.2.2.2.2.2.2.2.2.2.2.2.2.2.1
theorem k0_dev231_lt : ∀ (v6 : BitVec 32) (k0_hw1 : k0_chk1 v6), (k0_dev231 v6) < nD := fun v6 k0_hw1 => k0_hw1.2.2.2.2.2.2.2.2.2.2.2.2.2.2.2.2.2.2.2.2.2.2.1
theorem k0_dev232_lt : ∀ (v6 : BitVec 32) (k0_hw1 : k0_chk1 v6), (k0_dev232 v6) < nD := fun v6 k0_hw1 => k0_hw1.2.2.2.2.2.2.2.2.2.2.2.2.2.2.2.2.2.2.2.2.2.2.2.1
theorem k0_dev237_lt : ∀ (v6 : BitVec 32) (k0_hw1 : k0_chk1 v6), (k0_dev237 v6) < nD := fun v6 k0_hw1 => k0_hw1.2.2.2.2.2.2.2.2.2.2.2.2.2.2.2.2.2.2.2.2.2.2.2.2.1
theorem k0_dev238_lt : ∀ (v6 : BitVec 32) (k0_hw1 : k0_chk1 v6), (k0_dev238 v6) < nD := fun v6 k0_hw1 => k0_hw1.2.2.2.2.2.2.2.2.2.2.2.2.2.2.2.2.2.2.2.2.2.2.2.2.2.1
theorem k0_dev239_lt : ∀ (v6 : BitVec 32) (k0_hw1 : k0_chk1 v6), (k0_dev239 v6) < nD := fun v6 k0_hw1 => k0_hw1.2.2.2.2.2.2.2.2.2.2.2.2.2.2.2.2.2.2.2.2.2.2.2.2.2.2.1
theorem k0_dev240_lt : ∀ (v6 : BitVec 32) (k0_hw1 : k0_chk1 v6), (k0_dev240 v6) < nD := fun v6 k0_hw1 => k0_hw1.2.2.2.2.2.2.2.2.2.2.2.2.2.2.2.2.2.2.2.2.2.2.2.2.2.2.2.1
theorem k0_dev245_lt : ∀ (v6 : BitVec 32) (k0_hw1 : k0_chk1 v6), (k0_dev245 v6) < nD := fun v6 k0_hw1 => k0_hw1.2.2.2.2.2.2.2.2.2.2.2.2.2.2.2.2.2.2.2.2.2.2.2.2.2.2.2.2.1
theorem k0_dev246_lt : ∀ (v6 : BitVec 32) (k0_hw1 : k0_chk1 v6), (k0_dev246 v6) < nD := fun v6 k0_hw1 => k0_hw1.2.2.2.2.2.2.2.2.2.2.2.2.2.2.2.2.2.2.2.2.2.2.2.2.2.2.2.2.2.1
theorem k0_dev247_lt : ∀ (v6 : BitVec 32) (k0_hw1 : k0_chk1 v6), (k0_dev247 v6) < nD := fun v6 k0_hw1 => k0_hw1.2.2.2.2.2.2.2.2.2.2.2.2.2.2.2.2.2.2.2.2.2.2.2.2.2.2.2.2.2.2.1
theorem k0_dev250_lt : ∀ (v6 : BitVec 32) (k0_hw1 : k0_chk1 v6), (k0_dev250 v6) < nD := fun v6 k0_hw1 => k0_hw1.2.2.2.2.2.2.2.2.2.2.2.2.2.2.2.2.2.2.2.2.2.2.2.2.2.2.2.2.2.2.2

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S32 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S16384x256 : Shape := ⟨2, ![16384, 256]⟩
abbrev S256x128 : Shape := ⟨2, ![256, 128]⟩
abbrev S16384x2 : Shape := ⟨2, ![16384, 2]⟩
abbrev S128x256x512 : Shape := ⟨3, ![128, 256, 512]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S16384x256x512 : Shape := ⟨3, ![16384, 256, 512]⟩
abbrev S16384x512 : Shape := ⟨2, ![16384, 512]⟩

abbrev nBuf : Space → Nat
  | .hbm => 59
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S16384x2, .i32⟩
  | .hbm, ⟨3, _⟩ => ⟨S128x256x512, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x128, .f32⟩
  | .hbm, ⟨15, _⟩ => ⟨S16384x128, .f32⟩
  | .hbm, ⟨16, _⟩ => ⟨S_, .i32⟩
  | .hbm, ⟨17, _⟩ => ⟨S16384x2, .i32⟩
  | .hbm, ⟨18, _⟩ => ⟨S16384x2, .i1⟩
  | .hbm, ⟨19, _⟩ => ⟨S_, .i32⟩
  | .hbm, ⟨20, _⟩ => ⟨S16384x2, .i32⟩
  | .hbm, ⟨21, _⟩ => ⟨S16384x2, .i32⟩
  | .hbm, ⟨22, _⟩ => ⟨S16384x2, .i32⟩
  | .hbm, ⟨23, _⟩ => ⟨S16384x2x1, .i32⟩
  | .hbm, ⟨24, _⟩ => ⟨S16384x2, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S16384x256x512, .f32⟩
  | .hbm, ⟨39, _⟩ => ⟨S16384x512, .f32⟩
  | .hbm, ⟨40, _⟩ => ⟨S16384x1, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S16384x1, .i32⟩
  | .hbm, ⟨50, _⟩ => ⟨S16384x256x512, .f32⟩
  | .hbm, ⟨51, _⟩ => ⟨S16384x512, .f32⟩
  | .hbm, ⟨52, _⟩ => ⟨S16384x1, .f32⟩
  | .hbm, ⟨53, _⟩ => ⟨S16384x512, .f32⟩
  | .hbm, ⟨54, _⟩ => ⟨S16384x512, .f32⟩
  | .hbm, ⟨55, _⟩ => ⟨S16384x1, .f32⟩
  | .hbm, ⟨56, _⟩ => ⟨S16384x512, .f32⟩
  | .hbm, ⟨57, _⟩ => ⟨S16384x512, .f32⟩
  | .hbm, ⟨58, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Body.lean ====
/- The body of the kernel, written once per hop: a hop of a ring is the same program whatever the hop's number and
   whichever of the two rings it is, so the body is its entry, 32 hops of the two rings in turn, and its end. -/
module

public import proofs.«01_k».proof.Proof.Gen.KernelIdeal.Skeleton
public import Idealize.ShloMosaic.Lib.Pipeline.Regions

@[expose] public section

set_option maxRecDepth 65536

noncomputable section

namespace Cert.KernelIdeal.Moe

open Idealize.ShloMosaic Idealize.ShloMosaic.TcCoe
open Idealize.SL Idealize.SL.Sem
open Cert.KernelIdeal
open Facts₀ Facts

variable {F : FTy → Type} [FloatOps F]

/-- The programs of one core. -/
abbrev PR (F : FTy → Type) [FloatOps F] := Prog (TpuEff nD τ sig (Elt F) Λ₀ .tc) PUnit

/-- What one ring of the kernel works on: its two slots, its four arrays of transfer semaphores (tokens sent, tokens
    received, partial sums sent, partial sums received), its two credit semaphores, and its two neighbours. -/
structure Ring where
  A : Memref sig .tc .vmem S2x256x896 .bf16
  hA : A.IsWhole
  xs : DmaSems sig S32
  xr : DmaSems sig S32
  ps : DmaSems sig S32
  pr : DmaSems sig S32
  cx : Sems sig S_
  cp : Sems sig S_
  dn : Dev nD
  up : Dev nD

theorem inbX [Facts] : ∀ {s : ℕ}, s < 2 → ∀ a, (![s, 0, 0] : Fin 3 → Nat) a + S1x256x384.size a ≤ S2x256x896.size a
  | 0, _ => inb_S2x256x896_S1x256x384_0_0_0
  | 1, _ => inb_S2x256x896_S1x256x384_1_0_0
  | _ + 2, h => absurd h (by omega)
theorem inbP [Facts] : ∀ {s : ℕ}, s < 2 → ∀ a, (![s, 0, 384] : Fin 3 → Nat) a + S1x256x512.size a ≤ S2x256x896.size a
  | 0, _ => inb_S2x256x896_S1x256x512_0_0_384
  | 1, _ => inb_S2x256x896_S1x256x512_1_0_384
  | _ + 2, h => absurd h (by omega)
theorem inbT [Facts] : ∀ {s : ℕ}, s < 2 → ∀ a, (![s, 0, 0] : Fin 3 → Nat) a + S1x256x256.size a ≤ S2x256x896.size a
  | 0, _ => inb_S2x256x896_S1x256x256_0_0_0
  | 1, _ => inb_S2x256x896_S1x256x256_1_0_0
  | _ + 2, h => absurd h (by omega)
theorem inbC [Facts] : ∀ {s : ℕ}, s < 2 → ∀ a, (![s, 0, 256] : Fin 3 → Nat) a + S1x256x128.size a ≤ S2x256x896.size a
  | 0, _ => inb_S2x256x896_S1x256x128_0_0_256
  | 1, _ => inb_S2x256x896_S1x256x128_1_0_256
  | _ + 2, h => absurd h (by omega)
theorem inbS {h : ℕ} (hh : h < 32) : ∀ a, (![h] : Fin 1 → Nat) a + S1.size a ≤ S32.size a := by
  intro a; fin_cases a; show h + 1 ≤ 32; omega

theorem wordsX [Facts] : ∀ {s : ℕ} (hs : s < 2), (Rect.unit (s := S2x256x896) ![s, 0, 0] S1x256x384.size (inbX hs)).WholeWords (EltTy.packing .bf16)
  | 0, _ => wordsbf16_S2x256x896_S1x256x384_0_0_0
  | 1, _ => wordsbf16_S2x256x896_S1x256x384_1_0_0
  | _ + 2, h => absurd h (by omega)
theorem wordsP [Facts] : ∀ {s : ℕ} (hs : s < 2), (Rect.unit (s := S2x256x896) ![s, 0, 384] S1x256x512.size (inbP hs)).WholeWords (EltTy.packing .bf16)
  | 0, _ => wordsbf16_S2x256x896_S1x256x512_0_0_384
  | 1, _ => wordsbf16_S2x256x896_S1x256x512_1_0_384
  | _ + 2, h => absurd h (by omega)
theorem packedP [Facts] : ∀ {s : ℕ} (hs : s < 2), (Rect.unit (s := S2x256x896) ![s, 0, 384] S1x256x512.size (inbP hs)).PackedRows (EltTy.packing .bf16)
  | 0, _ => packedbf16_S2x256x896_S1x256x512_0_0_384
  | 1, _ => packedbf16_S2x256x896_S1x256x512_1_0_384
  | _ + 2, h => absurd h (by omega)

variable [Facts]

/-- The tokens (and their coefficients) of slot `s`, as one transfer moves them; -/
abbrev Ring.X (R : Ring) (s : ℕ) (hs : s < 2) : Memref sig .tc .vmem S256x384 .bf16 :=
  (R.A.slice (Rect.unit (s := S2x256x896) ![s, 0, 0] S1x256x384.size (inbX hs)) (fun _ => rfl)).squeeze S256x384 squeezes_S1x256x384_S256x384
/-- its partial sums. -/
abbrev Ring.P (R : Ring) (s : ℕ) (hs : s < 2) : Memref sig .tc .vmem S256x512 .bf16 :=
  (R.A.slice (Rect.unit (s := S2x256x896) ![s, 0, 384] S1x256x512.size (inbP hs)) (fun _ => rfl)).squeeze S256x512 squeezes_S1x256x512_S256x512
theorem Ring.wX (R : Ring) {s : ℕ} (hs : s < 2) : (R.X s hs).view.WordExact := (R.hA.wordExact_slice rfl _ (wordsX hs)).reshape _ _
theorem Ring.wP (R : Ring) {s : ℕ} (hs : s < 2) : (R.P s hs).view.WordExact := (R.hA.wordExact_slice rfl _ (wordsP hs)).reshape _ _
/-- The semaphore of hop `h`. -/
abbrev dsem (a : DmaSems sig S32) (h : ℕ) (hh : h < 32) : DmaSem sig :=
  ((a.slice (Rect.unit (s := S32) ![h] S1.size (inbS hh))).squeeze S_ squeezes_S1_S_).sem

/-- What the hop stores over the partial sums it loads: the contribution of the core's four experts added. -/
abbrev stepPay (sel : FVec F S128x4 .f32) (xb : Vec F S1x256x256 .bf16) (cb : Vec F S1x256x128 .bf16) (w : Vec F S256x2048 .bf16)
    (acc : Vec F S1x256x512 .bf16) : FVec F S1x256x512 .bf16 := Gen.k0_pay25 sel xb cb w acc

/-- Wait for the core's own token transfer of hop `h`, from slot `r`. -/
def waitXs (R : Ring) (h : ℕ) (hh : h < 32) (s r : ℕ) (hs : s < 2) (hr : r < 2) (k : PR F) : PR F :=
  .op (.waitDma2 (dsem R.xs h hh) (R.X s hs) (R.X r hr) (R.wX hs) (R.wX hr)) fun _ => k
def waitPs (R : Ring) (h : ℕ) (hh : h < 32) (s r : ℕ) (hs : s < 2) (hr : r < 2) (k : PR F) : PR F :=
  .op (.waitDma2 (dsem R.ps h hh) (R.P s hs) (R.P r hr) (R.wP hs) (R.wP hr)) fun _ => k
def waitXr (R : Ring) (h : ℕ) (hh : h < 32) (s : ℕ) (hs : s < 2) (k : PR F) : PR F :=
  .op (.waitDma2 (dsem R.xr h hh) (R.X s hs) (R.X s hs) (R.wX hs) (R.wX hs)) fun _ => k
def waitPr (R : Ring) (h : ℕ) (hh : h < 32) (s : ℕ) (hs : s < 2) (k : PR F) : PR F :=
  .op (.waitDma2 (dsem R.pr h hh) (R.P s hs) (R.P s hs) (R.wP hs) (R.wP hs)) fun _ => k
def sigCx (R : Ring) (k : PR F) : PR F := .op (.semSignal (R.up, .tc) R.cx.sem (1#32).toInt) fun _ => k
def sigCp (R : Ring) (k : PR F) : PR F := .op (.semSignal (R.up, .tc) R.cp.sem (1#32).toInt) fun _ => k
def waitCx (R : Ring) (k : PR F) : PR F := .op (.semWait R.cx.sem (1#32).toInt) fun _ => k
def waitCp (R : Ring) (k : PR F) : PR F := .op (.semWait R.cp.sem (1#32).toInt) fun _ => k
def sendX (R : Ring) (h : ℕ) (hh : h < 32) (s r : ℕ) (hs : s < 2) (hr : r < 2) (k : PR F) : PR F :=
  .op (.enqueueDma (R.X s hs) (.remote (Dev.tc R.dn) (R.X r hr) (.dma (dsem R.xs h hh))) (.dma (dsem R.xr h hh)) (R.wX hs) (R.wX hr) ⟨⟨rfl, Or.inl rfl⟩, trivial⟩) fun _ => k
def sendP (R : Ring) (h : ℕ) (hh : h < 32) (s r : ℕ) (hs : s < 2) (hr : r < 2) (k : PR F) : PR F :=
  .op (.enqueueDma (R.P s hs) (.remote (Dev.tc R.dn) (R.P r hr) (.dma (dsem R.ps h hh))) (.dma (dsem R.pr h hh)) (R.wP hs) (R.wP hr) ⟨⟨rfl, Or.inl rfl⟩, trivial⟩) fun _ => k
/-- Load the tokens, their coefficients and the experts' weights. -/
def loadX (R : Ring) (W : Memref sig .tc .vmem S256x2048 .bf16) (s : ℕ) (hs : s < 2)
    (k : Vec F S1x256x256 .bf16 → Vec F S1x256x128 .bf16 → Vec F S256x2048 .bf16 → PR F) : PR F :=
  .op (.load R.A (Rect.unit (s := S2x256x896) ![s, 0, 0] S1x256x256.size (inbT hs)).toLoadRect (View.loadsAt_vmem h_S1x256x256)) fun xb =>
  .op (.load R.A (Rect.unit (s := S2x256x896) ![s, 0, 256] S1x256x128.size (inbC hs)).toLoadRect (View.loadsAt_vmem h_S1x256x128)) fun cb =>
  .op (.load W (Rect.unit (s := S256x2048) ![0, 0] S256x2048.size inb_S256x2048_S256x2048_0_0).toLoadRect (View.loadsAt_vmem h_S256x2048)) fun w =>
  k xb cb w
/-- Load the partial sums, add, store them. -/
def stepP (R : Ring) (sel : FVec F S128x4 .f32) (s : ℕ) (hs : s < 2) (xb : Vec F S1x256x256 .bf16) (cb : Vec F S1x256x128 .bf16)
    (w : Vec F S256x2048 .bf16) (k : PR F) : PR F :=
  .op (.load R.A (Rect.unit (s := S2x256x896) ![s, 0, 384] S1x256x512.size (inbP hs)).toLoadRect (View.loadsAt_vmem h_S1x256x512)) fun acc =>
  .op (.load R.A (Rect.unit (s := S2x256x896) ![s, 0, 384] S1x256x512.size (inbP hs)).toLoadRect (View.loadsAt_vmem h_S1x256x512)) fun _ =>
  .op (.store R.A (Rect.unit (s := S2x256x896) ![s, 0, 384] S1x256x512.size (inbP hs)) (stepPay sel xb cb w acc) Finset.univ
    (View.stores_vmem h_S1x256x512 (R.hA.storeExact_slice rfl _ (packedP hs)) (fun _ => rfl)) (.inl rfl)) fun _ => k

theorem mod2 (n : ℕ) : n % 2 < 2 := Nat.mod_lt _ (by decide)

/-- Hop 0 of a ring: nothing is in flight and the neighbour's slot was handed over at the barrier. -/
def hop0 (R : Ring) (W : Memref sig .tc .vmem S256x2048 .bf16) (sel : FVec F S128x4 .f32) (k : PR F) : PR F :=
  sendX R 0 (by decide) 0 1 (by decide) (by decide) <|
  loadX R W 0 (by decide) fun xb cb w =>
  stepP R sel 0 (by decide) xb cb w <|
  sendP R 0 (by decide) 0 1 (by decide) (by decide) k

/-- Hop `j + 1` of a ring, for `j + 1 ≤ 30`. -/
def hop (R : Ring) (W : Memref sig .tc .vmem S256x2048 .bf16) (sel : FVec F S128x4 .f32) (j : ℕ) (hj : j < 30) (k : PR F) : PR F :=
  waitXs R j (by omega) ((j + 1) % 2) (j % 2) (mod2 _) (mod2 _) <|
  sigCx R <|
  waitPs R j (by omega) ((j + 1) % 2) (j % 2) (mod2 _) (mod2 _) <|
  sigCp R <|
  waitXr R j (by omega) ((j + 1) % 2) (mod2 _) <|
  waitCx R <|
  sendX R (j + 1) (by omega) ((j + 1) % 2) (j % 2) (mod2 _) (mod2 _) <|
  loadX R W ((j + 1) % 2) (mod2 _) fun xb cb w =>
  waitPr R j (by omega) ((j + 1) % 2) (mod2 _) <|
  stepP R sel ((j + 1) % 2) (mod2 _) xb cb w <|
  waitCp R <|
  sendP R (j + 1) (by omega) ((j + 1) % 2) (j % 2) (mod2 _) (mod2 _) k

/-- Hop 31 of a ring: the tokens go no further. -/
def hopLast (R : Ring) (W : Memref sig .tc .vmem S256x2048 .bf16) (sel : FVec F S128x4 .f32) (k : PR F) : PR F :=
  waitXs R 30 (by decide) 1 0 (by decide) (by decide) <|
  waitPs R 30 (by decide) 1 0 (by decide) (by decide) <|
  sigCp R <|
  waitXr R 30 (by decide) 1 (by decide) <|
  loadX R W 1 (by decide) fun xb cb w =>
  waitPr R 30 (by decide) 1 (by decide) <|
  stepP R sel 1 (by decide) xb cb w <|
  waitCp R <|
  sendP R 31 (by decide) 1 0 (by decide) (by decide) k

/-- The two rings' hops `j + 1`, `j + 2`, … , `n` of them. -/
def hops (Ra Rb : Ring) (W : Memref sig .tc .vmem S256x2048 .bf16) (sel : FVec F S128x4 .f32) : (n j : ℕ) → n + j ≤ 30 → PR F → PR F
  | 0, _, _, k => k
  | n + 1, j, h, k => hop Ra W sel j (by omega) <| hop Rb W sel j (by omega) <| hops Ra Rb W sel n (j + 1) (by omega) k

/-- The end: the last partial sums sent and received, and the results out. -/
def tail (Ra Rb : Ring) (O : Memref sig .tc .vmem S512x512 .f32) : PR F :=
  waitPs Ra 31 (by decide) 0 1 (by decide) (by decide) <|
  waitPr Ra 31 (by decide) 0 (by decide) <|
  waitPs Rb 31 (by decide) 0 1 (by decide) (by decide) <|
  waitPr Rb 31 (by decide) 0 (by decide) <|
  .op (.load Ra.A (Rect.unit (s := S2x256x896) ![0, 0, 384] S1x256x512.size inb_S2x256x896_S1x256x512_0_0_384).toLoadRect (View.loadsAt_vmem h_S1x256x512)) fun va =>
  .op (.load O (Rect.unit (s := S512x512) ![0, 0] S256x512.size inb_S512x512_S256x512_0_0).toLoadRect (View.loadsAt_vmem h_S256x512)) fun _ =>
  .op (.store O (Rect.unit (s := S512x512) ![0, 0] S256x512.size inb_S512x512_S256x512_0_0) (Gen.k0_pay221 va) Finset.univ (View.stores_vmem_bits_univ h_S256x512 rfl) (.inl rfl)) fun _ =>
  .op (.load Rb.A (Rect.unit (s := S2x256x896) ![0, 0, 384] S1x256x512.size inb_S2x256x896_S1x256x512_0_0_384).toLoadRect (View.loadsAt_vmem h_S1x256x512)) fun vb =>
  .op (.load O (Rect.unit (s := S512x512) ![256, 0] S256x512.size inb_S512x512_S256x512_256_0).toLoadRect (View.loadsAt_vmem h_S256x512)) fun _ =>
  .op (.store O (Rect.unit (s := S512x512) ![256, 0] S256x512.size inb_S512x512_S256x512_256_0) (Gen.k0_pay222 vb) Finset.univ (View.stores_vmem_bits_univ h_S256x512 rfl) (.inl rfl)) fun _ =>
  .ret ⟨⟩

section Entry

variable (arg0 : Memref sig .tc .vmem S512x256 .f32) (harg0 : arg0.IsWhole) (arg1 : Memref sig .tc .vmem S256x128 .f32) (harg1 : arg1.IsWhole) (arg2 : Memref sig .tc .vmem S512x2 .i32) (harg2 : arg2.IsWhole) (arg3 : Memref sig .tc .vmem S4x256x512 .f32) (harg3 : arg3.IsWhole) (arg4 : Memref sig .tc .smem S32 .i32) (harg4 : arg4.IsWhole) (arg5 : Memref sig .tc .smem S32 .i32) (harg5 : arg5.IsWhole) (arg6 : Memref sig .tc .vmem S512x512 .f32) (harg6 : arg6.IsWhole) (arg7 : Memref sig .tc .vmem S2x256x896 .bf16) (harg7 : arg7.IsWhole) (arg8 : Memref sig .tc .vmem S2x256x896 .bf16) (harg8 : arg8.IsWhole) (arg9 : Memref sig .tc .vmem S256x2048 .bf16) (harg9 : arg9.IsWhole) (arg10 : DmaSems sig S32) (arg11 : DmaSems sig S32) (arg12 : DmaSems sig S32) (arg13 : DmaSems sig S32) (arg14 : DmaSems sig S32) (arg15 : DmaSems sig S32) (arg16 : DmaSems sig S32) (arg17 : DmaSems sig S32) (arg18 : Sems sig S_) (arg19 : Sems sig S_) (arg20 : Sems sig S_) (arg21 : Sems sig S_)

/-- The core's own index, as the word the kernel computes. -/
abbrev idxWord (d : Dev nD) : BitVec 32 := Scalar.remsi (Scalar.divsi (Dev.word d) 1#32) 32#32

/-- The entry's addresses: the core's index and its two neighbours out of the tables, the barrier. -/
def entry (k : Dev nD → (v4 v6 : Elt F .i32) → k0_chk2 v4 → k0_chk1 v6 → PR F) : PR F :=
  .op .deviceId fun d0 =>
  smemLoadElt arg4 (Rect.unit (s := S32) (k0_off1 d0) S1.size (k0_off1_inb d0)) (View.loads_smem_one rfl numel1_S1) (Shape.Idx.first (numel1_S1.symm ▸ Nat.one_pos)) fun v4 =>
  .op (TpuEff.assume (k0_chk2 v4) (k0_chk2.dec v4)) fun hw2 =>
  smemLoadElt arg5 (Rect.unit (s := S32) (k0_off1 d0) S1.size (k0_off1_inb d0)) (View.loads_smem_one rfl numel1_S1) (Shape.Idx.first (numel1_S1.symm ▸ Nat.one_pos)) fun v6 =>
  .op (TpuEff.assume (k0_chk1 v6) (k0_chk1.dec v6)) fun hw1 =>
  .op (.semSignal ((⟨k0_dev1 v6, k0_dev1_lt v6 hw1.down⟩ : Dev nD), .tc) (SemArray.scalar (sig.barrier 0 rfl) : Sems sig S_).sem (1#32).toInt) fun _ =>
  .op (.semSignal ((⟨k0_dev2 v4, k0_dev2_lt v4 hw2.down⟩ : Dev nD), .tc) (SemArray.scalar (sig.barrier 0 rfl) : Sems sig S_).sem (1#32).toInt) fun _ =>
  .op (.semWait (SemArray.scalar (sig.barrier 0 rfl) : Sems sig S_).sem (2#32).toInt) fun _ =>
  k d0 v4 v6 hw2.down hw1.down

/-- The entry's loads of the core's own tokens, router weights and routes. -/
def loadIn (k : Vec F S512x256 .f32 → Vec F S256x128 .f32 → Vec F S512x1 .i32 → Vec F S512x1 .i32 → PR F) : PR F :=
  .op (.load arg0 (Rect.unit (s := S512x256) ![0, 0] S512x256.size inb_S512x256_S512x256_0_0).toLoadRect (View.loadsAt_vmem h_S512x256)) fun v12 =>
  .op (.load arg1 (Rect.unit (s := S256x128) ![0, 0] S256x128.size inb_S256x128_S256x128_0_0).toLoadRect (View.loadsAt_vmem h_S256x128)) fun v14 =>
  .op (.load arg2 (Rect.unit (s := S512x2) ![0, 0] S512x1.size inb_S512x2_S512x1_0_0).toLoadRect (View.loadsAt_vmem h_S512x1)) fun v18 =>
  .op (.load arg2 (Rect.unit (s := S512x2) ![0, 1] S512x1.size inb_S512x2_S512x1_0_1).toLoadRect (View.loadsAt_vmem h_S512x1)) fun v20 =>
  k v12 v14 v18 v20

/-- Slot 0 of a ring filled: the tokens, their coefficients, no contribution yet. -/
def fill (A : Memref sig .tc .vmem S2x256x896 .bf16) (hA : A.IsWhole) (off : Fin 2 → ℕ) (hoff : ∀ a, off a + S256x256.size a ≤ S512x256.size a)
    (px : Vec F S256x256 .f32 → FVec F S1x256x256 .bf16) (pc : FVec F S1x256x128 .bf16) (pz : FVec F S1x256x512 .bf16) (k : PR F) : PR F :=
  .op (.load arg0 (Rect.unit (s := S512x256) off S256x256.size hoff).toLoadRect (View.loadsAt_vmem h_S256x256)) fun v45 =>
  .op (.load A (Rect.unit (s := S2x256x896) ![0, 0, 0] S1x256x256.size inb_S2x256x896_S1x256x256_0_0_0).toLoadRect (View.loadsAt_vmem h_S1x256x256)) fun _ =>
  .op (.store A (Rect.unit (s := S2x256x896) ![0, 0, 0] S1x256x256.size inb_S2x256x896_S1x256x256_0_0_0) (px v45) Finset.univ (View.stores_vmem h_S1x256x256 (hA.storeExact_slice rfl _ packedbf16_S2x256x896_S1x256x256_0_0_0) (fun _ => rfl)) (.inl rfl)) fun _ =>
  .op (.load A (Rect.unit (s := S2x256x896) ![0, 0, 256] S1x256x128.size inb_S2x256x896_S1x256x128_0_0_256).toLoadRect (View.loadsAt_vmem h_S1x256x128)) fun _ =>
  .op (.store A (Rect.unit (s := S2x256x896) ![0, 0, 256] S1x256x128.size inb_S2x256x896_S1x256x128_0_0_256) pc Finset.univ (View.stores_vmem h_S1x256x128 (hA.storeExact_slice rfl _ packedbf16_S2x256x896_S1x256x128_0_0_256) (fun _ => rfl)) (.inl rfl)) fun _ =>
  .op (.load A (Rect.unit (s := S2x256x896) ![0, 0, 384] S1x256x512.size inb_S2x256x896_S1x256x512_0_0_384).toLoadRect (View.loadsAt_vmem h_S1x256x512)) fun _ =>
  .op (.store A (Rect.unit (s := S2x256x896) ![0, 0, 384] S1x256x512.size inb_S2x256x896_S1x256x512_0_0_384) pz Finset.univ (View.stores_vmem h_S1x256x512 (hA.storeExact_slice rfl _ packedbf16_S2x256x896_S1x256x512_0_0_384) (fun _ => rfl)) (.inl rfl)) fun _ =>
  k

/-- One expert's weights laid beside the others'. -/
def fillW (o : ℕ) (q : ℕ) (ho : ∀ a, (![o, 0, 0] : Fin 3 → ℕ) a + S1x256x512.size a ≤ S4x256x512.size a) (hq : ∀ a, (![0, q] : Fin 2 → ℕ) a + S256x512.size a ≤ S256x2048.size a)
    (hp : (Rect.unit (s := S256x2048) ![0, q] S256x512.size hq).PackedRows (EltTy.packing .bf16))
    (k : PR F) : PR F :=
  .op (.load arg3 (Rect.unit (s := S4x256x512) ![o, 0, 0] S1x256x512.size ho).toLoadRect (View.loadsAt_vmem h_S1x256x512)) fun v75 =>
  .op (.load arg9 (Rect.unit (s := S256x2048) ![0, q] S256x512.size hq).toLoadRect (View.loadsAt_vmem h_S256x512)) fun _ =>
  .op (.store arg9 (Rect.unit (s := S256x2048) ![0, q] S256x512.size hq) (Gen.k0_pay14 v75) Finset.univ (View.stores_vmem h_S256x512 (harg9.storeExact_slice rfl _ hp) (fun _ => rfl)) (.inl rfl)) fun _ =>
  k

/-- Ring a, whose tokens go to the next core; -/
abbrev ringA (v4 v6 : Elt F .i32) (h2 : k0_chk2 v4) (h1 : k0_chk1 v6) : Ring :=
  ⟨arg7, harg7, arg10, arg11, arg12, arg13, arg18, arg19, ⟨k0_dev3 v4, k0_dev3_lt v4 h2⟩, ⟨k0_dev7 v6, k0_dev7_lt v6 h1⟩⟩
/-- ring b, whose tokens go to the previous one. -/
abbrev ringB (v4 v6 : Elt F .i32) (h2 : k0_chk2 v4) (h1 : k0_chk1 v6) : Ring :=
  ⟨arg8, harg8, arg14, arg15, arg16, arg17, arg20, arg21, ⟨k0_dev5 v6, k0_dev5_lt v6 h1⟩, ⟨k0_dev11 v4, k0_dev11_lt v4 h2⟩⟩

/-- The coefficients of the core's own tokens. -/
abbrev coefPay (v12 : Vec F S512x256 .f32) (v14 : Vec F S256x128 .f32) (v18 v20 : Vec F S512x1 .i32) : FVec F S512x128 .f32 :=
  Gen.k0_pay6 (Gen.k0_pay2 v18) (Gen.k0_pay3 v20) (Gen.k0_pay4 v12 v14 v18) (Gen.k0_pay5 v12 v14 v20)

/-- The whole body. -/
def body : PR F :=
  entry arg4 arg5 fun d0 v4 v6 h2 h1 =>
  loadIn arg0 arg1 arg2 fun v12 v14 v18 v20 =>
  fill arg0 arg7 harg7 ![0, 0] inb_S512x256_S256x256_0_0 Gen.k0_pay7 (Gen.k0_pay8 (Gen.k0_pay2 v18) (Gen.k0_pay3 v20) (Gen.k0_pay4 v12 v14 v18) (Gen.k0_pay5 v12 v14 v20)) Gen.k0_pay9 <|
  fill arg0 arg8 harg8 ![256, 0] inb_S512x256_S256x256_256_0 Gen.k0_pay10 (Gen.k0_pay12 (Gen.k0_pay11 (Gen.k0_pay2 v18) (Gen.k0_pay3 v20) (Gen.k0_pay4 v12 v14 v18) (Gen.k0_pay5 v12 v14 v20))) Gen.k0_pay13 <|
  fillW arg3 arg9 harg9 0 0 inb_S4x256x512_S1x256x512_0_0_0 inb_S256x2048_S256x512_0_0 packedbf16_S256x2048_S256x512_0_0 <|
  fillW arg3 arg9 harg9 1 512 inb_S4x256x512_S1x256x512_1_0_0 inb_S256x2048_S256x512_0_512 packedbf16_S256x2048_S256x512_0_512 <|
  fillW arg3 arg9 harg9 2 1024 inb_S4x256x512_S1x256x512_2_0_0 inb_S256x2048_S256x512_0_1024 packedbf16_S256x2048_S256x512_0_1024 <|
  fillW arg3 arg9 harg9 3 1536 inb_S4x256x512_S1x256x512_3_0_0 inb_S256x2048_S256x512_0_1536 packedbf16_S256x2048_S256x512_0_1536 <|
  hop0 (ringA arg7 harg7 arg10 arg11 arg12 arg13 arg18 arg19 v4 v6 h2 h1) arg9 (Gen.k0_pay18 (idxWord d0)) <|
  hop0 (ringB arg8 harg8 arg14 arg15 arg16 arg17 arg20 arg21 v4 v6 h2 h1) arg9 (Gen.k0_pay18 (idxWord d0)) <|
  hops (ringA arg7 harg7 arg10 arg11 arg12 arg13 arg18 arg19 v4 v6 h2 h1) (ringB arg8 harg8 arg14 arg15 arg16 arg17 arg20 arg21 v4 v6 h2 h1) arg9 (Gen.k0_pay18 (idxWord d0)) 30 0 (by decide) <|
  hopLast (ringA arg7 harg7 arg10 arg11 arg12 arg13 arg18 arg19 v4 v6 h2 h1) arg9 (Gen.k0_pay18 (idxWord d0)) <|
  hopLast (ringB arg8 harg8 arg14 arg15 arg16 arg17 arg20 arg21 v4 v6 h2 h1) arg9 (Gen.k0_pay18 (idxWord d0)) <|
  tail (ringA arg7 harg7 arg10 arg11 arg12 arg13 arg18 arg19 v4 v6 h2 h1) (ringB arg8 harg8 arg14 arg15 arg16 arg17 arg20 arg21 v4 v6 h2 h1) arg6

/-- The printed body is it. -/
theorem body_eq : cc0_body (F := F) arg0 harg0 arg1 harg1 arg2 harg2 arg3 harg3 arg4 harg4 arg5 harg5 arg6 harg6 arg7 harg7 arg8 harg8 arg9 harg9 arg10 arg11 arg12 arg13 arg14 arg15 arg16 arg17 arg18 arg19 arg20 arg21
    = body arg0 arg1 arg2 arg3 arg4 arg5 arg6 arg7 harg7 arg8 harg8 arg9 harg9 arg10 arg11 arg12 arg13 arg14 arg15 arg16 arg17 arg18 arg19 arg20 arg21 := by
  chain_rfl

end Entry

end Cert.KernelIdeal.Moe

end
-- ==== Proof.Proto.lean ====
/- The protocol of the two rings: the resource algebra, the two neighbour tables, the cells numbered by items, what the slots hold at
   each hop, and what each landing or signal hands to the owner of its cell. An item is one payment of one core: ring `R`, hop `h`, and
   one of four kinds (the two credits given to the neighbour behind, the two transfers to the neighbour ahead), numbered in the order in
   which the core makes the payments. The index a payment is counted under, and its level, is its number. -/
module

public import proofs.«01_k».proof.Proof.Body
public import proofs.«01_k».proof.Proof.Gen.KernelIdeal.Launch
public import Idealize.ShloMosaic.Lib.Rounds
public import Idealize.ShloMosaic.Lib.Release
public import Idealize.ShloMosaic.Lib.Pipeline.Launch
public import Idealize.ShloMosaic.Lib.Pipeline.RegionTalk
public import Idealize.ShloMosaic.Lib.Pipeline.Value

@[expose] public section

set_option maxRecDepth 65536

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F]

/-! ## The resource algebra -/

/-- The pipeline's copy of the rounds library's algebra, the rings' copy, and the record of the slots' releases. -/
abbrev UP : Type := URounds (GSem nD τ sig) Unit
abbrev UQ : Type := URounds (GSem nD τ sig) ℕ
abbrev KK : Type := Dev nD × ℕ
abbrev UU : Type := UP × (UQ × USlots KK)

local notation "𝕄" => MT nD τ sig ℕ (Elt F) ℕ UU ℕ

def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
def EQ : Emb UQ (MT nD τ sig ℕ (Elt F) ℕ UU ℕ) :=
  ((Emb.inl : Emb UQ (UQ × USlots KK)).trans (Emb.inr : Emb (UQ × USlots KK) UU)).trans (uEmb (nD := nD) (sig := sig) (Ix := ℕ) (Val := Elt F) (Name := ℕ) (U := UU) (Lvl := ℕ)).toEmb
def ES : Emb (USlots KK) (MT nD τ sig ℕ (Elt F) ℕ UU ℕ) :=
  ((Emb.inr : Emb (USlots KK) (UQ × USlots KK)).trans (Emb.inr : Emb (UQ × USlots KK) UU)).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance EQ_landsIn : (EQ : Emb UQ 𝕄).LandsIn (upEmb : UEmb _ 𝕄) := by unfold EQ; infer_instance
instance ES_landsIn : (ES : Emb (USlots KK) 𝕄).LandsIn (upEmb : UEmb _ 𝕄) := by unfold ES; infer_instance

/-! ## The rings -/

/-- The neighbour after and the neighbour before, out of the two tables. -/
def nxtD (c : Dev nD) : Dev nD := ⟨(lit0 c).toNat, by revert c; decide⟩
def prvD (c : Dev nD) : Dev nD := ⟨(lit1 c).toNat, by revert c; decide⟩
/-- The neighbour ring `R` sends to, and the one it receives from. -/
def dn (c : Dev nD) (R : Bool) : Dev nD := bif R then prvD c else nxtD c
def up (c : Dev nD) (R : Bool) : Dev nD := bif R then nxtD c else prvD c
theorem up_dn (c : Dev nD) (R : Bool) : up (dn c R) R = c := by revert c R; decide
theorem dn_up (c : Dev nD) (R : Bool) : dn (up c R) R = c := by revert c R; decide
theorem up_not (c : Dev nD) (R : Bool) : up c (!R) = dn c R := by cases R <;> rfl
theorem dn_not (c : Dev nD) (R : Bool) : dn c (!R) = up c R := by cases R <;> rfl
def ringE (R : Bool) : Dev nD ≃ Dev nD := ⟨fun c => dn c R, fun c => up c R, fun c => up_dn c R, fun c => dn_up c R⟩

/-- Ring `R`'s two slots. -/
def bufM : Bool → Memref sig .tc .vmem S2x256x896 .bf16
  | false => Memref.whole cc0_scratch0
  | true => Memref.whole cc0_scratch1
theorem bufM_whole : ∀ R, (bufM R).IsWhole
  | false => Memref.isWhole_whole _
  | true => Memref.isWhole_whole _

/-- Ring `R` of core `c`. -/
abbrev rg (c : Dev nD) (R : Bool) : Ring where
  A := bufM R
  hA := bufM_whole R
  xs := bif R then cc0_scratch7 else cc0_scratch3
  xr := bif R then cc0_scratch8 else cc0_scratch4
  ps := bif R then cc0_scratch9 else cc0_scratch5
  pr := bif R then cc0_scratch10 else cc0_scratch6
  cx := bif R then cc0_scratch13 else cc0_scratch11
  cp := bif R then cc0_scratch14 else cc0_scratch12
  dn := dn c R
  up := up c R

/-! ## The semaphores -/

/-- The transfer semaphore of ring `R`, kind `k` (tokens sent, tokens received, sums sent, sums received) and hop `h`. -/
def dS (R : Bool) (k h : ℕ) : DmaSem sig := ⟨(7 + 32 * (4 * R.toNat + k) + h) % 263, Nat.mod_lt _ (by decide)⟩
/-- The credit semaphore of ring `R`: `0` for the tokens' slot, `1` for the sums' slot. -/
def cS (R : Bool) (k : ℕ) : Sem sig := ⟨(2 * R.toNat + k) % 5, Nat.mod_lt _ (by decide)⟩
/-- The barrier's semaphore. -/
def bS : Sem sig := (SemArray.scalar (sig.barrier 0 rfl) : Sems sig S_).sem

theorem cx_sem (c : Dev nD) (R : Bool) : (rg c R).cx.sem = cS R 0 := by cases R <;> rfl
theorem cp_sem (c : Dev nD) (R : Bool) : (rg c R).cp.sem = cS R 1 := by cases R <;> rfl
theorem xs_sem (c : Dev nD) (R : Bool) (h : ℕ) (hh : h < 32) : dsem (rg c R).xs h hh = dS R 0 h := by
  cases R
  · change dsem cc0_scratch3 h hh = _; revert h; decide
  · change dsem cc0_scratch7 h hh = _; revert h; decide
theorem xr_sem (c : Dev nD) (R : Bool) (h : ℕ) (hh : h < 32) : dsem (rg c R).xr h hh = dS R 1 h := by
  cases R
  · change dsem cc0_scratch4 h hh = _; revert h; decide
  · change dsem cc0_scratch8 h hh = _; revert h; decide
theorem ps_sem (c : Dev nD) (R : Bool) (h : ℕ) (hh : h < 32) : dsem (rg c R).ps h hh = dS R 2 h := by
  cases R
  · change dsem cc0_scratch5 h hh = _; revert h; decide
  · change dsem cc0_scratch9 h hh = _; revert h; decide
theorem pr_sem (c : Dev nD) (R : Bool) (h : ℕ) (hh : h < 32) : dsem (rg c R).pr h hh = dS R 3 h := by
  cases R
  · change dsem cc0_scratch6 h hh = _; revert h; decide
  · change dsem cc0_scratch10 h hh = _; revert h; decide

/-- What a transfer semaphore's number says: its ring, its kind, its hop. -/
def dR (n : DmaSem sig) : Bool := decide (135 ≤ n.val)
def dK (n : DmaSem sig) : ℕ := (n.val - 7) / 32 % 4
def dH (n : DmaSem sig) : ℕ := (n.val - 7) % 32
theorem dS_val (R : Bool) {k h : ℕ} (hk : k < 4) (hh : h < 32) : (dS R k h).val = 7 + 32 * (4 * R.toNat + k) + h := by
  have : R.toNat ≤ 1 := by cases R <;> decide
  exact Nat.mod_eq_of_lt (by omega)
theorem dS_le (R : Bool) {k h : ℕ} (hk : k < 4) (hh : h < 32) : 7 ≤ (dS R k h).val := by rw [dS_val R hk hh]; omega
theorem dR_dS (R : Bool) {k h : ℕ} (hk : k < 4) (hh : h < 32) : dR (dS R k h) = R := by
  unfold dR; rw [dS_val R hk hh]
  cases R
  · simp only [Bool.toNat_false, decide_eq_false_iff_not]; omega
  · simp only [Bool.toNat_true, decide_eq_true_eq]; omega
theorem dK_dS (R : Bool) {k h : ℕ} (hk : k < 4) (hh : h < 32) : dK (dS R k h) = k := by
  unfold dK; rw [dS_val R hk hh]; cases R
  · simp only [Bool.toNat_false]; omega
  · simp only [Bool.toNat_true]; omega
theorem dH_dS (R : Bool) {k h : ℕ} (hk : k < 4) (hh : h < 32) : dH (dS R k h) = h := by
  unfold dH; rw [dS_val R hk hh]; cases R
  · simp only [Bool.toNat_false]; omega
  · simp only [Bool.toNat_true]; omega
/-- What a credit semaphore's number says: its ring and its kind. -/
def cR (n : Sem sig) : Bool := decide (2 ≤ n.val)
def cK (n : Sem sig) : ℕ := n.val % 2
theorem cR_cS (R : Bool) {k : ℕ} (hk : k < 2) : cR (cS R k) = R := by
  obtain rfl | rfl : k = 0 ∨ k = 1 := by omega
  all_goals cases R <;> decide
theorem cK_cS (R : Bool) {k : ℕ} (hk : k < 2) : cK (cS R k) = k := by
  obtain rfl | rfl : k = 0 ∨ k = 1 := by omega
  all_goals cases R <;> decide
theorem cS_ne (R : Bool) {k : ℕ} (hk : k < 2) : cS R k ≠ bS := by
  obtain rfl | rfl : k = 0 ∨ k = 1 := by omega
  all_goals cases R <;> decide

/-! ## The slots and their contents -/

section Slots

variable [Facts]

/-- The tokens' part of the slot ring `R` uses at hop `n`, and the sums' part. -/
abbrev bX (R : Bool) (n : ℕ) : Memref sig .tc .vmem S256x384 .bf16 :=
  ((bufM R).slice (Rect.unit (s := S2x256x896) ![n % 2, 0, 0] S1x256x384.size (inbX (mod2 n))) (fun _ => rfl)).squeeze S256x384 Facts₀.squeezes_S1x256x384_S256x384
abbrev bP (R : Bool) (n : ℕ) : Memref sig .tc .vmem S256x512 .bf16 :=
  ((bufM R).slice (Rect.unit (s := S2x256x896) ![n % 2, 0, 384] S1x256x512.size (inbP (mod2 n))) (fun _ => rfl)).squeeze S256x512 Facts₀.squeezes_S1x256x512_S256x512

theorem X_eq (c : Dev nD) (R : Bool) {n s : ℕ} (h : s = n % 2) (hs : s < 2) : (rg c R).X s hs = bX R n := by subst h; rfl
theorem P_eq (c : Dev nD) (R : Bool) {n s : ℕ} (h : s = n % 2) (hs : s < 2) : (rg c R).P s hs = bP R n := by subst h; rfl
theorem bX_mod (R : Bool) {n m : ℕ} (h : n % 2 = m % 2) : bX R n = bX R m := by
  rw [← X_eq 0 R h.symm (by omega : m % 2 < 2), ← X_eq 0 R rfl (by omega : m % 2 < 2)]
theorem bP_mod (R : Bool) {n m : ℕ} (h : n % 2 = m % 2) : bP R n = bP R m := by
  rw [← P_eq 0 R h.symm (by omega : m % 2 < 2), ← P_eq 0 R rfl (by omega : m % 2 < 2)]

/-- The units a transfer of tokens credits, and of sums. -/
def Nx : ℕ := (bX false 0).view.amount (.dma (dS false 0 0))
def Np : ℕ := (bP false 0).view.amount (.dma (dS false 0 0))
theorem Nx_eq (R : Bool) (n : ℕ) (s : DmaSem sig) : (bX R n).view.amount (.dma s) = Nx := rfl
theorem Np_eq (R : Bool) (n : ℕ) (s : DmaSem sig) : (bP R n).view.amount (.dma s) = Np := rfl
theorem Nx_pos : 0 < Nx := View.dmaCredit_pos _ (by decide)
theorem Np_pos : 0 < Np := View.dmaCredit_pos _ (by decide)

/-- The tokens and the coefficients of what a transfer of tokens moves. -/
def tokOf (v : Vec F S256x384 .bf16) : Vec F S1x256x256 .bf16 :=
  shapeCast S1x256x256 (extractStridedSlice S256x256 ![0, 0] v (by decide)) (by decide)
def coefOf (v : Vec F S256x384 .bf16) : Vec F S1x256x128 .bf16 :=
  shapeCast S1x256x128 (extractStridedSlice S256x128 ![0, 256] v (by decide)) (by decide)
def flatP (v : Vec F S1x256x512 .bf16) : Vec F S256x512 .bf16 := shapeCast S256x512 v (by decide)
def thickP (v : Vec F S256x512 .bf16) : Vec F S1x256x512 .bf16 := shapeCast S1x256x512 v (by decide)

/-- What the cores start from: the tokens with their coefficients each core puts in each ring, its first sums, its experts' weights. -/
structure Inp (F : FTy → Type) [FloatOps F] where
  x0 : Dev nD → Bool → Vec F S256x384 .bf16
  p0 : Dev nD → Bool → Vec F S256x512 .bf16
  w : Dev nD → Vec F S256x2048 .bf16

/-- Core `c`'s experts among all. -/
def sel (c : Dev nD) : FVec F S128x4 .f32 := Gen.k0_pay18 (idxWord c)

variable (I : Inp F)

/-- The sums after core `c`'s contribution. -/
def stepV (c : Dev nD) (x : Vec F S256x384 .bf16) (p : Vec F S256x512 .bf16) : Vec F S256x512 .bf16 :=
  flatP (stepPay (sel c) (tokOf x) (coefOf x) (I.w c) (thickP p))
/-- The tokens core `c` holds at hop `h`, and the sums before its contribution. -/
def XV (R : Bool) : ℕ → Dev nD → Vec F S256x384 .bf16
  | 0, c => I.x0 c R
  | h + 1, c => XV R h (up c R)
def PV (R : Bool) : ℕ → Dev nD → Vec F S256x512 .bf16
  | 0, c => I.p0 c R
  | h + 1, c => stepV I (up c R) (XV I R h (up c R)) (PV R h (up c R))

/-- A part of a slot, at any contents, and at given ones. -/
def XS (c : Dev nD) (R : Bool) (n : ℕ) (q : PosShare TreeShare) : sProp 𝕄 :=
  iprop(∃ f, (bX R n).view.loc (c.tc : Thread nD τ) ↦[(bX R n).view.set]{q} f)
def PS (c : Dev nD) (R : Bool) (n : ℕ) (q : PosShare TreeShare) : sProp 𝕄 :=
  iprop(∃ f, (bP R n).view.loc (c.tc : Thread nD τ) ↦[(bP R n).view.set]{q} f)
def XC (c : Dev nD) (R : Bool) (n : ℕ) (q : PosShare TreeShare) (v : Vec F S256x384 .bf16) : sProp 𝕄 :=
  iprop(∃ f, ⌜(bX R n).view.read (Elt F) f = v⌝ ∗ (bX R n).view.loc (c.tc : Thread nD τ) ↦[(bX R n).view.set]{q} f)
def PC (c : Dev nD) (R : Bool) (n : ℕ) (q : PosShare TreeShare) (v : Vec F S256x512 .bf16) : sProp 𝕄 :=
  iprop(∃ f, ⌜(bP R n).view.read (Elt F) f = v⌝ ∗ (bP R n).view.loc (c.tc : Thread nD τ) ↦[(bP R n).view.set]{q} f)

/-! ## Items -/

/-- The ring, the kind and the hop of item `i`; item `4 * (2 * h + R) + a`. -/
def iR (i : ℕ) : Bool := decide (i / 4 % 2 = 1)
def item (h : ℕ) (R : Bool) (a : ℕ) : ℕ := 8 * h + 4 * R.toNat + a
theorem iR_item (h : ℕ) (R : Bool) {a : ℕ} (ha : a < 4) : iR (item h R a) = R := by
  unfold iR item; cases R
  · simp only [Bool.toNat_false, decide_eq_false_iff_not]; omega
  · simp only [Bool.toNat_true, decide_eq_true_eq]; omega
theorem ia_item (h : ℕ) (R : Bool) {a : ℕ} (ha : a < 4) : item h R a % 4 = a := by
  unfold item; omega
theorem ih_item (h : ℕ) (R : Bool) {a : ℕ} (ha : a < 4) : item h R a / 8 = h := by
  have : R.toNat ≤ 1 := by cases R <;> decide
  unfold item; omega

/-- The kind of transfer semaphore numbered beside item kind `a`. -/
def kindOf (a : ℕ) : ℕ := if a = 1 then 2 else if a = 2 then 1 else a
theorem kindOf_lt {a : ℕ} (h : a < 4) : kindOf a < 4 := by unfold kindOf; split_ifs <;> omega
def dcell (i : ℕ) : DmaSem sig := dS (iR i) (kindOf (i % 4)) (i / 8)
theorem dcell_item (h : ℕ) (R : Bool) {a : ℕ} (ha : a < 4) : dcell (item h R a) = dS R (kindOf a) h := by
  unfold dcell; rw [iR_item h R ha, ia_item h R ha, ih_item h R ha]

/-- The semaphores the kernel owns: the transfers' and the credits'. -/
def osem (k : Fin 260) : SemLoc sig := if k.val < 256 then .dma (dcell k.val) else .reg ⟨(k.val - 256) % 5, Nat.mod_lt _ (by decide)⟩

/-- The cell of core `c` on which the payment of item `i` by the core's neighbour lands, how much, and the neighbour. -/
def own (c : Dev nD) (i : ℕ) : GSem nD τ sig :=
  ((c.tc : Thread nD τ), if i % 4 < 2 then .reg (cS (iR i) (i % 4)) else .dma (dcell i))
def amt (i : ℕ) : ℕ :=
  if i % 4 = 0 then (if 1 ≤ i / 8 ∧ i / 8 ≤ 30 then 1 else 0) else if i % 4 = 1 then (if 1 ≤ i / 8 then 1 else 0)
  else if i % 4 = 2 then (if i / 8 ≤ 30 then Nx else 0) else Np
def peer (c : Dev nD) (i : ℕ) : Dev nD := if i % 4 < 2 then up c (iR i) else dn c (iR i)

/-- What core `c` owes for item `i`, and still owes from item `i` on. -/
def it (c : Dev nD) (i : ℕ) : CellTallies nD τ sig ℕ := tallyAt (own (peer c i) i) (2 + i) (amt i)
def O (c : Dev nD) (i : ℕ) : CellTallies nD τ sig ℕ := ∑ j ∈ Finset.Ico i 256, it c j
theorem O_step (c : Dev nD) {i : ℕ} (h : i < 256) : O c i = O c (i + 1) + it c i := by
  unfold O
  rw [show Finset.Ico i 256 = insert i (Finset.Ico (i + 1) 256) from by ext x; simp only [Finset.mem_Ico, Finset.mem_insert]; omega,
    Finset.sum_insert (by simp), add_comm]
theorem O_skip (c : Dev nD) {i : ℕ} (h : i < 256) (h0 : amt i = 0) : O c i = O c (i + 1) := by
  rw [O_step c h, it, h0, tallyAt_zero, add_zero]
theorem O_last (c : Dev nD) : O c 256 = 0 := by unfold O; simp

/-! ## Levels -/

def L (g : GSem nD τ sig) : Finset ℕ := if g.1.2 = .tc then Finset.range 258 else ∅
def lv (_ : GSem nD τ sig) (ι : ℕ) : ℕ := ι
theorem L_of_ne (g : GSem nD τ sig) (h : g.1.2 ≠ .tc) : L g = ∅ := if_neg h
theorem L_tc (c : Dev nD) (sm : SemLoc sig) : L ((c.tc : Thread nD τ), sm) = Finset.range 258 := if_pos rfl

theorem O_pos {c : Dev nD} {i : ℕ} {g : GSem nD τ sig} {u : ℕ} (h : 0 < O c i g u) : g.1.2 = .tc ∧ 2 + i ≤ u ∧ u < 258 := by
  unfold O at h
  rw [Finset.sum_apply, Finsupp.finset_sum_apply] at h
  obtain ⟨j, hj, hp⟩ := Finset.exists_ne_zero_of_sum_ne_zero (Nat.ne_of_gt h)
  rw [it, tallyAt_apply] at hp
  by_cases hg : g = own (peer c j) j ∧ u = 2 + j
  · rw [Finset.mem_Ico] at hj
    refine ⟨by rw [hg.1]; rfl, ?_, ?_⟩ <;> omega
  · rw [if_neg hg] at hp; exact absurd rfl hp

/-- Owing from item `i` on, a core may wait at any smaller index. -/
theorem mayWait (c : Dev nD) (sm : SemLoc sig) {i u : ℕ} (hu : u ≤ 1 + i) (hu' : u < 258) :
    (levAts L lv : sProp 𝕄) ⊢ MayWait (c.tc : Thread nD τ) sm u (O c i) :=
  MayOwe.of_cut (L := L) (lev := lv) u (fun p hp => by rw [Finset.mem_singleton.mp hp, L_tc]; exact Finset.mem_range.mpr hu')
    (fun g v hg => by
      obtain ⟨h1, -, h3⟩ := O_pos hg
      unfold L; rw [if_pos h1]; exact Finset.mem_range.mpr h3)
    (fun p hp => by rw [Finset.mem_singleton.mp hp]; exact le_refl _)
    (fun g v hg => by have := (O_pos hg).2.1; show u < v; omega)

/-! ## The schedule -/

/-- A slot handed back by its reader: the part the next payment of item `i` writes, at any contents. -/
def slotOf (c : Dev nD) (i : ℕ) : sProp 𝕄 := if i % 4 = 0 then XS c (iR i) (i / 8 + 1) fullShare else PS c (iR i) (i / 8 + 1) fullShare

/-- Round 0 of each of the cells the kernel owns has begun on core `c`. -/
def rch (c : Dev nD) : sProp 𝕄 := bigSep Finset.univ fun k : Fin 260 => reached EQ ((c.tc : Thread nD τ), osem k) 0

/-- What a transfer's landing, its read-out, a barrier's signal and a credit hand to their cell's owner. -/
def dPay (c : Dev nD) (R : Bool) (k h : ℕ) : sProp 𝕄 :=
  if k = 0 then XS c R h fullShare.left else if k = 1 then XC c R (h + 1) fullShare (XV I R (h + 1) c)
  else if k = 2 then PS c R h fullShare else PC c R (h + 1) fullShare (PV I R (h + 1) c)
def bPay (c : Dev nD) (R : Bool) : sProp 𝕄 := iprop(XS (dn c R) R 1 fullShare ∗ PS (dn c R) R 1 fullShare ∗ rch (dn c R))
def cPay (c : Dev nD) (R : Bool) (k d : ℕ) : sProp 𝕄 := bigSep (Finset.Icc 1 d) fun h => released ES (dn c R, item h R k) 1

def sched : Schedule (GSem nD τ sig) ℕ 𝕄 where
  duties g r := if r = 0 ∧ g.1.2 = .tc then (match g.2 with
    | .dma n => if dK n < 2 ∧ dH n = 31 then ∅ else {0}
    | .reg n => if n = bS then {0, 1} else if cK n = 0 then Finset.Icc 1 30 else Finset.Icc 1 31) else ∅
  amount g _ _ := match g.2 with
    | .dma n => if dK n < 2 then Nx else Np
    | .reg _ => 1
  payload g _ d := match g.2 with
    | .dma n => dPay I g.1.1 (dR n) (dK n) (dH n)
    | .reg n => if n = bS then bPay g.1.1 (decide (d = 1)) else cPay g.1.1 (cR n) (cK n) d
  amount_pos g _ _ _ := by
    obtain ⟨t, s⟩ := g
    cases s with
    | dma n => show 0 < (if dK n < 2 then Nx else Np); split_ifs; exacts [Nx_pos, Np_pos]
    | reg n => exact Nat.one_pos
  unitless _ := False

instance XS_storable (c : Dev nD) (R : Bool) (n : ℕ) (q : PosShare TreeShare) : BI.Storable (upEmb : UEmb _ 𝕄) (XS c R n q) := by
  unfold XS; infer_instance
instance PS_storable (c : Dev nD) (R : Bool) (n : ℕ) (q : PosShare TreeShare) : BI.Storable (upEmb : UEmb _ 𝕄) (PS c R n q) := by
  unfold PS; infer_instance
instance XC_storable (c : Dev nD) (R : Bool) (n : ℕ) (q : PosShare TreeShare) (v : Vec F S256x384 .bf16) : BI.Storable (upEmb : UEmb _ 𝕄) (XC c R n q v) := by
  unfold XC; infer_instance
instance PC_storable (c : Dev nD) (R : Bool) (n : ℕ) (q : PosShare TreeShare) (v : Vec F S256x512 .bf16) : BI.Storable (upEmb : UEmb _ 𝕄) (PC c R n q v) := by
  unfold PC; infer_instance
instance rch_storable (c : Dev nD) : BI.Storable (upEmb : UEmb _ 𝕄) (rch c) := by unfold rch; infer_instance
instance rch_persistent (c : Dev nD) : BI.Persistent (rch c : sProp 𝕄) := by unfold rch; infer_instance
instance cPay_persistent (c : Dev nD) (R : Bool) (k d : ℕ) : BI.Persistent (cPay c R k d : sProp 𝕄) := by unfold cPay; infer_instance
instance slotOf_storable (c : Dev nD) (i : ℕ) : BI.Storable (upEmb : UEmb _ 𝕄) (slotOf c i) := by
  unfold slotOf; split <;> infer_instance
instance dPay_storable (c : Dev nD) (R : Bool) (k h : ℕ) : BI.Storable (upEmb : UEmb _ 𝕄) (dPay I c R k h) := by
  unfold dPay; (repeat' split) <;> infer_instance
instance bPay_storable (c : Dev nD) (R : Bool) : BI.Storable (upEmb : UEmb _ 𝕄) (bPay c R) := by unfold bPay; infer_instance
instance cPay_storable (c : Dev nD) (R : Bool) (k d : ℕ) : BI.Storable (upEmb : UEmb _ 𝕄) (cPay c R k d) := by unfold cPay; infer_instance

instance sched_storable (g : GSem nD τ sig) (r : ℕ) (d : ℕ) : BI.Storable (upEmb : UEmb _ 𝕄) ((sched I).payload g r d) := by
  obtain ⟨t, s⟩ := g
  cases s with
  | dma n => show BI.Storable upEmb (dPay I t.1 (dR n) (dK n) (dH n)); infer_instance
  | reg n =>
    show BI.Storable upEmb (if n = bS then bPay t.1 (decide (d = 1)) else cPay t.1 (cR n) (cK n) d)
    split <;> infer_instance

section Sched

variable (c : Dev nD) (R : Bool) {k h : ℕ}

theorem duties_later (g : GSem nD τ sig) (r : ℕ) (hr : 1 ≤ r) : (sched I).duties g r = ∅ := by
  dsimp only [sched]; exact if_neg fun h => by omega
theorem duties_dma (hk : k < 4) (hh : h < 32) (hv : ¬ (k < 2 ∧ h = 31)) : (sched I).duties ((c.tc : Thread nD τ), .dma (dS R k h)) 0 = {0} := by
  dsimp only [sched]; rw [if_pos ⟨rfl, rfl⟩, dK_dS R hk hh, dH_dS R hk hh, if_neg hv]
theorem duties_idle (hk : k < 2) : (sched I).duties ((c.tc : Thread nD τ), .dma (dS R k 31)) 0 = ∅ := by
  dsimp only [sched]; rw [if_pos ⟨rfl, rfl⟩, dK_dS R (by omega) (by decide), dH_dS R (by omega) (by decide), if_pos ⟨hk, rfl⟩]
theorem duties_bar : (sched I).duties ((c.tc : Thread nD τ), .reg bS) 0 = {0, 1} := by
  dsimp only [sched]; rw [if_pos ⟨rfl, rfl⟩, if_pos rfl]
theorem duties_credit (hk : k < 2) : (sched I).duties ((c.tc : Thread nD τ), .reg (cS R k)) 0 = Finset.Icc 1 (30 + k) := by
  dsimp only [sched]; rw [if_pos ⟨rfl, rfl⟩, if_neg (cS_ne R hk), cK_cS R hk]
  obtain rfl | rfl : k = 0 ∨ k = 1 := by omega
  · rfl
  · rfl
theorem amount_dma (hk : k < 4) (hh : h < 32) (d : ℕ) : (sched I).amount ((c.tc : Thread nD τ), .dma (dS R k h)) 0 d = if k < 2 then Nx else Np := by
  dsimp only [sched]; rw [dK_dS R hk hh]
theorem expect_dma (hk : k < 4) (hh : h < 32) (hv : ¬ (k < 2 ∧ h = 31)) :
    (sched I).expect ((c.tc : Thread nD τ), .dma (dS R k h)) 0 = if k < 2 then Nx else Np := by
  unfold Schedule.expect Schedule.amountOf; rw [duties_dma I c R hk hh hv, Finset.sum_singleton, amount_dma I c R hk hh]
theorem expect_idle (hk : k < 2) : (sched I).expect ((c.tc : Thread nD τ), .dma (dS R k 31)) 0 = 0 := by
  unfold Schedule.expect Schedule.amountOf; rw [duties_idle I c R hk, Finset.sum_empty]
theorem expect_bar : (sched I).expect ((c.tc : Thread nD τ), .reg bS) 0 = 2 := by
  unfold Schedule.expect Schedule.amountOf; rw [duties_bar]; rfl
theorem expect_credit (hk : k < 2) : (sched I).expect ((c.tc : Thread nD τ), .reg (cS R k)) 0 = 30 + k := by
  unfold Schedule.expect Schedule.amountOf; rw [duties_credit I c R hk]
  show ∑ _d ∈ Finset.Icc 1 (30 + k), 1 = 30 + k
  simp
theorem payload_dma (hk : k < 4) (hh : h < 32) (d : ℕ) : (sched I).payload ((c.tc : Thread nD τ), .dma (dS R k h)) 0 d = dPay I c R k h := by
  dsimp only [sched]; rw [dR_dS R hk hh, dK_dS R hk hh, dH_dS R hk hh]
theorem payload_bar (R : Bool) : (sched I).payload ((c.tc : Thread nD τ), .reg bS) 0 R.toNat = bPay c R := by
  dsimp only [sched]; rw [if_pos rfl]; cases R <;> rfl
theorem payload_credit (hk : k < 2) (d : ℕ) : (sched I).payload ((c.tc : Thread nD τ), .reg (cS R k)) 0 d = cPay c R k d := by
  dsimp only [sched]; rw [if_neg (cS_ne R hk), cR_cS R hk, cK_cS R hk]
theorem rest_dma (hk : k < 4) (hh : h < 32) (hv : ¬ (k < 2 ∧ h = 31)) :
    bigSep ((sched I).duties ((c.tc : Thread nD τ), .dma (dS R k h)) 0 \ ∅) (fun d => (sched I).payload ((c.tc : Thread nD τ), .dma (dS R k h)) 0 d) = dPay I c R k h := by
  rw [Finset.sdiff_empty, duties_dma I c R hk hh hv, bigSep_singleton, payload_dma I c R hk hh]
theorem rest_bar :
    bigSep ((sched I).duties ((c.tc : Thread nD τ), .reg bS) 0 \ ∅) (fun d => (sched I).payload ((c.tc : Thread nD τ), .reg bS) 0 d) = iprop(bPay c false ∗ bPay c true) := by
  rw [Finset.sdiff_empty, duties_bar, bigSep_insert (by decide), bigSep_singleton, ← payload_bar I c false, ← payload_bar I c true]; rfl

end Sched

end Slots

end Cert.KernelIdeal.Moe

end
-- ==== Proof.Ops.lean ====
/- What each step of a hop does to the resources of the core: the waits, the credits given and taken, the two transfers, the loads and
   the accumulation; each once, for either ring and any hop. -/
module

public import proofs.«01_k».proof.Proof.Proto

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## The slots -/

theorem X_nonempty (R : Bool) (n : ℕ) : (bX R n).view.set.Nonempty := ⟨_, (bX R n).view.emb_mem_set (fun a => ⟨0, by fin_cases a <;> decide⟩)⟩
theorem P_nonempty (R : Bool) (n : ℕ) : (bP R n).view.set.Nonempty := ⟨_, (bP R n).view.emb_mem_set (fun a => ⟨0, by fin_cases a <;> decide⟩)⟩

theorem XS_excl (c : Dev nD) (R : Bool) (n : ℕ) : iprop(XS c R n fullShare ∗ XS c R n fullShare) ⊢ (False : sProp 𝕄) :=
  slot_slot_false (X_nonempty R n)
theorem PS_excl (c : Dev nD) (R : Bool) (n : ℕ) : iprop(PS c R n fullShare ∗ PS c R n fullShare) ⊢ (False : sProp 𝕄) :=
  slot_slot_false (P_nonempty R n)
theorem slotOf_excl (c : Dev nD) (i : ℕ) : iprop(slotOf c i ∗ slotOf c i) ⊢ (False : sProp 𝕄) := by
  unfold slotOf; split
  · exact XS_excl _ _ _
  · exact PS_excl _ _ _

theorem XS_mod (c : Dev nD) (R : Bool) {n m : ℕ} (h : n % 2 = m % 2) (q : PosShare TreeShare) : (XS c R n q : sProp 𝕄) = XS c R m q := by
  unfold XS; rw [bX_mod R h]
theorem PS_mod (c : Dev nD) (R : Bool) {n m : ℕ} (h : n % 2 = m % 2) (q : PosShare TreeShare) : (PS c R n q : sProp 𝕄) = PS c R m q := by
  unfold PS; rw [bP_mod R h]
theorem XC_any (c : Dev nD) (R : Bool) (n : ℕ) (q : PosShare TreeShare) (v : Vec F S256x384 .bf16) : (XC c R n q v : sProp 𝕄) ⊢ XS c R n q := by
  unfold XC XS; iintro ⟨%f, -, H⟩; iexists f; iexact H
theorem PC_any (c : Dev nD) (R : Bool) (n : ℕ) (q : PosShare TreeShare) (v : Vec F S256x512 .bf16) : (PC c R n q v : sProp 𝕄) ⊢ PS c R n q := by
  unfold PC PS; iintro ⟨%f, -, H⟩; iexists f; iexact H

/-- The half in flight comes back to the half kept. -/
theorem X_join (c : Dev nD) (R : Bool) (n : ℕ) (v : Vec F S256x384 .bf16) :
    iprop(XS c R n fullShare.left ∗ XC c R n fullShare.right v) ⊢ (XS c R n fullShare : sProp 𝕄) := by
  unfold XC XS
  iintro ⟨⟨%f, Hf⟩, ⟨%g, -, Hg⟩⟩
  icombine Hf Hg gives %h
  ihave Hg' := (Entails.of_eq (pointsTo_congr (g := f) (fun i hi => (h i (Finset.mem_inter.mpr ⟨hi, hi⟩)).1.symm))) $$ Hg
  iexists f
  have hj : iprop(((bX R n).view.loc (c.tc : Thread nD τ) ↦[(bX R n).view.set]{fullShare.left} f)
      ∗ (bX R n).view.loc (c.tc : Thread nD τ) ↦[(bX R n).view.set]{fullShare.right} f)
      ⊢ ((bX R n).view.loc (c.tc : Thread nD τ) ↦[(bX R n).view.set]{fullShare} f : sProp 𝕄) :=
    (pointsTo_share (PosShare.mem_left_op_right fullShare)).2
  iapply hj
  isplitl [Hf] <;> iassumption

/-! ## What a core knows throughout -/

def liveCells : Finset (GSem nD τ sig) := Finset.univ.image fun c : Dev nD => ((c.tc : Thread nD τ), SemLoc.reg bS)
def ownCells : Finset (GSem nD τ sig) := Finset.univ.image fun p : Dev nD × Fin 260 => ((p.1.tc : Thread nD τ), osem p.2)
def keys : Finset KK := Finset.univ ×ˢ Finset.range 256

variable (I : Inp F)

/-- The cells' invariants under the names `κ`, the slots' under `κS`, and the levels. -/
def Ctx (κ : GSem nD τ sig → ℕ) (κS : KK → ℕ) : sProp 𝕄 :=
  iprop(bigSep (liveCells ∪ ownCells) (fun g => cellInv EQ (sched I) (κ g) g) ∗ bigSep keys (fun k => slotInv ES (κS k) k (slotOf k.1 k.2))
    ∗ levAts L lv)
instance Ctx_persistent (κ : GSem nD τ sig → ℕ) (κS : KK → ℕ) : BI.Persistent (Ctx I κ κS) := by unfold Ctx; infer_instance

theorem kindOf_kindOf {a : ℕ} (h : a < 4) : kindOf (kindOf a) = a := by
  unfold kindOf; split_ifs <;> omega
theorem osem_dma (R : Bool) {k h : ℕ} (hk : k < 4) (hh : h < 32) : ∃ j, osem j = .dma (dS R k h) := by
  have hR : R.toNat ≤ 1 := by cases R <;> decide
  have hk' := kindOf_lt hk
  have hlt : item h R (kindOf k) < 256 := by unfold item; omega
  refine ⟨⟨item h R (kindOf k), by omega⟩, ?_⟩
  unfold osem; rw [if_pos hlt, dcell_item h R hk', kindOf_kindOf hk]
theorem osem_reg (R : Bool) {k : ℕ} (hk : k < 2) : ∃ j, osem j = .reg (cS R k) := by
  have hR : R.toNat ≤ 1 := by cases R <;> decide
  refine ⟨⟨256 + (2 * R.toNat + k), by omega⟩, ?_⟩
  unfold osem cS; rw [if_neg (by simp)]; simp only [Nat.add_sub_cancel_left]

variable (κ : GSem nD τ sig → ℕ) (κS : KK → ℕ)

theorem mem_own (c : Dev nD) (j : Fin 260) : ((c.tc : Thread nD τ), osem j) ∈ liveCells ∪ ownCells :=
  Finset.mem_union_right _ (by unfold ownCells; exact Finset.mem_image.mpr ⟨(c, j), Finset.mem_univ _, rfl⟩)
theorem mem_bar (c : Dev nD) : ((c.tc : Thread nD τ), SemLoc.reg bS) ∈ liveCells ∪ ownCells :=
  Finset.mem_union_left _ (by unfold liveCells; exact Finset.mem_image.mpr ⟨c, Finset.mem_univ _, rfl⟩)
theorem mem_keys (c : Dev nD) {i : ℕ} (h : i < 256) : ((c, i) : KK) ∈ keys :=
  Finset.mem_product.mpr ⟨Finset.mem_univ _, Finset.mem_range.mpr h⟩

theorem Ctx_cell {g : GSem nD τ sig} (h : g ∈ liveCells ∪ ownCells) : Ctx I κ κS ⊢ cellInv EQ (sched I) (κ g) g := by
  have e : bigSep (liveCells ∪ ownCells) (fun g => cellInv EQ (sched I) (κ g) g) ⊢ cellInv EQ (sched I) (κ g) g := bigSep_elim h
  unfold Ctx
  iintro ⟨H, -, -⟩
  iapply e
  iexact H
theorem Ctx_own (c : Dev nD) {s : SemLoc sig} (h : ∃ j, osem j = s) : Ctx I κ κS ⊢ cellInv EQ (sched I) (κ ((c.tc : Thread nD τ), s)) ((c.tc : Thread nD τ), s) := by
  obtain ⟨j, rfl⟩ := h
  exact Ctx_cell I κ κS (mem_own c j)
theorem Ctx_bar (c : Dev nD) : Ctx I κ κS ⊢ cellInv EQ (sched I) (κ ((c.tc : Thread nD τ), .reg bS)) ((c.tc : Thread nD τ), .reg bS) :=
  Ctx_cell I κ κS (mem_bar c)
theorem Ctx_slot (c : Dev nD) {i : ℕ} (h : i < 256) : Ctx I κ κS ⊢ slotInv ES (κS (c, i)) (c, i) (slotOf c i) := by
  have e : bigSep keys (fun k => slotInv ES (κS k) k (slotOf k.1 k.2)) ⊢ (slotInv ES (κS (c, i)) (c, i) (slotOf c i) : sProp 𝕄) := bigSep_elim (mem_keys c h)
  unfold Ctx
  iintro ⟨-, H, -⟩
  iapply e
  iexact H
theorem Ctx_lev : Ctx I κ κS ⊢ levAts L lv := by
  unfold Ctx; iintro ⟨-, -, H⟩; iexact H
theorem rch_own (c : Dev nD) {s : SemLoc sig} (h : ∃ j, osem j = s) : (rch c : sProp 𝕄) ⊢ reached EQ ((c.tc : Thread nD τ), s) 0 := by
  obtain ⟨j, rfl⟩ := h
  unfold rch
  exact bigSep_elim (Φ := fun k : Fin 260 => reached EQ ((c.tc : Thread nD τ), osem k) 0) (Finset.mem_univ j)

/-! ## The waits -/

/-- The program `e` of core `c` runs, and what it leaves satisfies `Q`. -/
abbrev WP (c : Dev nD) (e : PR F) (Q : PUnit → sProp 𝕄) : sProp 𝕄 :=
  wp frame (wpE (defs₀ (F := F)) Variants.none (c.tc : Thread nD τ) none) Set.univ e Q

/-- Core `c` owes the items from `i` on. -/
def OW (c : Dev nD) (i : ℕ) : sProp 𝕄 := iprop(∃ W, owes (c.tc : Thread nD τ) (O c i) W)

theorem closeCell (c : Dev nD) (s : SemLoc sig) (h : ∃ j, osem j = s) :
    iprop(Ctx I κ κS ∗ atPos EQ ((c.tc : Thread nD τ), s) (0 + 1) ∅ 0) ⊢ (|={Set.univ}=> semVal ((c.tc : Thread nD τ), s) 0 : sProp 𝕄) := by
  iintro ⟨#HC, Hat⟩
  iapply (Rounds.cell_close EQ (sched I) (κ := κ ((c.tc : Thread nD τ), s)) (Set.mem_univ _) id (fun r hr => duties_later I _ r hr))
  isplitr
  · iapply (Ctx_own I κ κS c h); iexact HC
  iexact Hat

/-- A wait on a transfer's cell: what the transfer hands over comes, and the cell is done with. -/
theorem wp_dmaWait (c : Dev nD) (R : Bool) {k h : ℕ} (hk : k < 4) (hh : h < 32) (hv : ¬ (k < 2 ∧ h = 31)) {u i : ℕ} (hu : u ≤ 1 + i) (hu' : u < 258)
    {s : Shape} {src dst : Memref sig .tc .vmem s .bf16} {hsrc : src.view.WordExact} {hdst : dst.view.WordExact}
    (hN : dst.view.dmaCredit = if k < 2 then Nx else Np) (e : PR F) (Q : PUnit → sProp 𝕄) :
    iprop(Ctx I κ κS ∗ cred (tallyAt ((c.tc : Thread nD τ), .dma (dS R k h)) u (if k < 2 then Nx else Np)) ∗ OW c i
        ∗ atPos EQ ((c.tc : Thread nD τ), .dma (dS R k h)) 0 ∅ 0)
      ⊢ iprop((OW c i -∗ semVal ((c.tc : Thread nD τ), .dma (dS R k h)) 0 -∗ dPay I c R k h -∗ WP c e Q)
        -∗ WP c (.op (.waitDma2 (dS R k h) src dst hsrc hdst) fun _ => e) Q) := by
  rw [← hN]
  unfold OW
  iintro ⟨#HC, Hcr, ⟨%W, HO⟩, Hat⟩ Hk
  iapply (Rounds.wp_wait_rest_token Variants.none EQ (sched I) (c.tc : Thread nD τ) none (κ := κ ((c.tc : Thread nD τ), .dma (dS R k h)))
      (wpE_waitDma2_eq Variants.none (c.tc : Thread nD τ) none Set.univ) (Set.mem_univ _) u (O := O c i) (W := W) (R := 0) (m := 0) (T := ∅)
      (by rw [Nat.zero_add, expect_dma I c R hk hh hv, hN])) $$ [Hcr HO Hat]
  · isplitr; · iapply (Ctx_own I κ κS c (osem_dma R hk hh)); iexact HC
    isplitl [Hcr]; · iexact Hcr
    isplitl [HO]; · iexact HO
    isplitr; · iapply (mayWait c _ hu hu'); iapply (Ctx_lev I κ κS); iexact HC
    iexact Hat
  iintro ⟨HO, Hat, -, Hpay⟩
  ihave Hp := (Entails.of_eq (rest_dma I c R hk hh hv)) $$ Hpay
  imod (closeCell I κ κS c _ (osem_dma R hk hh)) $$ [Hat] with Hs
  · isplitr; · iexact HC
    iexact Hat
  iapply Hk $$ [HO] Hs Hp
  iexists _; iexact HO

/-! ## The credits -/

theorem bigSep_ins {J : Type} [DecidableEq J] {i : J} {s : Finset J} (h : i ∉ s) {Φ : J → sProp 𝕄} : bigSep (insert i s) Φ = iprop(Φ i ∗ bigSep s Φ) := bigSep_insert h

theorem item_lt {h : ℕ} (R : Bool) {a : ℕ} (hh : h < 32) (ha : a < 4) : item h R a < 256 := by
  have hR : R.toNat ≤ 1 := by cases R <;> decide
  unfold item; omega
theorem own_credit (c : Dev nD) (R : Bool) {k : ℕ} (h : ℕ) (hk : k < 2) : own c (item h R k) = ((c.tc : Thread nD τ), .reg (cS R k)) := by
  unfold own; rw [ia_item h R (by omega), iR_item h R (by omega), if_pos hk]
theorem peer_credit (c : Dev nD) (R : Bool) {k : ℕ} (h : ℕ) (hk : k < 2) : peer c (item h R k) = up c R := by
  unfold peer; rw [ia_item h R (by omega), iR_item h R (by omega), if_pos hk]
theorem amt_credit (R : Bool) {k h : ℕ} (hk : k < 2) (h1 : 1 ≤ h) (h2 : h ≤ 30 + k) : amt (item h R k) = 1 := by
  unfold amt; rw [ia_item h R (by omega), ih_item h R (by omega)]
  obtain rfl | rfl : k = 0 ∨ k = 1 := by omega
  · rw [if_pos rfl, if_pos ⟨h1, h2⟩]
  · rw [if_neg (by decide), if_pos rfl, if_pos h1]
theorem it_credit (c : Dev nD) (R : Bool) {k h : ℕ} (hk : k < 2) (h1 : 1 ≤ h) (h2 : h ≤ 30 + k) :
    it c (item h R k) = tallyAt (((up c R).tc : Thread nD τ), .reg (cS R k)) (2 + item h R k) 1 := by
  unfold it; rw [peer_credit c R h hk, own_credit _ R h hk, amt_credit R hk h1 h2]

/-- The releases of core `c`'s slots of ring `R` (tokens' for `k = 0`, sums' for `1`) up to hop `d`. -/
def rel (c : Dev nD) (R : Bool) (k d : ℕ) : sProp 𝕄 := bigSep (Finset.Icc 1 d) fun h => released ES (c, item h R k) 1
instance rel_persistent (c : Dev nD) (R : Bool) (k d : ℕ) : BI.Persistent (rel c R k d : sProp 𝕄) := by unfold rel; infer_instance
theorem rel_zero (c : Dev nD) (R : Bool) (k : ℕ) : (rel c R k 0 : sProp 𝕄) = BI.emp := by unfold rel; exact bigSep_empty
theorem rel_succ (c : Dev nD) (R : Bool) (k d : ℕ) :
    iprop(rel c R k d ∗ released ES (c, item (d + 1) R k) 1) ⊢ (rel c R k (d + 1) : sProp 𝕄) := by
  unfold rel
  rw [show Finset.Icc 1 (d + 1) = insert (d + 1) (Finset.Icc 1 d) from by ext x; simp only [Finset.mem_Icc, Finset.mem_insert]; omega,
    bigSep_ins (by simp)]
  iintro ⟨H1, H2⟩
  isplitl [H2] <;> iassumption
theorem rel_get (c : Dev nD) (R : Bool) (k : ℕ) {h d : ℕ} (h1 : 1 ≤ h) (h2 : h ≤ d) : (rel c R k d : sProp 𝕄) ⊢ released ES (c, item h R k) 1 :=
  bigSep_elim (Finset.mem_Icc.mpr ⟨h1, h2⟩)
theorem cPay_eq (c : Dev nD) (R : Bool) (k d : ℕ) : (cPay c R k d : sProp 𝕄) = rel (dn c R) R k d := rfl
theorem slotOf_item (c : Dev nD) (R : Bool) (h : ℕ) {k : ℕ} (hk : k < 4) :
    (slotOf c (item h R k) : sProp 𝕄) = if k = 0 then XS c R (h + 1) fullShare else PS c R (h + 1) fullShare := by
  unfold slotOf; rw [ia_item h R hk, iR_item h R hk, ih_item h R hk]

/-- A slot handed back and the neighbour behind told so. -/
theorem wp_give (c : Dev nD) (R : Bool) {k j : ℕ} (hk : k < 2) (hj : j + 1 ≤ 30 + k) (e : PR F) (Q : PUnit → sProp 𝕄) :
    iprop(Ctx I κ κS ∗ rch (up c R) ∗ slotOf c (item (j + 1) R k) ∗ readerAt ES (c, item (j + 1) R k) 0 ∗ rel c R k j
        ∗ dutyTok EQ (((up c R).tc : Thread nD τ), .reg (cS R k)) 0 (j + 1) ∗ OW c (item (j + 1) R k))
      ⊢ iprop((OW c (item (j + 1) R k + 1) -∗ rel c R k (j + 1) -∗ WP c e Q)
        -∗ WP c (.op (.semSignal ((up c R), .tc) (cS R k) (1#32).toInt) fun _ => e) Q) := by
  unfold OW
  iintro ⟨#HC, #Hr, Hs, Hrd, #Hrel, Ht, ⟨%W, HO⟩⟩ Hk
  imod (slot_release (E := ES) (ι := κS (c, item (j + 1) R k)) (k := (c, item (j + 1) R k)) (S := slotOf c (item (j + 1) R k)) (Es := Set.univ) (Set.mem_univ _) (slotOf_excl c _) 0) $$ [Hs Hrd] with ⟨-, #Hnew⟩
  · isplitr; · iapply (Ctx_slot I κ κS c (item_lt R (by omega) (by omega))); iexact HC
    isplitl [Hrd] <;> iassumption
  ihave #Hrel' := (rel_succ c R k j) $$ []
  · isplitr; · iexact Hrel
    iexact Hnew
  iapply (Rounds.wp_signal Variants.none EQ (sched I) (c.tc : Thread nD τ) none (dst := ((up c R).tc : Thread nD τ)) (sem := cS R k) (r := 0) (d := j + 1)
      (κ := κ (((up c R).tc : Thread nD τ), .reg (cS R k))) (k' := 1)
      (by rw [duties_credit I _ R hk]; exact Finset.mem_Icc.mpr ⟨by omega, hj⟩) rfl (2 + item (j + 1) R k) (O₀ := O c (item (j + 1) R k)) (O c (item (j + 1) R k + 1))
      (by rw [O_step c (item_lt R (by omega) (by omega)), it_credit c R hk (by omega) hj]) (W := W)) $$ [HO Ht]
  · isplitr; · iapply (Ctx_own I κ κS (up c R) (osem_reg R hk)); iexact HC
    isplitl [HO]; · iexact HO
    isplitl [Ht]; · iexact Ht
    isplitr
    · rw [payload_credit I (up c R) R hk, cPay_eq, dn_up]; iexact Hrel'
    · iapply (rch_own (up c R) (osem_reg R hk)); iexact Hr
  iintro HO
  iapply Hk $$ [HO] Hrel'
  iexists _; iexact HO

/-- What core `c` has of a credit cell after `j` waits on it. -/
def crSt (c : Dev nD) (R : Bool) (k j : ℕ) : sProp 𝕄 :=
  iprop(∃ T : Finset ℕ, ⌜T ⊆ Finset.Icc 1 (30 + k) ∧ j ≤ T.card⌝ ∗ atPos EQ ((c.tc : Thread nD τ), .reg (cS R k)) 0 T j ∗ bigSep T fun d => cPay c R k d)

/-- A wait for a credit: the slot of the neighbour ahead has been handed back. -/
theorem wp_take (c : Dev nD) (R : Bool) {k j : ℕ} (hk : k < 2) {u i : ℕ} (hu : u ≤ 1 + i) (hu' : u < 258) (e : PR F) (Q : PUnit → sProp 𝕄) :
    iprop(Ctx I κ κS ∗ cred (tallyAt ((c.tc : Thread nD τ), .reg (cS R k)) u 1) ∗ OW c i ∗ crSt c R k j)
      ⊢ iprop((OW c i -∗ crSt c R k (j + 1) -∗ released ES (dn c R, item (j + 1) R k) 1 -∗ WP c e Q)
        -∗ WP c (.op (.semWait (cS R k) (1#32).toInt) fun _ => e) Q) := by
  unfold OW crSt
  iintro ⟨#HC, Hcr, ⟨%W, HO⟩, ⟨%T, %hT, Hat, #HT⟩⟩ Hk
  iapply (Rounds.wp_wait Variants.none EQ (sched I) (c.tc : Thread nD τ) none (κ := κ ((c.tc : Thread nD τ), .reg (cS R k))) (k' := 1)
      (wpE_semWait_eq Variants.none (c.tc : Thread nD τ) none Set.univ) (Set.mem_univ _) (N := {(.reg (cS R k), u)}) (cr := Finsupp.single u 1) (O := O c i) (W := W) (R := 0) (m := j) (T := T)
      (by rw [Util.total_single]) (image_single_subset (.reg (cS R k)) u 1)) $$ [Hcr HO Hat]
  · isplitr; · iapply (Ctx_own I κ κS c (osem_reg R hk)); iexact HC
    isplitl [Hcr]; · iexact Hcr
    isplitl [HO]; · iexact HO
    isplitr; · iapply (mayWait c _ hu hu'); iapply (Ctx_lev I κ κS); iexact HC
    iexact Hat
  iintro %S ⟨%hS, HO, Hat, Hpay⟩
  rw [duties_credit I c R hk, expect_credit I c R hk] at hS
  obtain ⟨hTS, hSD, hcard⟩ := hS
  have hc1 : (Finset.Icc 1 (30 + k) \ S).card = (30 + k) - S.card := by
    rw [Finset.card_sdiff_of_subset hSD, Nat.card_Icc]; omega
  have hle : S.card ≤ 30 + k := by have := Finset.card_le_card hSD; rw [Nat.card_Icc] at this; omega
  have hSc : j + 1 ≤ S.card := by omega
  obtain ⟨d, hd, hjd⟩ : ∃ d ∈ S, j + 1 ≤ d := by
    by_contra hn
    have hsub : S ⊆ Finset.Icc 1 j := fun x hx => by
      have h1 := Finset.mem_Icc.mp (hSD hx)
      have h2 : ¬ j + 1 ≤ x := fun hle => hn ⟨x, hx, hle⟩
      exact Finset.mem_Icc.mpr ⟨h1.1, by omega⟩
    have := Finset.card_le_card hsub
    rw [Nat.card_Icc] at this; omega
  have hpay : bigSep (S \ T) (fun d => (sched I).payload ((c.tc : Thread nD τ), .reg (cS R k)) 0 d) = bigSep (S \ T) (fun d => cPay c R k d) :=
    bigSep_congr fun d _ => payload_credit I c R hk d
  have hall : iprop(bigSep T (fun d => cPay c R k d) ∗ bigSep (S \ T) (fun d => cPay c R k d)) ⊢ (bigSep S (fun d => cPay c R k d) : sProp 𝕄) := by
    rw [← Finset.union_sdiff_of_subset hTS, bigSep_union Finset.disjoint_sdiff, Finset.union_sdiff_of_subset hTS]
    exact BI.Entails.refl _
  ihave Hp := (Entails.of_eq hpay) $$ Hpay
  ihave #HS := hall $$ [Hp]
  · isplitr; · iexact HT
    iexact Hp
  have hget : bigSep S (fun d => cPay c R k d) ⊢ (released ES (dn c R, item (j + 1) R k) 1 : sProp 𝕄) :=
    (bigSep_elim hd).trans (rel_get (dn c R) R k (by omega) hjd)
  ihave #Hrel := hget $$ HS
  iapply Hk $$ [HO] [Hat] Hrel
  · iexists _; iexact HO
  iexists S
  isplitr; · ipureintro; exact ⟨hSD, hSc⟩
  isplitl [Hat]; · iexact Hat
  iexact HS

/-! ## The transfers -/

theorem own_send (c : Dev nD) (R : Bool) {a : ℕ} (h : ℕ) (ha : 2 ≤ a) (ha' : a < 4) : own c (item h R a) = ((c.tc : Thread nD τ), .dma (dS R (kindOf a) h)) := by
  unfold own; rw [ia_item h R ha', if_neg (by omega), dcell_item h R ha']
theorem peer_send (c : Dev nD) (R : Bool) {a : ℕ} (h : ℕ) (ha : 2 ≤ a) (ha' : a < 4) : peer c (item h R a) = dn c R := by
  unfold peer; rw [ia_item h R ha', iR_item h R ha', if_neg (by omega)]
theorem it_sendX (c : Dev nD) (R : Bool) {h : ℕ} (hh : h ≤ 30) :
    it c (item h R 2) = tallyAt (((dn c R).tc : Thread nD τ), .dma (dS R 1 h)) (2 + item h R 2) Nx := by
  unfold it; rw [peer_send c R h (by decide) (by decide), own_send _ R h (by decide) (by decide)]
  unfold amt; rw [ia_item h R (by decide), ih_item h R (by decide), if_neg (by decide), if_neg (by decide), if_pos rfl, if_pos hh]; rfl
theorem it_sendP (c : Dev nD) (R : Bool) (h : ℕ) :
    it c (item h R 3) = tallyAt (((dn c R).tc : Thread nD τ), .dma (dS R 3 h)) (2 + item h R 3) Np := by
  unfold it; rw [peer_send c R h (by decide) (by decide), own_send _ R h (by decide) (by decide)]
  unfold amt; rw [ia_item h R (by decide), if_neg (by decide), if_neg (by decide), if_neg (by decide)]; rfl

/-- The tokens sent on. -/
theorem wp_sendX (c : Dev nD) (R : Bool) {h : ℕ} (hh : h ≤ 30) {hsrc : (bX R h).view.WordExact} {hdst : (bX R (h + 1)).view.WordExact}
    {hsc} {hsem : DmaTarget.Typed Space.vmem (.dma (dS R 1 h)) (.remote (Dev.tc (dn c R)) (bX R (h + 1)) (.dma (dS R 0 h)) hsc)} (e : PR F) (Q : PUnit → sProp 𝕄) :
    iprop(Ctx I κ κS ∗ rch c ∗ rch (dn c R) ∗ XC c R h fullShare (XV I R h c) ∗ XS (dn c R) R (h + 1) fullShare ∗ OW c (item h R 2)
        ∗ dutyTok EQ ((c.tc : Thread nD τ), .dma (dS R 0 h)) 0 0 ∗ dutyTok EQ (((dn c R).tc : Thread nD τ), .dma (dS R 1 h)) 0 0)
      ⊢ iprop((OW c (item h R 2 + 1) -∗ XC c R h fullShare.right (XV I R h c) -∗ cred (tallyAt ((c.tc : Thread nD τ), .dma (dS R 0 h)) 1 Nx) -∗ WP c e Q)
        -∗ WP c (.op (.enqueueDma (bX R h) (.remote (Dev.tc (dn c R)) (bX R (h + 1)) (.dma (dS R 0 h)) hsc) (.dma (dS R 1 h)) hsrc hdst hsem) fun _ => e) Q) := by
  unfold OW XC XS
  iintro ⟨#HC, #Hr, #Hr', ⟨%f, %hf, Hf⟩, ⟨%g, Hg⟩, ⟨%W, HO⟩, Ht, Ht'⟩ Hk
  have hsp : ((bX R h).view.loc (c.tc : Thread nD τ) ↦[(bX R h).view.set]{fullShare} f : sProp 𝕄)
      ⊢ iprop(((bX R h).view.loc (c.tc : Thread nD τ) ↦[(bX R h).view.set]{fullShare.left} f)
        ∗ (bX R h).view.loc (c.tc : Thread nD τ) ↦[(bX R h).view.set]{fullShare.right} f) :=
    (pointsTo_share (PosShare.mem_left_op_right fullShare)).1
  ihave Hf2 := hsp $$ Hf
  icases Hf2 with ⟨Hl, Hrt⟩
  iapply (Rounds.wp_send_pointsTo Variants.none EQ (sched I) (c.tc : Thread nD τ) none (c' := ((dn c R).tc : Thread nD τ)) (src := bX R h) (dst := bX R (h + 1))
      (sS := .dma (dS R 0 h)) (sem := .dma (dS R 1 h)) (q := fullShare.left) (fs := f)
      (κ₁ := κ ((c.tc : Thread nD τ), .dma (dS R 0 h))) (κ₂ := κ (((dn c R).tc : Thread nD τ), .dma (dS R 1 h)))
      (r₁ := 0) (r₂ := 0) (d₁ := 0) (d₂ := 0) (fd := g)
      (by rw [duties_dma I _ R (by decide) (by omega) (by omega)]; exact Finset.mem_singleton_self _)
      (by rw [duties_dma I _ R (by decide) (by omega) (by omega)]; exact Finset.mem_singleton_self _)
      (2 + item h R 2) 1 Nx (Nx_eq R (h + 1) _) (by rw [amount_dma I _ R (by decide) (by omega)]; rfl) (by rw [amount_dma I _ R (by decide) (by omega)]; rfl)
      (O₀ := O c (item h R 2)) (O c (item h R 2 + 1)) (by rw [O_step c (item_lt R (by omega) (by decide)), it_sendX c R hh]) (W := W)
      (by rw [payload_dma I _ R (by decide) (by omega)]
          unfold dPay XS; rw [if_pos rfl]
          iintro H; iexists _; iexact H)
      (by rw [payload_dma I _ R (by decide) (by omega)]
          unfold dPay XC; rw [if_neg (by decide), if_pos rfl]
          iintro H; iexists ((bX R (h + 1)).view.write (Elt F) g ((bX R h).view.read (Elt F) f) Finset.univ); isplitr
          · ipureintro; rw [View.read_write_univ, hf]; rw [XV.eq_2, up_dn]
          iexact H)) $$ [Hl Hg HO Ht Ht']
  · isplitr; · iapply (Ctx_own I κ κS c (osem_dma R (by decide) (by omega))); iexact HC
    isplitr; · iapply (Ctx_own I κ κS (dn c R) (osem_dma R (by decide) (by omega))); iexact HC
    isplitl [Hl]; · iexact Hl
    isplitl [Hg]; · iexact Hg
    isplitl [HO]; · iexact HO
    isplitl [Ht]; · iexact Ht
    isplitr; · iapply (rch_own c (osem_dma R (by decide) (by omega))); iexact Hr
    isplitl [Ht']; · iexact Ht'
    iapply (rch_own (dn c R) (osem_dma R (by decide) (by omega))); iexact Hr'
  iintro ⟨Hcr, HO⟩
  iapply Hk $$ [HO] [Hrt] Hcr
  · iexists _; iexact HO
  iexists f
  isplitr; · ipureintro; exact hf
  iexact Hrt

/-- The sums sent on. -/
theorem wp_sendP (c : Dev nD) (R : Bool) {h : ℕ} (hh : h < 32) {hsrc : (bP R h).view.WordExact} {hdst : (bP R (h + 1)).view.WordExact}
    {hsc} {hsem : DmaTarget.Typed Space.vmem (.dma (dS R 3 h)) (.remote (Dev.tc (dn c R)) (bP R (h + 1)) (.dma (dS R 2 h)) hsc)} (e : PR F) (Q : PUnit → sProp 𝕄) :
    iprop(Ctx I κ κS ∗ rch c ∗ rch (dn c R) ∗ PC c R h fullShare (stepV I c (XV I R h c) (PV I R h c)) ∗ PS (dn c R) R (h + 1) fullShare ∗ OW c (item h R 3)
        ∗ dutyTok EQ ((c.tc : Thread nD τ), .dma (dS R 2 h)) 0 0 ∗ dutyTok EQ (((dn c R).tc : Thread nD τ), .dma (dS R 3 h)) 0 0)
      ⊢ iprop((OW c (item h R 3 + 1) -∗ cred (tallyAt ((c.tc : Thread nD τ), .dma (dS R 2 h)) 1 Np) -∗ WP c e Q)
        -∗ WP c (.op (.enqueueDma (bP R h) (.remote (Dev.tc (dn c R)) (bP R (h + 1)) (.dma (dS R 2 h)) hsc) (.dma (dS R 3 h)) hsrc hdst hsem) fun _ => e) Q) := by
  unfold OW PC PS
  iintro ⟨#HC, #Hr, #Hr', ⟨%f, %hf, Hf⟩, ⟨%g, Hg⟩, ⟨%W, HO⟩, Ht, Ht'⟩ Hk
  iapply (Rounds.wp_send_pointsTo Variants.none EQ (sched I) (c.tc : Thread nD τ) none (c' := ((dn c R).tc : Thread nD τ)) (src := bP R h) (dst := bP R (h + 1))
      (sS := .dma (dS R 2 h)) (sem := .dma (dS R 3 h)) (q := fullShare) (fs := f)
      (κ₁ := κ ((c.tc : Thread nD τ), .dma (dS R 2 h))) (κ₂ := κ (((dn c R).tc : Thread nD τ), .dma (dS R 3 h)))
      (r₁ := 0) (r₂ := 0) (d₁ := 0) (d₂ := 0) (fd := g)
      (by rw [duties_dma I _ R (by decide) hh (by omega)]; exact Finset.mem_singleton_self _)
      (by rw [duties_dma I _ R (by decide) hh (by omega)]; exact Finset.mem_singleton_self _)
      (2 + item h R 3) 1 Np (Np_eq R (h + 1) _) (by rw [amount_dma I _ R (by decide) hh]; rfl) (by rw [amount_dma I _ R (by decide) hh]; rfl)
      (O₀ := O c (item h R 3)) (O c (item h R 3 + 1)) (by rw [O_step c (item_lt R hh (by decide)), it_sendP c R h]) (W := W)
      (by rw [payload_dma I _ R (by decide) hh]
          unfold dPay PS; rw [if_neg (by decide), if_neg (by decide), if_pos rfl]
          iintro H; iexists _; iexact H)
      (by rw [payload_dma I _ R (by decide) hh]
          unfold dPay PC; rw [if_neg (by decide), if_neg (by decide), if_neg (by decide)]
          iintro H; iexists ((bP R (h + 1)).view.write (Elt F) g ((bP R h).view.read (Elt F) f) Finset.univ); isplitr
          · ipureintro; rw [View.read_write_univ, hf]; rw [PV.eq_2, up_dn]
          iexact H)) $$ [Hf Hg HO Ht Ht']
  · isplitr; · iapply (Ctx_own I κ κS c (osem_dma R (by decide) hh)); iexact HC
    isplitr; · iapply (Ctx_own I κ κS (dn c R) (osem_dma R (by decide) hh)); iexact HC
    isplitl [Hf]; · iexact Hf
    isplitl [Hg]; · iexact Hg
    isplitl [HO]; · iexact HO
    isplitl [Ht]; · iexact Ht
    isplitr; · iapply (rch_own c (osem_dma R (by decide) hh)); iexact Hr
    isplitl [Ht']; · iexact Ht'
    iapply (rch_own (dn c R) (osem_dma R (by decide) hh)); iexact Hr'
  iintro ⟨Hcr, HO⟩
  iapply Hk $$ [HO] Hcr
  iexists _; iexact HO

end Cert.KernelIdeal.Moe

end
-- ==== Proof.Steps.lean ====
/- The loads and stores of a hop: what the tokens' part and the sums' part of a slot read, and the accumulation. -/
module

public import proofs.«01_k».proof.Proof.Ops
public import Idealize.ShloMosaic.Lib.Pointwise.Index

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## The parts of a slot -/

/-- The rectangles of a slot: its tokens with their coefficients, the tokens, the coefficients, the sums. -/
abbrev rX (n : ℕ) : Rect S2x256x896 := Rect.unit ![n % 2, 0, 0] S1x256x384.size (inbX (mod2 n))
abbrev rT (n : ℕ) : Rect S2x256x896 := Rect.unit ![n % 2, 0, 0] S1x256x256.size (inbT (mod2 n))
abbrev rC (n : ℕ) : Rect S2x256x896 := Rect.unit ![n % 2, 0, 256] S1x256x128.size (inbC (mod2 n))
abbrev rP (n : ℕ) : Rect S2x256x896 := Rect.unit ![n % 2, 0, 384] S1x256x512.size (inbP (mod2 n))

theorem bX_set (R : Bool) (n : ℕ) : (bX R n).view.set = ((bufM R).view.slice (rX n)).set := View.set_reshape _ _
theorem bP_set (R : Bool) (n : ℕ) : (bP R n).view.set = ((bufM R).view.slice (rP n)).set := View.set_reshape _ _

theorem mem_r3 {o0 o1 o2 z0 z1 z2 : ℕ} {inb} {i : S2x256x896.Idx} :
    i ∈ (Rect.unit (s := S2x256x896) ![o0, o1, o2] ![z0, z1, z2] inb).set
      ↔ (o0 ≤ (i 0).val ∧ (i 0).val < o0 + z0) ∧ (o1 ≤ (i 1).val ∧ (i 1).val < o1 + z1) ∧ (o2 ≤ (i 2).val ∧ (i 2).val < o2 + z2) := by
  rw [Rect.mem_set_unit]
  constructor
  · intro h; exact ⟨h 0, h 1, h 2⟩
  · rintro ⟨h0, h1, h2⟩ a; fin_cases a; exacts [h0, h1, h2]

theorem slice_mono (R : Bool) {r r' : Rect S2x256x896} (h : ∀ i, i ∈ r.set → i ∈ r'.set) : ((bufM R).access r).set ⊆ ((bufM R).view.slice r').set := by
  show ((bufM R).view.slice r).set ⊆ _
  rw [View.set_slice, View.set_slice]; exact Finset.map_subset_map.mpr h

theorem T_sub (R : Bool) (n : ℕ) : ((bufM R).access (rT n)).set ⊆ (bX R n).view.set := by
  rw [bX_set]; refine slice_mono R fun i hi => ?_
  have h := mem_r3.mp hi
  exact mem_r3.mpr (by omega)
theorem C_sub (R : Bool) (n : ℕ) : ((bufM R).access (rC n)).set ⊆ (bX R n).view.set := by
  rw [bX_set]; refine slice_mono R fun i hi => ?_
  have h := mem_r3.mp hi
  exact mem_r3.mpr (by omega)
theorem P_sub (R : Bool) (n : ℕ) : ((bufM R).access (rP n)).set ⊆ (bP R n).view.set := by
  rw [bP_set]

/-- What a part of a slot reads, element by element. -/
theorem readX_apply (R : Bool) (n : ℕ) (f : (bufM R).view.ty.Contents (Elt F)) (j : S256x384.Idx) (k : S1x256x384.Idx)
    (h1 : (k 1).val = (j 0).val) (h2 : (k 2).val = (j 1).val) :
    (bX R n).view.read (Elt F) f j = ((bufM R).access (rX n)).read (Elt F) f k := by
  refine shapeCast_apply (((bufM R).access (rX n)).read (Elt F) f) (show S1x256x384.ShapeCasts S256x384 by decide) j k ?_
  have h0 : (k 0).val < 1 := (k 0).isLt
  rw [Shape.rowMajor_val_three, Shape.rowMajor_val_two]
  show ((k 0).val * 256 + (k 1).val) * 384 + (k 2).val = (j 0).val * 384 + (j 1).val
  omega

theorem tokOf_apply (v : Vec F S256x384 .bf16) (j : S1x256x256.Idx) (b : Fin 256) (d : Fin 384) (hb : b.val = (j 1).val) (hd : d.val = (j 2).val) :
    tokOf v j = v (ix2 b d) := by
  have h0 : (j 0).val < 1 := (j 0).isLt
  have h2 : (j 2).val < 256 := (j 2).isLt
  unfold tokOf
  rw [shapeCast_apply _ _ j (ix2 b (⟨(j 2).val, h2⟩ : Fin 256)) (by
      rw [Shape.rowMajor_val_three, Shape.rowMajor_val_two]
      show b.val * 256 + (j 2).val = ((j 0).val * 256 + (j 1).val) * 256 + (j 2).val
      omega)]
  refine extractStridedSlice_apply _ _ _ _ (ix2 b d) fun a => ?_
  fin_cases a
  · show b.val = 0 + b.val; omega
  · show d.val = 0 + (j 2).val; omega
theorem coefOf_apply (v : Vec F S256x384 .bf16) (j : S1x256x128.Idx) (b : Fin 256) (d : Fin 384) (hb : b.val = (j 1).val) (hd : d.val = 256 + (j 2).val) :
    coefOf v j = v (ix2 b d) := by
  have h0 : (j 0).val < 1 := (j 0).isLt
  have h2 : (j 2).val < 128 := (j 2).isLt
  unfold coefOf
  rw [shapeCast_apply _ _ j (ix2 b (⟨(j 2).val, h2⟩ : Fin 128)) (by
      rw [Shape.rowMajor_val_three, Shape.rowMajor_val_two]
      show b.val * 128 + (j 2).val = ((j 0).val * 256 + (j 1).val) * 128 + (j 2).val
      omega)]
  refine extractStridedSlice_apply _ _ _ _ (ix2 b d) fun a => ?_
  fin_cases a
  · show b.val = 0 + b.val; omega
  · show d.val = 256 + (j 2).val; omega
theorem read_tok (R : Bool) (n : ℕ) (f : (bufM R).view.ty.Contents (Elt F)) :
    ((bufM R).access (rT n)).read (Elt F) f = tokOf ((bX R n).view.read (Elt F) f) := by
  funext j
  have h0 : (j 0).val < 1 := (j 0).isLt
  have h1 : (j 1).val < 256 := (j 1).isLt
  have h2 : (j 2).val < 256 := (j 2).isLt
  refine Eq.trans ?_ (tokOf_apply _ j (⟨(j 1).val, h1⟩ : Fin 256) (⟨(j 2).val, by omega⟩ : Fin 384) rfl rfl).symm
  rw [readX_apply R n f _ (ix3 (0 : Fin 1) (⟨(j 1).val, h1⟩ : Fin 256) (⟨(j 2).val, by omega⟩ : Fin 384)) rfl rfl]
  show (bufM R).view.read (Elt F) f _ = (bufM R).view.read (Elt F) f _
  congr 1
  funext a; apply Fin.ext; fin_cases a
  · show n % 2 + 1 * (j 0).val = n % 2 + 1 * 0; omega
  · show 0 + 1 * (j 1).val = 0 + 1 * (j 1).val; rfl
  · show 0 + 1 * (j 2).val = 0 + 1 * (j 2).val; rfl
theorem read_coef (R : Bool) (n : ℕ) (f : (bufM R).view.ty.Contents (Elt F)) :
    ((bufM R).access (rC n)).read (Elt F) f = coefOf ((bX R n).view.read (Elt F) f) := by
  funext j
  have h0 : (j 0).val < 1 := (j 0).isLt
  have h1 : (j 1).val < 256 := (j 1).isLt
  have h2 : (j 2).val < 128 := (j 2).isLt
  refine Eq.trans ?_ (coefOf_apply _ j (⟨(j 1).val, h1⟩ : Fin 256) (⟨256 + (j 2).val, by omega⟩ : Fin 384) rfl rfl).symm
  rw [readX_apply R n f _ (ix3 (0 : Fin 1) (⟨(j 1).val, h1⟩ : Fin 256) (⟨256 + (j 2).val, by omega⟩ : Fin 384)) rfl rfl]
  show (bufM R).view.read (Elt F) f _ = (bufM R).view.read (Elt F) f _
  congr 1
  funext a; apply Fin.ext; fin_cases a
  · show n % 2 + 1 * (j 0).val = n % 2 + 1 * 0; omega
  · show 0 + 1 * (j 1).val = 0 + 1 * (j 1).val; rfl
  · show 256 + 1 * (j 2).val = 0 + 1 * (256 + (j 2).val); omega
theorem read_sums (R : Bool) (n : ℕ) (f : (bufM R).view.ty.Contents (Elt F)) :
    ((bufM R).access (rP n)).read (Elt F) f = thickP ((bP R n).view.read (Elt F) f) :=
  (shapeCast_shapeCast (s := S1x256x512) (t := S256x512) (((bufM R).access (rP n)).read (Elt F) f) (by decide) (by decide)).symm
theorem read_flat (R : Bool) (n : ℕ) (f : (bufM R).view.ty.Contents (Elt F)) :
    (bP R n).view.read (Elt F) f = flatP (((bufM R).access (rP n)).read (Elt F) f) := rfl

/-! ## The loads and the accumulation -/

variable (I : Inp F)

/-- The experts' weights core `c` holds. -/
def WW (c : Dev nD) (w : Vec F S256x2048 .bf16) : sProp 𝕄 := iprop((c.tc : Thread nD τ).loc cc0_scratch2 ↦{fullShare} w)

theorem wp_loadX (c : Dev nD) (R : Bool) {n s : ℕ} (h : s = n % 2) (hs : s < 2) (q : PosShare TreeShare) (v : Vec F S256x384 .bf16) (w : Vec F S256x2048 .bf16)
    (k : Vec F S1x256x256 .bf16 → Vec F S1x256x128 .bf16 → Vec F S256x2048 .bf16 → PR F) (Q : PUnit → sProp 𝕄) :
    iprop(XC c R n q v ∗ WW c w)
      ⊢ iprop((XC c R n q v -∗ WW c w -∗ WP c (k (tokOf v) (coefOf v) w) Q) -∗ WP c (loadX (rg c R) (Memref.whole cc0_scratch2) s hs k) Q) := by
  subst h
  unfold XC WW loadX
  iintro ⟨⟨%f, %hf, Hf⟩, Hw⟩ Hk
  iapply (wp_load_rect (c := (c.tc : Thread nD τ)) (m := bufM R) (r := rT n) (f := f) (q := q) Variants.none none Set.univ (T_sub R n)) $$ Hf
  iintro Hf
  rw [read_tok R n f, hf]
  iapply (wp_load_rect (c := (c.tc : Thread nD τ)) (m := bufM R) (r := rC n) (f := f) (q := q) Variants.none none Set.univ (C_sub R n)) $$ Hf
  iintro Hf
  rw [read_coef R n f, hf]
  iapply (wp_load_rect (c := (c.tc : Thread nD τ)) (m := Memref.whole cc0_scratch2) (r := Rect.unit (s := S256x2048) ![0, 0] S256x2048.size Facts₀.inb_S256x2048_S256x2048_0_0) (f := w) (q := fullShare)
    Variants.none none Set.univ (Finset.subset_univ _)) $$ Hw
  iintro Hw
  have e : ((Memref.whole cc0_scratch2).access (Rect.unit (s := S256x2048) ![0, 0] S256x2048.size Facts₀.inb_S256x2048_S256x2048_0_0)).read (Elt F) w = w :=
    Memref.read_access_unit_zero (Elt F) cc0_scratch2 (by funext a; fin_cases a <;> rfl) _ w
  rw [e]
  iapply Hk $$ [Hf] Hw
  iexists f
  isplitr; · ipureintro; exact hf
  iexact Hf

theorem wp_stepP (c : Dev nD) (R : Bool) {n s : ℕ} (h : s = n % 2) (hs : s < 2) (x : Vec F S256x384 .bf16) (p : Vec F S256x512 .bf16) (k : PR F) (Q : PUnit → sProp 𝕄) :
    iprop(PC c R n fullShare p)
      ⊢ iprop((PC c R n fullShare (stepV I c x p) -∗ WP c k Q) -∗ WP c (stepP (rg c R) (sel c) s hs (tokOf x) (coefOf x) (I.w c) k) Q) := by
  subst h
  unfold PC stepP
  iintro ⟨%f, %hf, Hf⟩ Hk
  iapply (wp_load_rect (c := (c.tc : Thread nD τ)) (m := bufM R) (r := rP n) (f := f) (q := fullShare) Variants.none none Set.univ (P_sub R n)) $$ Hf
  iintro Hf
  rw [read_sums R n f, hf]
  iapply (wp_load_rect (c := (c.tc : Thread nD τ)) (m := bufM R) (r := rP n) (f := f) (q := fullShare) Variants.none none Set.univ (P_sub R n)) $$ Hf
  iintro Hf
  iapply (wp_store (c := (c.tc : Thread nD τ)) (m := bufM R) (r := rP n) (f := f) Variants.none none Set.univ ((View.setOn_subset_set _ _).trans (P_sub R n))) $$ Hf
  iintro Hf
  iapply Hk
  iexists _
  isplitr; rotate_left; · iexact Hf
  ipureintro
  rw [read_flat, View.read_write_univ]; rfl

end Cert.KernelIdeal.Moe

end
-- ==== Proof.Hops.lean ====
/- The hops: what a core holds between two hops of a ring, one hop, the first, the last, and the whole run of them. -/
module

public import proofs.«01_k».proof.Proof.Steps

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

variable (I : Inp F) (κ : GSem nD τ sig → ℕ) (κS : KK → ℕ)

theorem item_step (h : ℕ) (R : Bool) (a : ℕ) : item h R a + 1 = item h R (a + 1) := rfl

/-! ## The operations of ring `R` of core `c` -/

section Ops

variable (c : Dev nD) (R : Bool) (k : PR F)

theorem wp_waitXs (Q : PUnit → sProp 𝕄) {h s r i : ℕ} (hh : h < 32) (hv : h ≤ 30) (hs : s < 2) (hr : r < 2) :
    iprop(Ctx I κ κS ∗ cred (tallyAt ((c.tc : Thread nD τ), .dma (dS R 0 h)) 1 Nx) ∗ OW c i ∗ atPos EQ ((c.tc : Thread nD τ), .dma (dS R 0 h)) 0 ∅ 0)
      ⊢ iprop((OW c i -∗ semVal ((c.tc : Thread nD τ), .dma (dS R 0 h)) 0 -∗ XS c R h fullShare.left -∗ WP c k Q) -∗ WP c (waitXs (rg c R) h hh s r hs hr k) Q) := by
  unfold waitXs
  rw [xs_sem c R h hh]
  have e := wp_dmaWait I κ κS c R (k := 0) (h := h) (by decide) hh (by omega) (u := 1) (i := i) (by omega) (by decide)
    (src := (rg c R).X s hs) (dst := (rg c R).X r hr) (hsrc := (rg c R).wX hs) (hdst := (rg c R).wX hr) rfl k Q
  unfold dPay at e
  exact e
theorem wp_waitPs (Q : PUnit → sProp 𝕄) {h s r i : ℕ} (hh : h < 32) (hs : s < 2) (hr : r < 2) :
    iprop(Ctx I κ κS ∗ cred (tallyAt ((c.tc : Thread nD τ), .dma (dS R 2 h)) 1 Np) ∗ OW c i ∗ atPos EQ ((c.tc : Thread nD τ), .dma (dS R 2 h)) 0 ∅ 0)
      ⊢ iprop((OW c i -∗ semVal ((c.tc : Thread nD τ), .dma (dS R 2 h)) 0 -∗ PS c R h fullShare -∗ WP c k Q) -∗ WP c (waitPs (rg c R) h hh s r hs hr k) Q) := by
  unfold waitPs
  rw [ps_sem c R h hh]
  have e := wp_dmaWait I κ κS c R (k := 2) (h := h) (by decide) hh (by omega) (u := 1) (i := i) (by omega) (by decide)
    (src := (rg c R).P s hs) (dst := (rg c R).P r hr) (hsrc := (rg c R).wP hs) (hdst := (rg c R).wP hr) rfl k Q
  unfold dPay at e
  exact e
theorem wp_waitXr (Q : PUnit → sProp 𝕄) {h s u i : ℕ} (hh : h < 32) (hv : h ≤ 30) (hs : s < 2) (hu : u ≤ 1 + i) (hu' : u < 258) :
    iprop(Ctx I κ κS ∗ cred (tallyAt ((c.tc : Thread nD τ), .dma (dS R 1 h)) u Nx) ∗ OW c i ∗ atPos EQ ((c.tc : Thread nD τ), .dma (dS R 1 h)) 0 ∅ 0)
      ⊢ iprop((OW c i -∗ semVal ((c.tc : Thread nD τ), .dma (dS R 1 h)) 0 -∗ XC c R (h + 1) fullShare (XV I R (h + 1) c) -∗ WP c k Q)
        -∗ WP c (waitXr (rg c R) h hh s hs k) Q) := by
  unfold waitXr
  rw [xr_sem c R h hh]
  have e := wp_dmaWait I κ κS c R (k := 1) (h := h) (by decide) hh (by omega) (u := u) (i := i) hu hu'
    (src := (rg c R).X s hs) (dst := (rg c R).X s hs) (hsrc := (rg c R).wX hs) (hdst := (rg c R).wX hs) rfl k Q
  unfold dPay at e
  exact e
theorem wp_waitPr (Q : PUnit → sProp 𝕄) {h s u i : ℕ} (hh : h < 32) (hs : s < 2) (hu : u ≤ 1 + i) (hu' : u < 258) :
    iprop(Ctx I κ κS ∗ cred (tallyAt ((c.tc : Thread nD τ), .dma (dS R 3 h)) u Np) ∗ OW c i ∗ atPos EQ ((c.tc : Thread nD τ), .dma (dS R 3 h)) 0 ∅ 0)
      ⊢ iprop((OW c i -∗ semVal ((c.tc : Thread nD τ), .dma (dS R 3 h)) 0 -∗ PC c R (h + 1) fullShare (PV I R (h + 1) c) -∗ WP c k Q)
        -∗ WP c (waitPr (rg c R) h hh s hs k) Q) := by
  unfold waitPr
  rw [pr_sem c R h hh]
  have e := wp_dmaWait I κ κS c R (k := 3) (h := h) (by decide) hh (by omega) (u := u) (i := i) hu hu'
    (src := (rg c R).P s hs) (dst := (rg c R).P s hs) (hsrc := (rg c R).wP hs) (hdst := (rg c R).wP hs) rfl k Q
  unfold dPay at e
  exact e

theorem wp_sigCx (Q : PUnit → sProp 𝕄) {j : ℕ} (hj : j + 1 ≤ 30) :
    iprop(Ctx I κ κS ∗ rch (up c R) ∗ XS c R (j + 2) fullShare ∗ readerAt ES (c, item (j + 1) R 0) 0 ∗ rel c R 0 j
        ∗ dutyTok EQ (((up c R).tc : Thread nD τ), .reg (cS R 0)) 0 (j + 1) ∗ OW c (item (j + 1) R 0))
      ⊢ iprop((OW c (item (j + 1) R 1) -∗ rel c R 0 (j + 1) -∗ WP c k Q) -∗ WP c (sigCx (rg c R) k) Q) := by
  have e := wp_give I κ κS c R (k := 0) (j := j) (by decide) (by omega) k Q
  rw [slotOf_item c R (j + 1) (by decide), if_pos rfl] at e
  unfold sigCx; rw [cx_sem c R]
  exact e
theorem wp_sigCp (Q : PUnit → sProp 𝕄) {j : ℕ} (hj : j + 1 ≤ 31) :
    iprop(Ctx I κ κS ∗ rch (up c R) ∗ PS c R (j + 2) fullShare ∗ readerAt ES (c, item (j + 1) R 1) 0 ∗ rel c R 1 j
        ∗ dutyTok EQ (((up c R).tc : Thread nD τ), .reg (cS R 1)) 0 (j + 1) ∗ OW c (item (j + 1) R 1))
      ⊢ iprop((OW c (item (j + 1) R 2) -∗ rel c R 1 (j + 1) -∗ WP c k Q) -∗ WP c (sigCp (rg c R) k) Q) := by
  have e := wp_give I κ κS c R (k := 1) (j := j) (by decide) (by omega) k Q
  rw [slotOf_item c R (j + 1) (by decide), if_neg (by decide)] at e
  unfold sigCp; rw [cp_sem c R]
  exact e

/-- A credit awaited and the slot of the neighbour ahead taken. -/
theorem wp_waitCx (Q : PUnit → sProp 𝕄) {j i : ℕ} (hj : j + 1 ≤ 30) (hi : item (j + 1) R 0 + 1 ≤ i) :
    iprop(Ctx I κ κS ∗ cred (tallyAt ((c.tc : Thread nD τ), .reg (cS R 0)) (2 + item (j + 1) R 0) 1) ∗ OW c i ∗ crSt c R 0 j
        ∗ writeTok ES (dn c R, item (j + 1) R 0) 1)
      ⊢ iprop((OW c i -∗ crSt c R 0 (j + 1) -∗ XS (dn c R) R (j + 2) fullShare -∗ WP c k Q) -∗ WP c (waitCx (rg c R) k) Q) := by
  have hlt := item_lt R (h := j + 1) (a := 0) (by omega) (by decide)
  unfold waitCx; rw [cx_sem c R]
  iintro ⟨#HC, Hcr, HO, Hst, Hw⟩ Hk
  iapply (wp_take I κ κS c R (k := 0) (j := j) (by decide) (u := 2 + item (j + 1) R 0) (i := i) (by omega) (by omega) k Q) $$ [Hcr HO Hst]
  · isplitr; · iexact HC
    isplitl [Hcr]; · iexact Hcr
    isplitl [HO] <;> iassumption
  iintro HO Hst Hrel
  have et := slot_take (E := ES (F := F)) (S := slotOf (dn c R) (item (j + 1) R 0)) (ι := κS (dn c R, item (j + 1) R 0)) (k := (dn c R, item (j + 1) R 0)) (Es := Set.univ) (Set.mem_univ _) 1
  rw [slotOf_item (dn c R) R (j + 1) (by decide), if_pos rfl] at et
  have es := Ctx_slot I κ κS (dn c R) hlt
  rw [slotOf_item (dn c R) R (j + 1) (by decide), if_pos rfl] at es
  imod et $$ [Hrel Hw] with Hs
  · isplitr; · iapply es; iexact HC
    isplitl [Hrel] <;> iassumption
  iapply Hk $$ HO Hst Hs
theorem wp_waitCp (Q : PUnit → sProp 𝕄) {j i : ℕ} (hj : j + 1 ≤ 31) (hi : item (j + 1) R 1 + 1 ≤ i) :
    iprop(Ctx I κ κS ∗ cred (tallyAt ((c.tc : Thread nD τ), .reg (cS R 1)) (2 + item (j + 1) R 1) 1) ∗ OW c i ∗ crSt c R 1 j
        ∗ writeTok ES (dn c R, item (j + 1) R 1) 1)
      ⊢ iprop((OW c i -∗ crSt c R 1 (j + 1) -∗ PS (dn c R) R (j + 2) fullShare -∗ WP c k Q) -∗ WP c (waitCp (rg c R) k) Q) := by
  have hlt := item_lt R (h := j + 1) (a := 1) (by omega) (by decide)
  unfold waitCp; rw [cp_sem c R]
  iintro ⟨#HC, Hcr, HO, Hst, Hw⟩ Hk
  iapply (wp_take I κ κS c R (k := 1) (j := j) (by decide) (u := 2 + item (j + 1) R 1) (i := i) (by omega) (by omega) k Q) $$ [Hcr HO Hst]
  · isplitr; · iexact HC
    isplitl [Hcr]; · iexact Hcr
    isplitl [HO] <;> iassumption
  iintro HO Hst Hrel
  have et := slot_take (E := ES (F := F)) (S := slotOf (dn c R) (item (j + 1) R 1)) (ι := κS (dn c R, item (j + 1) R 1)) (k := (dn c R, item (j + 1) R 1)) (Es := Set.univ) (Set.mem_univ _) 1
  rw [slotOf_item (dn c R) R (j + 1) (by decide), if_neg (by decide)] at et
  have es := Ctx_slot I κ κS (dn c R) hlt
  rw [slotOf_item (dn c R) R (j + 1) (by decide), if_neg (by decide)] at es
  imod et $$ [Hrel Hw] with Hs
  · isplitr; · iapply es; iexact HC
    isplitl [Hrel] <;> iassumption
  iapply Hk $$ HO Hst Hs

theorem wp_sendX' (Q : PUnit → sProp 𝕄) {h s r : ℕ} (hh : h < 32) (hv : h ≤ 30) (es : s = h % 2) (er : r = (h + 1) % 2) (hs : s < 2) (hr : r < 2) :
    iprop(Ctx I κ κS ∗ rch c ∗ rch (dn c R) ∗ XC c R h fullShare (XV I R h c) ∗ XS (dn c R) R (h + 1) fullShare ∗ OW c (item h R 2)
        ∗ dutyTok EQ ((c.tc : Thread nD τ), .dma (dS R 0 h)) 0 0 ∗ dutyTok EQ (((dn c R).tc : Thread nD τ), .dma (dS R 1 h)) 0 0)
      ⊢ iprop((OW c (item h R 3) -∗ XC c R h fullShare.right (XV I R h c) -∗ cred (tallyAt ((c.tc : Thread nD τ), .dma (dS R 0 h)) 1 Nx) -∗ WP c k Q)
        -∗ WP c (sendX (rg c R) h hh s r hs hr k) Q) := by
  subst es er
  unfold sendX
  have e := wp_sendX I κ κS c R hv (hsrc := (rg c R).wX hs) (hdst := (rg c R).wX hr) (hsc := by rfl) (hsem := ⟨⟨rfl, Or.inl rfl⟩, trivial⟩) k Q
  rw [← xs_sem c R h hh, ← xr_sem c R h hh] at e ⊢
  exact e
theorem wp_sendP' (Q : PUnit → sProp 𝕄) {h s r : ℕ} (hh : h < 32) (es : s = h % 2) (er : r = (h + 1) % 2) (hs : s < 2) (hr : r < 2) :
    iprop(Ctx I κ κS ∗ rch c ∗ rch (dn c R) ∗ PC c R h fullShare (stepV I c (XV I R h c) (PV I R h c)) ∗ PS (dn c R) R (h + 1) fullShare ∗ OW c (item h R 3)
        ∗ dutyTok EQ ((c.tc : Thread nD τ), .dma (dS R 2 h)) 0 0 ∗ dutyTok EQ (((dn c R).tc : Thread nD τ), .dma (dS R 3 h)) 0 0)
      ⊢ iprop((OW c (item h R 0 + 4) -∗ cred (tallyAt ((c.tc : Thread nD τ), .dma (dS R 2 h)) 1 Np) -∗ WP c k Q)
        -∗ WP c (sendP (rg c R) h hh s r hs hr k) Q) := by
  subst es er
  unfold sendP
  have e := wp_sendP I κ κS c R hh (hsrc := (rg c R).wP hs) (hdst := (rg c R).wP hr) (hsc := by rfl) (hsem := ⟨⟨rfl, Or.inl rfl⟩, trivial⟩) k Q
  rw [← ps_sem c R h hh, ← pr_sem c R h hh] at e ⊢
  exact e

end Ops

/-! ## What a hop works with -/

/-- What the payments of hop `h` spend: the slots' reader and writer records, the duties, the credits to come from the neighbour ahead. -/
def TxH (c : Dev nD) (R : Bool) (h : ℕ) : sProp 𝕄 :=
  iprop(readerAt ES (c, item h R 0) 0 ∗ readerAt ES (c, item h R 1) 0
    ∗ dutyTok EQ (((up c R).tc : Thread nD τ), .reg (cS R 0)) 0 h ∗ dutyTok EQ (((up c R).tc : Thread nD τ), .reg (cS R 1)) 0 h
    ∗ cred (tallyAt ((c.tc : Thread nD τ), .reg (cS R 0)) (2 + item h R 0) (amt (item h R 0))) ∗ cred (tallyAt ((c.tc : Thread nD τ), .reg (cS R 1)) (2 + item h R 1) (amt (item h R 1)))
    ∗ writeTok ES (dn c R, item h R 0) 1 ∗ writeTok ES (dn c R, item h R 1) 1
    ∗ dutyTok EQ ((c.tc : Thread nD τ), .dma (dS R 0 h)) 0 0 ∗ dutyTok EQ (((dn c R).tc : Thread nD τ), .dma (dS R 1 h)) 0 0
    ∗ dutyTok EQ ((c.tc : Thread nD τ), .dma (dS R 2 h)) 0 0 ∗ dutyTok EQ (((dn c R).tc : Thread nD τ), .dma (dS R 3 h)) 0 0)
/-- What the waits for the transfers of hop `h` spend. -/
def RxH (c : Dev nD) (R : Bool) (h : ℕ) : sProp 𝕄 :=
  iprop(atPos EQ ((c.tc : Thread nD τ), .dma (dS R 0 h)) 0 ∅ 0 ∗ atPos EQ ((c.tc : Thread nD τ), .dma (dS R 2 h)) 0 ∅ 0
    ∗ atPos EQ ((c.tc : Thread nD τ), .dma (dS R 1 h)) 0 ∅ 0 ∗ atPos EQ ((c.tc : Thread nD τ), .dma (dS R 3 h)) 0 ∅ 0
    ∗ cred (tallyAt ((c.tc : Thread nD τ), .dma (dS R 1 h)) (2 + item h R 2) (amt (item h R 2))) ∗ cred (tallyAt ((c.tc : Thread nD τ), .dma (dS R 3 h)) (2 + item h R 3) (amt (item h R 3))))
/-- The transfer cells of hop `h`, done with. -/
def DoneH (c : Dev nD) (R : Bool) (h : ℕ) : sProp 𝕄 :=
  iprop(semVal ((c.tc : Thread nD τ), .dma (dS R 0 h)) 0 ∗ semVal ((c.tc : Thread nD τ), .dma (dS R 2 h)) 0
    ∗ semVal ((c.tc : Thread nD τ), .dma (dS R 1 h)) 0 ∗ semVal ((c.tc : Thread nD τ), .dma (dS R 3 h)) 0)
/-- What the core knows throughout. -/
def Kn (c : Dev nD) : sProp 𝕄 := iprop(Ctx I κ κS ∗ rch c ∗ rch (dn c false) ∗ rch (dn c true))
instance Kn_persistent (c : Dev nD) : BI.Persistent (Kn I κ κS c) := by unfold Kn; infer_instance
theorem Kn_get (c : Dev nD) (R : Bool) : Kn I κ κS c ⊢ iprop(Ctx I κ κS ∗ rch c ∗ rch (dn c R) ∗ rch (up c R)) := by
  unfold Kn
  cases R
  · exact BI.Entails.refl _
  · iintro ⟨#H1, #H2, #H3, #H4⟩
    isplitr; · iexact H1
    isplitr; · iexact H2
    isplitr; · iexact H4
    iexact H3

/-- What a core holds of ring `R` after hop `j`. -/
def St (c : Dev nD) (R : Bool) (j : ℕ) : sProp 𝕄 :=
  iprop(XC c R j fullShare.right (XV I R j c) ∗ cred (tallyAt ((c.tc : Thread nD τ), .dma (dS R 0 j)) 1 Nx) ∗ cred (tallyAt ((c.tc : Thread nD τ), .dma (dS R 2 j)) 1 Np)
    ∗ crSt c R 0 j ∗ crSt c R 1 j ∗ rel c R 0 j ∗ rel c R 1 j)
/-- What it holds after the last. -/
def StE (c : Dev nD) (R : Bool) : sProp 𝕄 :=
  iprop(XC c R 31 fullShare (XV I R 31 c) ∗ XS c R 30 fullShare ∗ cred (tallyAt ((c.tc : Thread nD τ), .dma (dS R 2 31)) 1 Np) ∗ crSt c R 0 30 ∗ crSt c R 1 31)

theorem amt2 (R : Bool) {h : ℕ} (hh : h ≤ 30) : amt (item h R 2) = Nx := by
  unfold amt; rw [ia_item h R (by decide), ih_item h R (by decide), if_neg (by decide), if_neg (by decide), if_pos rfl, if_pos hh]
theorem amt3 (R : Bool) (h : ℕ) : amt (item h R 3) = Np := by
  unfold amt; rw [ia_item h R (by decide), if_neg (by decide), if_neg (by decide), if_neg (by decide)]
theorem amt_first (R : Bool) {a : ℕ} (ha : a < 2) : amt (item 0 R a) = 0 := by
  unfold amt; rw [ia_item 0 R (by omega), ih_item 0 R (by omega)]
  obtain rfl | rfl : a = 0 ∨ a = 1 := by omega
  · rfl
  · rfl
theorem amt_last (R : Bool) {a : ℕ} (ha : a = 0 ∨ a = 2) : amt (item 31 R a) = 0 := by
  unfold amt; rw [ia_item 31 R (by omega), ih_item 31 R (by omega)]
  obtain rfl | rfl := ha
  · rfl
  · rfl
theorem OW_skip (c : Dev nD) (h : ℕ) (R : Bool) (a : ℕ) (hh : h < 32) (ha : a < 4) (h0 : amt (item h R a) = 0) : (OW c (item h R a) : sProp 𝕄) = OW c (item h R (a + 1)) := by
  unfold OW; rw [O_skip c (item_lt R hh ha) h0]; rfl

theorem item_mono (R : Bool) (j a : ℕ) : 2 + item j R a ≤ 1 + item (j + 1) R a := by unfold item; omega

abbrev wM : Memref sig .tc .vmem S256x2048 .bf16 := Memref.whole cc0_scratch2

/-- Hop `j + 1`. -/
theorem wp_hop (c : Dev nD) (R : Bool) {j : ℕ} (hj : j < 30) (k : PR F) (Q : PUnit → sProp 𝕄) :
    iprop(Kn I κ κS c ∗ TxH c R (j + 1) ∗ RxH c R j ∗ OW c (item (j + 1) R 0) ∗ St I c R j ∗ WW c (I.w c))
      ⊢ iprop((OW c (item (j + 1) R 0 + 4) -∗ St I c R (j + 1) -∗ WW c (I.w c) -∗ DoneH c R j -∗ WP c k Q) -∗ WP c (hop (rg c R) wM (sel c) j hj k) Q) := by
  have hlt2 := item_lt R (h := j) (a := 2) (by omega) (by decide)
  have hlt3 := item_lt R (h := j) (a := 3) (by omega) (by decide)
  unfold St TxH RxH DoneH hop
  rw [amt2 R (by omega), amt3, amt_credit R (k := 0) (h := j + 1) (by decide) (by omega) (by omega), amt_credit R (k := 1) (h := j + 1) (by decide) (by omega) (by omega)]
  iintro ⟨#HK, ⟨Hr0, Hr1, Hd0, Hd1, Hc0, Hc1, Hw0, Hw1, Hta, Htb, Htc, Htd⟩, ⟨Hax, Hap, Haxr, Hapr, Hcx, Hcp⟩, HO, ⟨HX, Hcxs, Hcps, Hs0, Hs1, #Hl0, #Hl1⟩, HW⟩ Hk
  ihave #HK' := (Kn_get I κ κS c R) $$ HK
  icases HK' with ⟨#HC, #Hrc, #Hrd, #Hru⟩
  iapply (wp_waitXs I κ κS c R _ Q (h := j) (i := item (j + 1) R 0) _ (by omega) (mod2 _) (mod2 _)) $$ [Hcxs HO Hax]
  · isplitr; · iexact HC
    isplitl [Hcxs]; · iexact Hcxs
    isplitl [HO] <;> iassumption
  iintro HO Hv0 HXl
  ihave HXf := (X_join c R j (XV I R j c)) $$ [HXl HX]
  · isplitl [HXl] <;> iassumption
  ihave HXf := (Entails.of_eq (XS_mod c R (n := j) (m := j + 2) (by omega) fullShare)) $$ HXf
  iapply (wp_sigCx I κ κS c R _ Q (j := j) (by omega)) $$ [HXf Hr0 Hd0 HO]
  · isplitr; · iexact HC
    isplitr; · iexact Hru
    isplitl [HXf]; · iexact HXf
    isplitl [Hr0]; · iexact Hr0
    isplitr; · iexact Hl0
    isplitl [Hd0] <;> iassumption
  iintro HO #Hl0'
  iapply (wp_waitPs I κ κS c R _ Q (h := j) (i := item (j + 1) R 1) _ (mod2 _) (mod2 _)) $$ [Hcps HO Hap]
  · isplitr; · iexact HC
    isplitl [Hcps]; · iexact Hcps
    isplitl [HO] <;> iassumption
  iintro HO Hv2 HPf
  ihave HPf := (Entails.of_eq (PS_mod c R (n := j) (m := j + 2) (by omega) fullShare)) $$ HPf
  iapply (wp_sigCp I κ κS c R _ Q (j := j) (by omega)) $$ [HPf Hr1 Hd1 HO]
  · isplitr; · iexact HC
    isplitr; · iexact Hru
    isplitl [HPf]; · iexact HPf
    isplitl [Hr1]; · iexact Hr1
    isplitr; · iexact Hl1
    isplitl [Hd1] <;> iassumption
  iintro HO #Hl1'
  iapply (wp_waitXr I κ κS c R _ Q (h := j) (u := 2 + item j R 2) (i := item (j + 1) R 2) _ (by omega) (mod2 _) (item_mono R j 2) (by omega)) $$ [Hcx HO Haxr]
  · isplitr; · iexact HC
    isplitl [Hcx]; · iexact Hcx
    isplitl [HO] <;> iassumption
  iintro HO Hv1 HX
  iapply (wp_waitCx I κ κS c R _ Q (j := j) (i := item (j + 1) R 2) (by omega) (by unfold item; omega)) $$ [Hc0 HO Hs0 Hw0]
  · isplitr; · iexact HC
    isplitl [Hc0]; · iexact Hc0
    isplitl [HO]; · iexact HO
    isplitl [Hs0] <;> iassumption
  iintro HO Hs0 HXd
  iapply (wp_sendX' I κ κS c R _ Q (h := j + 1) _ (by omega) rfl (by omega) (mod2 _) (mod2 _)) $$ [HX HXd HO Hta Htb]
  · isplitr; · iexact HC
    isplitr; · iexact Hrc
    isplitr; · iexact Hrd
    isplitl [HX]; · iexact HX
    isplitl [HXd]; · iexact HXd
    isplitl [HO]; · iexact HO
    isplitl [Hta] <;> iassumption
  iintro HO HX Hcxs
  iapply (wp_loadX c R (n := j + 1) rfl (mod2 _) fullShare.right (XV I R (j + 1) c) (I.w c) _ Q) $$ [HX HW]
  · isplitl [HX] <;> iassumption
  iintro HX HW
  iapply (wp_waitPr I κ κS c R _ Q (h := j) (u := 2 + item j R 3) (i := item (j + 1) R 3) _ (mod2 _) (item_mono R j 3) (by omega)) $$ [Hcp HO Hapr]
  · isplitr; · iexact HC
    isplitl [Hcp]; · iexact Hcp
    isplitl [HO] <;> iassumption
  iintro HO Hv3 HP
  iapply (wp_stepP I c R (n := j + 1) rfl (mod2 _) (XV I R (j + 1) c) (PV I R (j + 1) c) _ Q) $$ HP
  iintro HP
  iapply (wp_waitCp I κ κS c R _ Q (j := j) (i := item (j + 1) R 3) (by omega) (by unfold item; omega)) $$ [Hc1 HO Hs1 Hw1]
  · isplitr; · iexact HC
    isplitl [Hc1]; · iexact Hc1
    isplitl [HO]; · iexact HO
    isplitl [Hs1] <;> iassumption
  iintro HO Hs1 HPd
  iapply (wp_sendP' I κ κS c R _ Q (h := j + 1) _ rfl (by omega) (mod2 _) (mod2 _)) $$ [HP HPd HO Htc Htd]
  · isplitr; · iexact HC
    isplitr; · iexact Hrc
    isplitr; · iexact Hrd
    isplitl [HP]; · iexact HP
    isplitl [HPd]; · iexact HPd
    isplitl [HO]; · iexact HO
    isplitl [Htc] <;> iassumption
  iintro HO Hcps
  iapply Hk $$ HO [HX Hcxs Hcps Hs0 Hs1] HW [Hv0 Hv2 Hv1 Hv3]
  · isplitl [HX]; · iexact HX
    isplitl [Hcxs]; · iexact Hcxs
    isplitl [Hcps]; · iexact Hcps
    isplitl [Hs0]; · iexact Hs0
    isplitl [Hs1]; · iexact Hs1
    isplitr; · iexact Hl0'
    iexact Hl1'
  isplitl [Hv0]; · iexact Hv0
  isplitl [Hv2]; · iexact Hv2
  isplitl [Hv1] <;> iassumption

theorem Ico_first {j n : ℕ} (h : j < n) : Finset.Ico j n = insert j (Finset.Ico (j + 1) n) := by
  ext x; simp only [Finset.mem_Ico, Finset.mem_insert]; omega
theorem bigSep_Ico_first {j n : ℕ} (h : j < n) (Φ : ℕ → sProp 𝕄) : bigSep (Finset.Ico j n) Φ = iprop(Φ j ∗ bigSep (Finset.Ico (j + 1) n) Φ) := by
  rw [Ico_first h, bigSep_ins (by simp)]

/-- The first hop. -/
theorem wp_hop0 (c : Dev nD) (R : Bool) (k : PR F) (Q : PUnit → sProp 𝕄) :
    iprop(Kn I κ κS c ∗ TxH c R 0 ∗ OW c (item 0 R 0) ∗ XC c R 0 fullShare (XV I R 0 c) ∗ PC c R 0 fullShare (PV I R 0 c) ∗ XS (dn c R) R 1 fullShare ∗ PS (dn c R) R 1 fullShare
        ∗ atPos EQ ((c.tc : Thread nD τ), .reg (cS R 0)) 0 ∅ 0 ∗ atPos EQ ((c.tc : Thread nD τ), .reg (cS R 1)) 0 ∅ 0 ∗ WW c (I.w c))
      ⊢ iprop((OW c (item 0 R 0 + 4) -∗ St I c R 0 -∗ WW c (I.w c) -∗ WP c k Q) -∗ WP c (hop0 (rg c R) wM (sel c) k) Q) := by
  unfold St TxH hop0
  rw [OW_skip c 0 R 0 (by decide) (by decide) (amt_first R (by decide)), OW_skip c 0 R 1 (by decide) (by decide) (amt_first R (by decide))]
  iintro ⟨#HK, ⟨-, -, -, -, -, -, -, -, Hta, Htb, Htc, Htd⟩, HO, HX, HP, HXd, HPd, Ha0, Ha1, HW⟩ Hk
  ihave #HK' := (Kn_get I κ κS c R) $$ HK
  icases HK' with ⟨#HC, #Hrc, #Hrd, #Hru⟩
  iapply (wp_sendX' I κ κS c R _ Q (h := 0) _ (by omega) rfl rfl _ _) $$ [HX HXd HO Hta Htb]
  · isplitr; · iexact HC
    isplitr; · iexact Hrc
    isplitr; · iexact Hrd
    isplitl [HX]; · iexact HX
    isplitl [HXd]; · iexact HXd
    isplitl [HO]; · iexact HO
    isplitl [Hta] <;> iassumption
  iintro HO HX Hcxs
  iapply (wp_loadX c R (n := 0) rfl _ fullShare.right (XV I R 0 c) (I.w c) _ Q) $$ [HX HW]
  · isplitl [HX] <;> iassumption
  iintro HX HW
  iapply (wp_stepP I c R (n := 0) rfl _ (XV I R 0 c) (PV I R 0 c) _ Q) $$ HP
  iintro HP
  iapply (wp_sendP' I κ κS c R _ Q (h := 0) _ rfl rfl _ _) $$ [HP HPd HO Htc Htd]
  · isplitr; · iexact HC
    isplitr; · iexact Hrc
    isplitr; · iexact Hrd
    isplitl [HP]; · iexact HP
    isplitl [HPd]; · iexact HPd
    isplitl [HO]; · iexact HO
    isplitl [Htc] <;> iassumption
  iintro HO Hcps
  iapply Hk $$ HO [HX Hcxs Hcps Ha0 Ha1] HW
  isplitl [HX]; · iexact HX
  isplitl [Hcxs]; · iexact Hcxs
  isplitl [Hcps]; · iexact Hcps
  unfold crSt
  rw [rel_zero, rel_zero]
  isplitl [Ha0]
  · iexists ∅
    isplitr; · ipureintro; exact ⟨Finset.empty_subset _, by simp⟩
    isplitl [Ha0]; · iexact Ha0
    rw [bigSep_empty]; iempintro
  isplitl [Ha1]
  · iexists ∅
    isplitr; · ipureintro; exact ⟨Finset.empty_subset _, by simp⟩
    isplitl [Ha1]; · iexact Ha1
    rw [bigSep_empty]; iempintro
  isplitr <;> iempintro

/-- The last hop. -/
theorem wp_hopLast (c : Dev nD) (R : Bool) (k : PR F) (Q : PUnit → sProp 𝕄) :
    iprop(Kn I κ κS c ∗ TxH c R 31 ∗ RxH c R 30 ∗ OW c (item 31 R 0) ∗ St I c R 30 ∗ WW c (I.w c))
      ⊢ iprop((OW c (item 31 R 0 + 4) -∗ StE I c R -∗ WW c (I.w c) -∗ DoneH c R 30 -∗ WP c k Q) -∗ WP c (hopLast (rg c R) wM (sel c) k) Q) := by
  have hlt2 := item_lt R (h := 30) (a := 2) (by omega) (by decide)
  have hlt3 := item_lt R (h := 30) (a := 3) (by omega) (by decide)
  unfold St StE TxH RxH DoneH hopLast
  rw [amt2 R (by omega), amt3, amt_credit R (k := 1) (h := 31) (by decide) (by omega) (by omega),
    OW_skip c 31 R 0 (by decide) (by decide) (amt_last R (Or.inl rfl))]
  iintro ⟨#HK, ⟨-, Hr1, -, Hd1, -, Hc1, -, Hw1, -, -, Htc, Htd⟩, ⟨Hax, Hap, Haxr, Hapr, Hcx, Hcp⟩, HO, ⟨HX, Hcxs, Hcps, Hs0, Hs1, #Hl0, #Hl1⟩, HW⟩ Hk
  ihave #HK' := (Kn_get I κ κS c R) $$ HK
  icases HK' with ⟨#HC, #Hrc, #Hrd, #Hru⟩
  iapply (wp_waitXs I κ κS c R _ Q (h := 30) (i := item 31 R 1) _ (by omega) _ _) $$ [Hcxs HO Hax]
  · isplitr; · iexact HC
    isplitl [Hcxs]; · iexact Hcxs
    isplitl [HO] <;> iassumption
  iintro HO Hv0 HXl
  ihave HXf := (X_join c R 30 (XV I R 30 c)) $$ [HXl HX]
  · isplitl [HXl] <;> iassumption
  iapply (wp_waitPs I κ κS c R _ Q (h := 30) (i := item 31 R 1) _ _ _) $$ [Hcps HO Hap]
  · isplitr; · iexact HC
    isplitl [Hcps]; · iexact Hcps
    isplitl [HO] <;> iassumption
  iintro HO Hv2 HPf
  ihave HPf := (Entails.of_eq (PS_mod c R (n := 30) (m := 30 + 2) (by omega) fullShare)) $$ HPf
  iapply (wp_sigCp I κ κS c R _ Q (j := 30) (by omega)) $$ [HPf Hr1 Hd1 HO]
  · isplitr; · iexact HC
    isplitr; · iexact Hru
    isplitl [HPf]; · iexact HPf
    isplitl [Hr1]; · iexact Hr1
    isplitr; · iexact Hl1
    isplitl [Hd1] <;> iassumption
  iintro HO #Hl1'
  ihave HO := (Entails.of_eq (OW_skip c 31 R 2 (by decide) (by decide) (amt_last R (Or.inr rfl)))) $$ HO
  iapply (wp_waitXr I κ κS c R _ Q (h := 30) (u := 2 + item 30 R 2) (i := item 31 R 3) _ (by omega) _ (by unfold item; omega) (by omega)) $$ [Hcx HO Haxr]
  · isplitr; · iexact HC
    isplitl [Hcx]; · iexact Hcx
    isplitl [HO] <;> iassumption
  iintro HO Hv1 HX
  iapply (wp_loadX c R (n := 31) rfl _ fullShare (XV I R 31 c) (I.w c) _ Q) $$ [HX HW]
  · isplitl [HX] <;> iassumption
  iintro HX HW
  iapply (wp_waitPr I κ κS c R _ Q (h := 30) (u := 2 + item 30 R 3) (i := item 31 R 3) _ _ (item_mono R 30 3) (by omega)) $$ [Hcp HO Hapr]
  · isplitr; · iexact HC
    isplitl [Hcp]; · iexact Hcp
    isplitl [HO] <;> iassumption
  iintro HO Hv3 HP
  iapply (wp_stepP I c R (n := 31) rfl _ (XV I R 31 c) (PV I R 31 c) _ Q) $$ HP
  iintro HP
  iapply (wp_waitCp I κ κS c R _ Q (j := 30) (i := item 31 R 3) (by omega) (by unfold item; omega)) $$ [Hc1 HO Hs1 Hw1]
  · isplitr; · iexact HC
    isplitl [Hc1]; · iexact Hc1
    isplitl [HO]; · iexact HO
    isplitl [Hs1] <;> iassumption
  iintro HO Hs1 HPd
  iapply (wp_sendP' I κ κS c R _ Q (h := 31) _ rfl rfl _ _) $$ [HP HPd HO Htc Htd]
  · isplitr; · iexact HC
    isplitr; · iexact Hrc
    isplitr; · iexact Hrd
    isplitl [HP]; · iexact HP
    isplitl [HPd]; · iexact HPd
    isplitl [HO]; · iexact HO
    isplitl [Htc] <;> iassumption
  iintro HO Hcps
  iapply Hk $$ HO [HX HXf Hcps Hs0 Hs1] HW [Hv0 Hv2 Hv1 Hv3]
  · isplitl [HX]; · iexact HX
    isplitl [HXf]; · iexact HXf
    isplitl [Hcps]; · iexact Hcps
    isplitl [Hs0] <;> iassumption
  isplitl [Hv0]; · iexact Hv0
  isplitl [Hv2]; · iexact Hv2
  isplitl [Hv1] <;> iassumption

/-! ## The run of the hops -/

def TxB (c : Dev nD) (h : ℕ) : sProp 𝕄 := iprop(TxH c false h ∗ TxH c true h)
def RxB (c : Dev nD) (h : ℕ) : sProp 𝕄 := iprop(RxH c false h ∗ RxH c true h)
def DoneB (c : Dev nD) (h : ℕ) : sProp 𝕄 := iprop(DoneH c false h ∗ DoneH c true h)
def StB (c : Dev nD) (h : ℕ) : sProp 𝕄 := iprop(St I c false h ∗ St I c true h)

theorem wp_hops (c : Dev nD) (k : PR F) (Q : PUnit → sProp 𝕄) : ∀ (n j : ℕ) (hj : n + j ≤ 30) (he : n + j = 30),
    iprop(Kn I κ κS c ∗ bigSep (Finset.Ico j 30) (fun h => TxB c (h + 1)) ∗ bigSep (Finset.Ico j 30) (RxB c) ∗ OW c (item (j + 1) false 0) ∗ StB I c j ∗ WW c (I.w c))
      ⊢ iprop((OW c (item 31 false 0) -∗ StB I c 30 -∗ WW c (I.w c) -∗ bigSep (Finset.Ico j 30) (DoneB c) -∗ WP c k Q)
        -∗ WP c (hops (rg c false) (rg c true) wM (sel c) n j hj k) Q)
  | 0, j, hj, he => by
    obtain rfl : j = 30 := by omega
    unfold hops
    rw [Finset.Ico_self, bigSep_empty, bigSep_empty, bigSep_empty]
    iintro ⟨-, -, -, HO, HS, HW⟩ Hk
    iapply Hk $$ HO HS HW []
    iempintro
  | n + 1, j, hj, he => by
    have ih := wp_hops c k Q n (j + 1) (by omega) (by omega)
    unfold hops
    rw [bigSep_Ico_first (by omega) (fun h => TxB c (h + 1)), bigSep_Ico_first (by omega) (RxB c), bigSep_Ico_first (by omega) (DoneB c)]
    unfold StB at ih ⊢
    iintro ⟨#HK, ⟨Ht, Hts⟩, ⟨Hr, Hrs⟩, HO, ⟨Hsa, Hsb⟩, HW⟩ Hk
    have et : (TxB c (j + 1) : sProp 𝕄) ⊢ iprop(TxH c false (j + 1) ∗ TxH c true (j + 1)) := BI.Entails.refl _
    have er : (RxB c j : sProp 𝕄) ⊢ iprop(RxH c false j ∗ RxH c true j) := BI.Entails.refl _
    ihave Ht := et $$ Ht
    ihave Hr := er $$ Hr
    icases Ht with ⟨Hta, Htb⟩
    icases Hr with ⟨Hra, Hrb⟩
    iapply (wp_hop I κ κS c false (j := j) _ _ Q) $$ [Hta Hra HO Hsa HW]
    · isplitr; · iexact HK
      isplitl [Hta]; · iexact Hta
      isplitl [Hra]; · iexact Hra
      isplitl [HO]; · iexact HO
      isplitl [Hsa] <;> iassumption
    iintro HO Hsa HW Hda
    iapply (wp_hop I κ κS c true (j := j) _ _ Q) $$ [Htb Hrb HO Hsb HW]
    · isplitr; · iexact HK
      isplitl [Htb]; · iexact Htb
      isplitl [Hrb]; · iexact Hrb
      isplitl [HO]; · iexact HO
      isplitl [Hsb] <;> iassumption
    iintro HO Hsb HW Hdb
    iapply ih $$ [Hts Hrs HO Hsa Hsb HW]
    · isplitr; · iexact HK
      isplitl [Hts]; · iexact Hts
      isplitl [Hrs]; · iexact Hrs
      isplitl [HO]; · iexact HO
      isplitl [Hsa Hsb]
      · isplitl [Hsa] <;> iassumption
      iexact HW
    iintro HO HS HW Hds
    iapply Hk $$ HO HS HW [Hda Hdb Hds]
    isplitl [Hda Hdb]
    · unfold DoneB; isplitl [Hda] <;> iassumption
    iexact Hds

end Cert.KernelIdeal.Moe

end
-- ==== Proof.Fill.lean ====
/- The entry's loads and stores: a ring's two slots cut into their four parts and put together again, slot 0 filled with the core's own
   tokens, their coefficients and no contribution yet, and the weights of the core's four experts laid side by side. -/
module

public import proofs.«01_k».proof.Proof.Hops

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## A ring's buffer in four parts -/

theorem parts_disj (R : Bool) {r r' : Rect S2x256x896} (h : ∀ i, i ∈ r.set → i ∈ r'.set → False) :
    Disjoint ((bufM R).view.slice r).set ((bufM R).view.slice r').set := by
  rw [View.set_slice, View.set_slice]
  exact (Finset.disjoint_map _).mpr (Finset.disjoint_left.mpr fun i hi hi' => h i hi hi')
theorem XP_disj (R : Bool) (n m : ℕ) : Disjoint (bX R n).view.set (bP R m).view.set := by
  rw [bX_set, bP_set]
  exact parts_disj R fun i hi hi' => by have h := mem_r3.mp hi; have h' := mem_r3.mp hi'; omega
theorem XX_disj (R : Bool) : Disjoint (bX R 0).view.set (bX R 1).view.set := by
  rw [bX_set, bX_set]
  exact parts_disj R fun i hi hi' => by have h := mem_r3.mp hi; have h' := mem_r3.mp hi'; omega
theorem PP_disj (R : Bool) : Disjoint (bP R 0).view.set (bP R 1).view.set := by
  rw [bP_set, bP_set]
  exact parts_disj R fun i hi hi' => by have h := mem_r3.mp hi; have h' := mem_r3.mp hi'; omega
theorem bufM_set (R : Bool) : (bufM R).view.set = Finset.univ := by
  cases R
  · exact View.set_whole cc0_scratch0
  · exact View.set_whole cc0_scratch1
theorem mem_part (R : Bool) {r : Rect S2x256x896} {j : S2x256x896.Idx} (h : j ∈ r.set) : (bufM R).view.emb j ∈ ((bufM R).view.slice r).set := by
  rw [View.set_slice]; exact Finset.mem_map_of_mem _ h
theorem mem_parts (R : Bool) (j : S2x256x896.Idx) :
    (bufM R).view.emb j ∈ (bX R 0).view.set ∪ ((bP R 0).view.set ∪ ((bX R 1).view.set ∪ (bP R 1).view.set)) := by
  have h0 : (j 0).val < 2 := (j 0).isLt
  have h1 : (j 1).val < 256 := (j 1).isLt
  have h2 : (j 2).val < 896 := (j 2).isLt
  rw [bX_set, bX_set, bP_set, bP_set]
  by_cases ha : (j 0).val = 0 <;> by_cases hb : (j 2).val < 384
  · exact Finset.mem_union_left _ (mem_part R (mem_r3.mpr (by omega)))
  · exact Finset.mem_union_right _ (Finset.mem_union_left _ (mem_part R (mem_r3.mpr (by omega))))
  · exact Finset.mem_union_right _ (Finset.mem_union_right _ (Finset.mem_union_left _ (mem_part R (mem_r3.mpr (by omega)))))
  · exact Finset.mem_union_right _ (Finset.mem_union_right _ (Finset.mem_union_right _ (mem_part R (mem_r3.mpr (by omega)))))
theorem parts_univ (R : Bool) :
    (bX R 0).view.set ∪ ((bP R 0).view.set ∪ ((bX R 1).view.set ∪ (bP R 1).view.set)) = Finset.univ := by
  refine Finset.eq_univ_of_forall fun i => ?_
  have hi : i ∈ (bufM R).view.set := by rw [bufM_set R]; exact Finset.mem_univ i
  obtain ⟨j, -, rfl⟩ := Finset.mem_map.mp hi
  exact mem_parts R j

/-- Ring `R`'s buffer of core `c`, at any contents. -/
def BW (c : Dev nD) (R : Bool) : sProp 𝕄 := iprop(∃ f, (bufM R).view.loc (c.tc : Thread nD τ) ↦{fullShare} f)

theorem disj₁ (R : Bool) : Disjoint (bX R 0).view.set ((bP R 0).view.set ∪ ((bX R 1).view.set ∪ (bP R 1).view.set)) :=
  Finset.disjoint_union_right.mpr ⟨XP_disj R 0 0, Finset.disjoint_union_right.mpr ⟨XX_disj R, XP_disj R 0 1⟩⟩
theorem disj₂ (R : Bool) : Disjoint (bP R 0).view.set ((bX R 1).view.set ∪ (bP R 1).view.set) :=
  Finset.disjoint_union_right.mpr ⟨(XP_disj R 1 0).symm, PP_disj R⟩

theorem slots_split (c : Dev nD) (R : Bool) :
    BW c R ⊢ (iprop(XS c R 0 fullShare ∗ PS c R 0 fullShare ∗ XS c R 1 fullShare ∗ PS c R 1 fullShare) : sProp 𝕄) := by
  unfold BW XS PS
  iintro ⟨%f, Hf⟩
  have e1 : ((bufM R).view.loc (c.tc : Thread nD τ) ↦{fullShare} f : sProp 𝕄)
      ⊢ iprop(((bX R 0).view.loc (c.tc : Thread nD τ) ↦[(bX R 0).view.set]{fullShare} f) ∗ ((bP R 0).view.loc (c.tc : Thread nD τ) ↦[(bP R 0).view.set]{fullShare} f)
        ∗ ((bX R 1).view.loc (c.tc : Thread nD τ) ↦[(bX R 1).view.set]{fullShare} f) ∗ ((bP R 1).view.loc (c.tc : Thread nD τ) ↦[(bP R 1).view.set]{fullShare} f)) := by
    refine (Entails.of_eq (congrArg (fun S => ((bufM R).view.loc (c.tc : Thread nD τ) ↦[S]{fullShare} f : sProp 𝕄)) (parts_univ R).symm)).trans ?_
    refine (pointsTo_union (disj₁ R)).1.trans (sep_mono_r ?_)
    refine (pointsTo_union (disj₂ R)).1.trans (sep_mono_r ?_)
    exact (pointsTo_union (XP_disj R 1 1)).1
  ihave H := e1 $$ Hf
  icases H with ⟨H1, H2, H3, H4⟩
  isplitl [H1]; · iexists _; iexact H1
  isplitl [H2]; · iexists _; iexact H2
  isplitl [H3]; · iexists _; iexact H3
  iexists _; iexact H4
theorem slots_join (c : Dev nD) (R : Bool) :
    iprop(XS c R 0 fullShare ∗ PS c R 0 fullShare ∗ XS c R 1 fullShare ∗ PS c R 1 fullShare) ⊢ (BW c R : sProp 𝕄) := by
  unfold BW XS PS
  iintro ⟨⟨%f1, H1⟩, ⟨%f2, H2⟩, ⟨%f3, H3⟩, ⟨%f4, H4⟩⟩
  have e3 : iprop(((bX R 1).view.loc (c.tc : Thread nD τ) ↦[(bX R 1).view.set]{fullShare} f3) ∗ ((bP R 1).view.loc (c.tc : Thread nD τ) ↦[(bP R 1).view.set]{fullShare} f4))
    ⊢ ((bufM R).view.loc (c.tc : Thread nD τ) ↦[(bX R 1).view.set ∪ (bP R 1).view.set]{fullShare} ((bP R 1).view.set.piecewise f4 f3) : sProp 𝕄) := pointsTo_join (XP_disj R 1 1)
  ihave H3 := e3 $$ [H3 H4]
  · isplitl [H3] <;> iassumption
  have e2 := fun g => (show iprop(((bP R 0).view.loc (c.tc : Thread nD τ) ↦[(bP R 0).view.set]{fullShare} f2) ∗ ((bufM R).view.loc (c.tc : Thread nD τ) ↦[(bX R 1).view.set ∪ (bP R 1).view.set]{fullShare} g))
    ⊢ ((bufM R).view.loc (c.tc : Thread nD τ) ↦[(bP R 0).view.set ∪ ((bX R 1).view.set ∪ (bP R 1).view.set)]{fullShare} (((bX R 1).view.set ∪ (bP R 1).view.set).piecewise g f2) : sProp 𝕄) from pointsTo_join (disj₂ R))
  ihave H2 := (e2 _) $$ [H2 H3]
  · isplitl [H2] <;> iassumption
  have e1 := fun g => (show iprop(((bX R 0).view.loc (c.tc : Thread nD τ) ↦[(bX R 0).view.set]{fullShare} f1) ∗ ((bufM R).view.loc (c.tc : Thread nD τ) ↦[(bP R 0).view.set ∪ ((bX R 1).view.set ∪ (bP R 1).view.set)]{fullShare} g))
    ⊢ ((bufM R).view.loc (c.tc : Thread nD τ) ↦[(bX R 0).view.set ∪ ((bP R 0).view.set ∪ ((bX R 1).view.set ∪ (bP R 1).view.set))]{fullShare} (((bP R 0).view.set ∪ ((bX R 1).view.set ∪ (bP R 1).view.set)).piecewise g f1) : sProp 𝕄) from pointsTo_join (disj₁ R))
  ihave H1 := (e1 _) $$ [H1 H2]
  · isplitl [H1] <;> iassumption
  have e0 := fun g => (Entails.of_eq (congrArg (fun S => ((bufM R).view.loc (c.tc : Thread nD τ) ↦[S]{fullShare} g : sProp 𝕄)) (parts_univ R)))
  iexists _
  iapply (e0 _)
  iexact H1

/-! ## Slot 0 filled -/

/-- Tokens with their coefficients beside them. -/
def joinX (t : Vec F S1x256x256 .bf16) (k : Vec F S1x256x128 .bf16) : Vec F S256x384 .bf16 := fun j =>
  if h : (j 1).val < 256 then t (ix3 (0 : Fin 1) (⟨(j 0).val, (j 0).isLt⟩ : Fin 256) (⟨(j 1).val, h⟩ : Fin 256))
  else k (ix3 (0 : Fin 1) (⟨(j 0).val, (j 0).isLt⟩ : Fin 256) (⟨(j 1).val - 256, by have : (j 1).val < 384 := (j 1).isLt; omega⟩ : Fin 128))

theorem read_joinX (R : Bool) (f : (bufM R).view.ty.Contents (Elt F)) (t : Vec F S1x256x256 .bf16) (k : Vec F S1x256x128 .bf16) :
    (bX R 0).view.read (Elt F) (((bufM R).access (rC 0)).write (Elt F) (((bufM R).access (rT 0)).write (Elt F) f t Finset.univ) k Finset.univ) = joinX t k := by
  funext j
  have h0 : (j 0).val < 256 := (j 0).isLt
  have h1 : (j 1).val < 384 := (j 1).isLt
  rw [readX_apply R 0 _ j (ix3 (0 : Fin 1) (⟨(j 0).val, h0⟩ : Fin 256) (⟨(j 1).val, h1⟩ : Fin 384)) rfl rfl]
  show (bufM R).view.read (Elt F) (((bufM R).view.slice (rC 0)).write (Elt F) (((bufM R).view.slice (rT 0)).write (Elt F) f t Finset.univ) k Finset.univ)
    ((rX 0).emb (ix3 (0 : Fin 1) (⟨(j 0).val, h0⟩ : Fin 256) (⟨(j 1).val, h1⟩ : Fin 384))) = _
  unfold joinX
  by_cases h : (j 1).val < 256
  · rw [dif_pos h, View.read_slice_write_of_not_mem]
    · rw [show (rX 0).emb (ix3 (0 : Fin 1) (⟨(j 0).val, h0⟩ : Fin 256) (⟨(j 1).val, h1⟩ : Fin 384))
          = (rT 0).emb (ix3 (0 : Fin 1) (⟨(j 0).val, h0⟩ : Fin 256) (⟨(j 1).val, h⟩ : Fin 256)) from by
            funext a; apply Fin.ext; fin_cases a <;> rfl]
      exact View.read_slice_write_emb (v := (bufM R).view) (rT 0) f t (Finset.mem_univ _)
    · rw [Rect.map_emb_univ]
      intro hm
      have := (mem_r3.mp hm).2.2.1
      have e : (((rX 0).emb (ix3 (0 : Fin 1) (⟨(j 0).val, h0⟩ : Fin 256) (⟨(j 1).val, h1⟩ : Fin 384))) 2).val = 0 + 1 * (j 1).val := rfl
      omega
  · rw [dif_neg h]
    rw [show (rX 0).emb (ix3 (0 : Fin 1) (⟨(j 0).val, h0⟩ : Fin 256) (⟨(j 1).val, h1⟩ : Fin 384))
          = (rC 0).emb (ix3 (0 : Fin 1) (⟨(j 0).val, h0⟩ : Fin 256) (⟨(j 1).val - 256, by omega⟩ : Fin 128)) from by
            funext a; apply Fin.ext; fin_cases a
            · rfl
            · rfl
            · show 0 + 1 * (j 1).val = 256 + 1 * ((j 1).val - 256); omega]
    exact View.read_slice_write_emb (v := (bufM R).view) (rC 0) _ k (Finset.mem_univ _)

/-- A staging buffer's whole contents. -/
abbrev stg (c : Dev nD) (b : Ref sig .tc) (f : Buf (Elt F) ((c.tc : Thread nD τ).loc b)) : sProp 𝕄 := iprop((c.tc : Thread nD τ).loc b ↦{fullShare} f)

theorem wp_fill (c : Dev nD) (R : Bool) (off : Fin 2 → ℕ) (hoff : ∀ a, off a + S256x256.size a ≤ S512x256.size a)
    (px : Vec F S256x256 .f32 → FVec F S1x256x256 .bf16) (pc : FVec F S1x256x128 .bf16) (pz : FVec F S1x256x512 .bf16) (x : Vec F S512x256 .f32) (k : PR F)
    (Q : PUnit → sProp 𝕄) :
    iprop(stg c cc0_stg0_0 x ∗ XS c R 0 fullShare ∗ PS c R 0 fullShare)
      ⊢ iprop((stg c cc0_stg0_0 x
          -∗ XC c R 0 fullShare (joinX (px (((Memref.whole cc0_stg0_0).access (Rect.unit (s := S512x256) off S256x256.size hoff)).read (Elt F) x)) pc)
          -∗ PC c R 0 fullShare (flatP pz) -∗ WP c k Q)
        -∗ WP c (fill (Memref.whole cc0_stg0_0) (bufM R) (bufM_whole R) off hoff px pc pz k) Q) := by
  unfold XS PS XC PC fill stg
  iintro ⟨Hs, ⟨%f, Hf⟩, ⟨%g, Hg⟩⟩ Hk
  iapply (wp_load_rect (c := (c.tc : Thread nD τ)) (m := Memref.whole cc0_stg0_0) (r := Rect.unit (s := S512x256) off S256x256.size hoff) (f := x) (q := fullShare)
    Variants.none none Set.univ (Finset.subset_univ _)) $$ Hs
  iintro Hs
  iapply (wp_load_rect (c := (c.tc : Thread nD τ)) (m := bufM R) (r := rT 0) (f := f) (q := fullShare) Variants.none none Set.univ (T_sub R 0)) $$ Hf
  iintro Hf
  iapply (wp_store (c := (c.tc : Thread nD τ)) (m := bufM R) (r := rT 0) (f := f) Variants.none none Set.univ ((View.setOn_subset_set _ _).trans (T_sub R 0))) $$ Hf
  iintro Hf
  iapply (wp_load_rect (c := (c.tc : Thread nD τ)) (m := bufM R) (r := rC 0) (q := fullShare) Variants.none none Set.univ (C_sub R 0)) $$ Hf
  iintro Hf
  iapply (wp_store (c := (c.tc : Thread nD τ)) (m := bufM R) (r := rC 0) Variants.none none Set.univ ((View.setOn_subset_set _ _).trans (C_sub R 0))) $$ Hf
  iintro Hf
  iapply (wp_load_rect (c := (c.tc : Thread nD τ)) (m := bufM R) (r := rP 0) (f := g) (q := fullShare) Variants.none none Set.univ (P_sub R 0)) $$ Hg
  iintro Hg
  iapply (wp_store (c := (c.tc : Thread nD τ)) (m := bufM R) (r := rP 0) (f := g) Variants.none none Set.univ ((View.setOn_subset_set _ _).trans (P_sub R 0))) $$ Hg
  iintro Hg
  iapply Hk $$ Hs [Hf] [Hg]
  · iexists _
    isplitr; rotate_left; · iexact Hf
    ipureintro; exact read_joinX R f _ _
  · iexists _
    isplitr; rotate_left; · iexact Hg
    ipureintro; rw [read_flat, View.read_write_univ]

/-! ## The experts' weights -/

theorem inbSlab {o : ℕ} (ho : o < 4) : ∀ a, (![o, 0, 0] : Fin 3 → ℕ) a + S1x256x512.size a ≤ S4x256x512.size a := by
  intro a; fin_cases a
  · show o + 1 ≤ 4; omega
  · exact le_refl _
  · exact le_refl _
/-- One expert's weights as loaded, and all four laid side by side. -/
def slab (e : Vec F S4x256x512 .f32) (o : ℕ) (ho : o < 4) : Vec F S1x256x512 .f32 :=
  ((Memref.whole cc0_stg3_0).access (Rect.unit (s := S4x256x512) ![o, 0, 0] S1x256x512.size (inbSlab ho))).read (Elt F) e
def wOf (e : Vec F S4x256x512 .f32) : Vec F S256x2048 .bf16 := fun j =>
  Gen.k0_pay14 (slab e ((j 1).val / 512) (by have : (j 1).val < 2048 := (j 1).isLt; omega))
    (ix2 (⟨(j 0).val, (j 0).isLt⟩ : Fin 256) (⟨(j 1).val % 512, Nat.mod_lt _ (by decide)⟩ : Fin 512))

/-- The first `o` experts' weights laid. -/
def WL (c : Dev nD) (e : Vec F S4x256x512 .f32) (o : ℕ) : sProp 𝕄 :=
  iprop(∃ g : Vec F S256x2048 .bf16, ⌜∀ j : S256x2048.Idx, (j 1).val < 512 * o → g j = wOf e j⌝ ∗ stg c cc0_scratch2 g)
theorem WL_all (c : Dev nD) (e : Vec F S4x256x512 .f32) : WL c e 4 ⊢ (WW c (wOf e) : sProp 𝕄) := by
  unfold WL WW stg
  iintro ⟨%g, %hg, H⟩
  have : g = wOf e := funext fun j => hg j (by have : (j 1).val < 2048 := (j 1).isLt; omega)
  subst this
  iexact H

theorem wOf_apply (e : Vec F S4x256x512 .f32) {o : ℕ} (ho : o < 4) (j : S256x2048.Idx) (i : Fin 256) (l : Fin 512) (h0 : i.val = (j 0).val)
    (h1 : (j 1).val = 512 * o + l.val) : wOf e j = Gen.k0_pay14 (slab e o ho) (ix2 i l) := by
  have hd : (j 1).val / 512 = o := by omega
  have hm : (j 1).val % 512 = l.val := by omega
  unfold wOf
  subst hd
  have e1 : (⟨(j 0).val, (j 0).isLt⟩ : Fin 256) = i := Fin.ext h0.symm
  have e2 : (⟨(j 1).val % 512, Nat.mod_lt _ (by decide)⟩ : Fin 512) = l := Fin.ext hm
  rw [e1, e2]
/-- The columns of expert `o`. -/
abbrev rW (q : ℕ) (hin : ∀ a, (![0, q] : Fin 2 → ℕ) a + S256x512.size a ≤ S256x2048.size a) : Rect S256x2048 := Rect.unit (s := S256x2048) ![0, q] S256x512.size hin
theorem write_miss {q : ℕ} (hin) (g : Vec F S256x2048 .bf16) (p : Vec F S256x512 .bf16) (j : S256x2048.Idx) (h : (j 1).val < q) :
    (Memref.whole cc0_scratch2).view.read (Elt F) (((Memref.whole cc0_scratch2).view.slice (rW q hin)).write (Elt F) g p Finset.univ) j = g j :=
  View.read_slice_write_of_not_mem (v := (Memref.whole cc0_scratch2).view) (rW q hin) g p Finset.univ (y := j) (by
    rw [Rect.map_emb_univ, Rect.mem_set_unit]
    intro hm
    have h1 : q ≤ (j 1).val := (hm 1).1
    omega)
theorem write_hit {q : ℕ} (hin) (g : Vec F S256x2048 .bf16) (p : Vec F S256x512 .bf16) (i : Fin 256) (l : Fin 512) :
    (Memref.whole cc0_scratch2).view.read (Elt F) (((Memref.whole cc0_scratch2).view.slice (rW q hin)).write (Elt F) g p Finset.univ) ((rW q hin).emb (ix2 i l)) = p (ix2 i l) :=
  View.read_slice_write_emb (v := (Memref.whole cc0_scratch2).view) (rW q hin) g p (Finset.mem_univ (ix2 i l))
theorem rW_emb {q : ℕ} (hin) (i : Fin 256) (l : Fin 512) (j : S256x2048.Idx) (h0 : i.val = (j 0).val) (h1 : (j 1).val = q + l.val) : j = (rW q hin).emb (ix2 i l) := by
  funext a; apply Fin.ext; fin_cases a
  · show (j 0).val = 0 + 1 * i.val; omega
  · show (j 1).val = q + 1 * l.val; omega
theorem write_slab (e : Vec F S4x256x512 .f32) {o q : ℕ} (ho : o < 4) (hq : q = 512 * o) (hin)
    (g : Vec F S256x2048 .bf16) (hg : ∀ j : S256x2048.Idx, (j 1).val < 512 * o → g j = wOf e j) (j : S256x2048.Idx) (hj : (j 1).val < 512 * (o + 1)) :
    (Memref.whole cc0_scratch2).view.read (Elt F) (((Memref.whole cc0_scratch2).view.slice (rW q hin)).write (Elt F) g (Gen.k0_pay14 (slab e o ho)) Finset.univ) j = wOf e j := by
  subst hq
  by_cases h : (j 1).val < 512 * o
  · exact (write_miss hin g _ j h).trans (hg j h)
  · have h0 : (j 0).val < 256 := (j 0).isLt
    obtain ⟨i, hi⟩ : ∃ i : Fin 256, i.val = (j 0).val := ⟨⟨_, h0⟩, rfl⟩
    obtain ⟨l, hl⟩ : ∃ l : Fin 512, (j 1).val = 512 * o + l.val := ⟨⟨(j 1).val - 512 * o, by omega⟩, by show (j 1).val = 512 * o + ((j 1).val - 512 * o); omega⟩
    rw [wOf_apply e ho j i l hi hl, rW_emb hin i l j hi hl]
    exact write_hit hin g _ i l

theorem read_W (g : Vec F S256x2048 .bf16) : (Memref.whole cc0_scratch2).view.read (Elt F) g = g := rfl
theorem wp_fillW (c : Dev nD) (e : Vec F S4x256x512 .f32) {o q : ℕ} (hlt : o < 4) (eq : q = 512 * o) (ho) (hq) (hp) (k : PR F) (Q : PUnit → sProp 𝕄) :
    iprop(stg c cc0_stg3_0 e ∗ WL c e o)
      ⊢ iprop((stg c cc0_stg3_0 e -∗ WL c e (o + 1) -∗ WP c k Q)
        -∗ WP c (fillW (Memref.whole cc0_stg3_0) (Memref.whole cc0_scratch2) (Memref.isWhole_whole _) o q ho hq hp k) Q) := by
  unfold WL fillW stg
  iintro ⟨Hs, ⟨%g, %hg, Hg⟩⟩ Hk
  iapply (wp_load_rect (c := (c.tc : Thread nD τ)) (m := Memref.whole cc0_stg3_0) (r := Rect.unit (s := S4x256x512) ![o, 0, 0] S1x256x512.size ho) (f := e) (q := fullShare)
    Variants.none none Set.univ (Finset.subset_univ _)) $$ Hs
  iintro Hs
  iapply (wp_load_rect (c := (c.tc : Thread nD τ)) (m := Memref.whole cc0_scratch2) (r := Rect.unit (s := S256x2048) ![0, q] S256x512.size hq) (f := g) (q := fullShare)
    Variants.none none Set.univ (Finset.subset_univ _)) $$ Hg
  iintro Hg
  iapply (wp_store (c := (c.tc : Thread nD τ)) (m := Memref.whole cc0_scratch2) (r := Rect.unit (s := S256x2048) ![0, q] S256x512.size hq) (f := g)
    Variants.none none Set.univ (Finset.subset_univ _)) $$ Hg
  iintro Hg
  iapply Hk $$ Hs
  have hw := fun j hj => write_slab e hlt eq hq g hg j hj
  rw [read_W] at hw
  iexists (((Memref.whole cc0_scratch2).view.slice (rW q hq)).write (Elt F) g (Gen.k0_pay14 (slab e o hlt)) Finset.univ)
  isplitr; · ipureintro; exact hw
  iexact Hg

end Cert.KernelIdeal.Moe

end
-- ==== Proof.Entry.lean ====
/- The entry of a core: its two neighbours read out of the tables, the barrier, after which it has the neighbours' free slots; and its
   loads of the tokens, the router's weights and the routes. -/
module

public import proofs.«01_k».proof.Proof.Fill

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## The tables -/

/-- The tables of the neighbours after and before, as the buffers hold them. -/
def tab0 : Vec F S32 .i32 := fun i => lit0 (S32.rowMajor i)
def tab1 : Vec F S32 .i32 := fun i => lit1 (S32.rowMajor i)

theorem off1_val (c : Dev nD) : k0_off1 c 0 = c.val := by revert c; decide
theorem row_word (c : Dev nD) (i : S32.Idx) (h : (i 0).val = c.val) : S32.rowMajor i = c := by
  apply Fin.ext
  rw [← h]
  exact Shape.rowMajor_val_one i
theorem tab_row (c : Dev nD) (x : S1.Idx) : S32.rowMajor ((Rect.unit (s := S32) (k0_off1 c) S1.size (Facts₀.k0_off1_inb c)).emb x) = c := by
  refine row_word c _ ?_
  show k0_off1 c 0 + 1 * (x 0).val = c.val
  have hx : (x 0).val < 1 := (x 0).isLt
  rw [off1_val]; omega
theorem tab0_row (c : Dev nD) (x : S1.Idx) :
    ((Memref.whole cc0_stg4_0).access (Rect.unit (s := S32) (k0_off1 c) S1.size (Facts₀.k0_off1_inb c))).read (Elt F) (tab0 (F := F)) x = lit0 c :=
  congrArg lit0 (tab_row c x)
theorem tab1_row (c : Dev nD) (x : S1.Idx) :
    ((Memref.whole cc0_stg5_0).access (Rect.unit (s := S32) (k0_off1 c) S1.size (Facts₀.k0_off1_inb c))).read (Elt F) (tab1 (F := F)) x = lit1 c :=
  congrArg lit1 (tab_row c x)

theorem chk2 (c : Dev nD) : k0_chk2 (lit0 c) := by revert c; decide +kernel
theorem chk1 (c : Dev nD) : k0_chk1 (lit1 c) := by revert c; decide +kernel

theorem dev1 (c : Dev nD) : k0_dev1 (lit1 c) = (up c false).val := by revert c; decide
theorem dev2 (c : Dev nD) : k0_dev2 (lit0 c) = (up c true).val := by revert c; decide
theorem dev3 (c : Dev nD) : k0_dev3 (lit0 c) = (dn c false).val := by revert c; decide
theorem dev7 (c : Dev nD) : k0_dev7 (lit1 c) = (up c false).val := by revert c; decide
theorem dev5 (c : Dev nD) : k0_dev5 (lit1 c) = (dn c true).val := by revert c; decide
theorem dev11 (c : Dev nD) : k0_dev11 (lit0 c) = (up c true).val := by revert c; decide

theorem ringA_eq (c : Dev nD) (h2 : k0_chk2 (lit0 c)) (h1 : k0_chk1 (lit1 c)) :
    ringA (F := F) (Memref.whole cc0_scratch0) (Memref.isWhole_whole _) cc0_scratch3 cc0_scratch4 cc0_scratch5 cc0_scratch6 cc0_scratch11 cc0_scratch12 (lit0 c) (lit1 c) h2 h1 = rg c false := by
  unfold ringA
  rw [show (⟨k0_dev3 (lit0 c), k0_dev3_lt (lit0 c) h2⟩ : Dev nD) = dn c false from Fin.ext (dev3 c),
    show (⟨k0_dev7 (lit1 c), k0_dev7_lt (lit1 c) h1⟩ : Dev nD) = up c false from Fin.ext (dev7 c)]
  rfl
theorem ringB_eq (c : Dev nD) (h2 : k0_chk2 (lit0 c)) (h1 : k0_chk1 (lit1 c)) :
    ringB (F := F) (Memref.whole cc0_scratch1) (Memref.isWhole_whole _) cc0_scratch7 cc0_scratch8 cc0_scratch9 cc0_scratch10 cc0_scratch13 cc0_scratch14 (lit0 c) (lit1 c) h2 h1 = rg c true := by
  unfold ringB
  rw [show (⟨k0_dev5 (lit1 c), k0_dev5_lt (lit1 c) h1⟩ : Dev nD) = dn c true from Fin.ext (dev5 c),
    show (⟨k0_dev11 (lit0 c), k0_dev11_lt (lit0 c) h2⟩ : Dev nD) = up c true from Fin.ext (dev11 c)]
  rfl

/-! ## The barrier -/

variable (I : Inp F) (κ : GSem nD τ sig → ℕ) (κS : KK → ℕ)

abbrev barC (c : Dev nD) : GSem nD τ sig := ((c.tc : Thread nD τ), .reg bS)
/-- What core `c` owes at the start: a unit to each neighbour's barrier, and every item. -/
def O₀ (c : Dev nD) : CellTallies nD τ sig ℕ := O c 0 + tallyAt (barC (up c true)) 1 1 + tallyAt (barC (up c false)) 1 1
/-- What it has for the barrier. -/
def BarTk (c : Dev nD) : sProp 𝕄 :=
  iprop(reached EQ (barC (up c false)) 0 ∗ reached EQ (barC (up c true)) 0 ∗ dutyTok EQ (barC (up c false)) 0 0 ∗ dutyTok EQ (barC (up c true)) 0 1
    ∗ atPos EQ (barC c) 0 ∅ 0 ∗ cred (tallyAt (barC c) 1 2))

theorem wp_barSig (c : Dev nD) (R : Bool) (O O' : CellTallies nD τ sig ℕ) (hO : O' = O + tallyAt (barC (up c R)) 1 1) (k : PR F) (Q : PUnit → sProp 𝕄) :
    iprop(Ctx I κ κS ∗ (∃ W, owes (c.tc : Thread nD τ) O' W) ∗ dutyTok EQ (barC (up c R)) 0 R.toNat ∗ reached EQ (barC (up c R)) 0
        ∗ XS c R 1 fullShare ∗ PS c R 1 fullShare ∗ rch c)
      ⊢ iprop(((∃ W, owes (c.tc : Thread nD τ) O W) -∗ WP c k Q)
        -∗ WP c (.op (.semSignal ((up c R), .tc) bS (1#32).toInt) fun _ => k) Q) := by
  iintro ⟨#HC, ⟨%W, HO⟩, Ht, #Hr, Hx, Hp, #Hrc⟩ Hk
  iapply (Rounds.wp_signal Variants.none EQ (sched I) (c.tc : Thread nD τ) none (dst := ((up c R).tc : Thread nD τ)) (sem := bS) (r := 0) (d := R.toNat)
      (κ := κ (barC (up c R))) (k' := 1) (by rw [duties_bar I (up c R)]; cases R <;> decide) rfl 1 (O₀ := O') O hO (W := W)) $$ [HO Ht Hx Hp]
  · isplitr; · iapply (Ctx_bar I κ κS (up c R)); iexact HC
    isplitl [HO]; · iexact HO
    isplitl [Ht]; · iexact Ht
    isplitl [Hx Hp]
    · rw [payload_bar I (up c R) R]; unfold bPay; rw [dn_up]
      isplitl [Hx]; · iexact Hx
      isplitl [Hp]; · iexact Hp
      iexact Hrc
    iexact Hr
  iintro HO
  iapply Hk
  iexists _; iexact HO

theorem wp_barWait (c : Dev nD) (k : PR F) (Q : PUnit → sProp 𝕄) :
    iprop(Ctx I κ κS ∗ cred (tallyAt (barC c) 1 2) ∗ (∃ W, owes (c.tc : Thread nD τ) (O c 0) W) ∗ atPos EQ (barC c) 0 ∅ 0)
      ⊢ iprop((OW c 0 -∗ semVal (barC c) 0 -∗ bPay c false -∗ bPay c true -∗ WP c k Q)
        -∗ WP c (.op (.semWait bS (2#32).toInt) fun _ => k) Q) := by
  iintro ⟨#HC, Hcr, ⟨%W, HO⟩, Hat⟩ Hk
  iapply (Rounds.wp_wait_rest_token Variants.none EQ (sched I) (c.tc : Thread nD τ) none (κ := κ (barC c)) (k' := 2)
      (wpE_semWait_eq Variants.none (c.tc : Thread nD τ) none Set.univ) (Set.mem_univ _) 1 (O := O c 0) (W := W) (R := 0) (m := 0) (T := ∅)
      (by rw [expect_bar I c])) $$ [Hcr HO Hat]
  · isplitr; · iapply (Ctx_bar I κ κS c); iexact HC
    isplitl [Hcr]; · iexact Hcr
    isplitl [HO]; · iexact HO
    isplitr; · iapply (mayWait c _ (by decide) (by decide)); iapply (Ctx_lev I κ κS); iexact HC
    iexact Hat
  iintro ⟨HO, Hat, -, Hpay⟩
  ihave Hp := (Entails.of_eq (rest_bar I c)) $$ Hpay
  icases Hp with ⟨Hpa, Hpb⟩
  imod (Rounds.cell_close EQ (sched I) (κ := κ (barC c)) (Set.mem_univ _) id (fun r hr => duties_later I (barC c) r hr)) $$ [Hat] with Hs
  · isplitr; · iapply (Ctx_bar I κ κS c); iexact HC
    iexact Hat
  iapply Hk $$ [HO] Hs Hpa Hpb
  unfold OW; iexists _; iexact HO

theorem wp_entry (c : Dev nD) (k : Dev nD → (v4 v6 : Elt F .i32) → k0_chk2 v4 → k0_chk1 v6 → PR F) (Q : PUnit → sProp 𝕄) :
    iprop(Ctx I κ κS ∗ rch c ∗ stg c cc0_stg4_0 tab0 ∗ stg c cc0_stg5_0 tab1 ∗ BarTk c ∗ (∃ W, owes (c.tc : Thread nD τ) (O₀ c) W)
        ∗ (XS c false 1 fullShare ∗ PS c false 1 fullShare) ∗ XS c true 1 fullShare ∗ PS c true 1 fullShare)
      ⊢ iprop((stg c cc0_stg4_0 tab0 -∗ stg c cc0_stg5_0 tab1 -∗ Kn I κ κS c -∗ OW c 0 -∗ semVal (barC c) 0
          -∗ (XS (dn c false) false 1 fullShare ∗ PS (dn c false) false 1 fullShare) -∗ (XS (dn c true) true 1 fullShare ∗ PS (dn c true) true 1 fullShare)
          -∗ WP c (k c (lit0 c) (lit1 c) (chk2 c) (chk1 c)) Q)
        -∗ WP c (entry (Memref.whole cc0_stg4_0) (Memref.whole cc0_stg5_0) k) Q) := by
  unfold BarTk entry
  iintro ⟨#HC, #Hrc, H4, H5, ⟨#Hra, #Hrb, Hta, Htb, Hat, Hcr⟩, HO, ⟨Hxa, Hpa⟩, Hxb, Hpb⟩ Hk
  simp only [wp_deviceId]
  iapply (wp_smemLoadElt (c := (c.tc : Thread nD τ)) Variants.none none Set.univ (m := Memref.whole cc0_stg4_0) (r := Rect.unit (s := S32) (k0_off1 c) S1.size (Facts₀.k0_off1_inb c)) (f := tab0) (q := fullShare) (Finset.subset_univ _)) $$ H4
  iintro H4
  rw [tab0_row c]
  simp only [wp_assume_of _ _ _ _ (d := k0_chk2.dec _) (chk2 c)]
  iapply (wp_smemLoadElt (c := (c.tc : Thread nD τ)) Variants.none none Set.univ (m := Memref.whole cc0_stg5_0) (r := Rect.unit (s := S32) (k0_off1 c) S1.size (Facts₀.k0_off1_inb c)) (f := tab1) (q := fullShare) (Finset.subset_univ _)) $$ H5
  iintro H5
  rw [tab1_row c]
  simp only [wp_assume_of _ _ _ _ (d := k0_chk1.dec _) (chk1 c)]
  rw [show (⟨k0_dev1 (lit1 c), k0_dev1_lt (lit1 c) (chk1 c)⟩ : Dev nD) = up c false from Fin.ext (dev1 c),
    show (⟨k0_dev2 (lit0 c), k0_dev2_lt (lit0 c) (chk2 c)⟩ : Dev nD) = up c true from Fin.ext (dev2 c)]
  iapply (wp_barSig I κ κS c false (O c 0 + tallyAt (barC (up c true)) 1 1) (O₀ c) rfl _ Q) $$ [HO Hta Hxa Hpa]
  · isplitr; · iexact HC
    isplitl [HO]; · iexact HO
    isplitl [Hta]; · iexact Hta
    isplitr; · iexact Hra
    isplitl [Hxa]; · iexact Hxa
    isplitl [Hpa]; · iexact Hpa
    iexact Hrc
  iintro HO
  iapply (wp_barSig I κ κS c true (O c 0) (O c 0 + tallyAt (barC (up c true)) 1 1) rfl _ Q) $$ [HO Htb Hxb Hpb]
  · isplitr; · iexact HC
    isplitl [HO]; · iexact HO
    isplitl [Htb]; · iexact Htb
    isplitr; · iexact Hrb
    isplitl [Hxb]; · iexact Hxb
    isplitl [Hpb]; · iexact Hpb
    iexact Hrc
  iintro HO
  iapply (wp_barWait I κ κS c _ Q) $$ [Hcr HO Hat]
  · isplitr; · iexact HC
    isplitl [Hcr]; · iexact Hcr
    isplitl [HO]; · iexact HO
    iexact Hat
  iintro HO Hs Hpa Hpb
  unfold bPay
  icases Hpa with ⟨Hxa, Hpa, #Hda⟩
  icases Hpb with ⟨Hxb, Hpb, #Hdb⟩
  iapply Hk $$ H4 H5 [] [HO] Hs [Hxa Hpa] [Hxb Hpb]
  · unfold Kn
    isplitr; · iexact HC
    isplitr; · iexact Hrc
    isplitr; · iexact Hda
    iexact Hdb
  · iexact HO
  · isplitl [Hxa] <;> iassumption
  · isplitl [Hxb] <;> iassumption

/-! ## The loads of the core's own inputs -/

/-- A column of the routes. -/
def col0 (x : Vec F S512x2 .i32) : Vec F S512x1 .i32 :=
  ((Memref.whole cc0_stg2_0).access (Rect.unit (s := S512x2) ![0, 0] S512x1.size Facts₀.inb_S512x2_S512x1_0_0)).read (Elt F) x
def col1 (x : Vec F S512x2 .i32) : Vec F S512x1 .i32 :=
  ((Memref.whole cc0_stg2_0).access (Rect.unit (s := S512x2) ![0, 1] S512x1.size Facts₀.inb_S512x2_S512x1_0_1)).read (Elt F) x

theorem wp_loadIn (c : Dev nD) (x0 : Vec F S512x256 .f32) (x1 : Vec F S256x128 .f32) (x2 : Vec F S512x2 .i32)
    (k : Vec F S512x256 .f32 → Vec F S256x128 .f32 → Vec F S512x1 .i32 → Vec F S512x1 .i32 → PR F) (Q : PUnit → sProp 𝕄) :
    iprop(stg c cc0_stg0_0 x0 ∗ stg c cc0_stg1_0 x1 ∗ stg c cc0_stg2_0 x2)
      ⊢ iprop((stg c cc0_stg0_0 x0 -∗ stg c cc0_stg1_0 x1 -∗ stg c cc0_stg2_0 x2 -∗ WP c (k x0 x1 (col0 x2) (col1 x2)) Q)
        -∗ WP c (loadIn (Memref.whole cc0_stg0_0) (Memref.whole cc0_stg1_0) (Memref.whole cc0_stg2_0) k) Q) := by
  unfold loadIn
  iintro ⟨H0, H1, H2⟩ Hk
  iapply (wp_load_rect (c := (c.tc : Thread nD τ)) (m := Memref.whole cc0_stg0_0) (r := Rect.unit (s := S512x256) ![0, 0] S512x256.size Facts₀.inb_S512x256_S512x256_0_0) (f := x0) (q := fullShare)
    Variants.none none Set.univ (Finset.subset_univ _)) $$ H0
  iintro H0
  have e0 : ((Memref.whole cc0_stg0_0).access (Rect.unit (s := S512x256) ![0, 0] S512x256.size Facts₀.inb_S512x256_S512x256_0_0)).read (Elt F) x0 = x0 :=
    Memref.read_access_unit_zero (Elt F) cc0_stg0_0 (by funext a; fin_cases a <;> rfl) _ x0
  rw [e0]
  iapply (wp_load_rect (c := (c.tc : Thread nD τ)) (m := Memref.whole cc0_stg1_0) (r := Rect.unit (s := S256x128) ![0, 0] S256x128.size Facts₀.inb_S256x128_S256x128_0_0) (f := x1) (q := fullShare)
    Variants.none none Set.univ (Finset.subset_univ _)) $$ H1
  iintro H1
  have e1 : ((Memref.whole cc0_stg1_0).access (Rect.unit (s := S256x128) ![0, 0] S256x128.size Facts₀.inb_S256x128_S256x128_0_0)).read (Elt F) x1 = x1 :=
    Memref.read_access_unit_zero (Elt F) cc0_stg1_0 (by funext a; fin_cases a <;> rfl) _ x1
  rw [e1]
  iapply (wp_load_rect (c := (c.tc : Thread nD τ)) (m := Memref.whole cc0_stg2_0) (r := Rect.unit (s := S512x2) ![0, 0] S512x1.size Facts₀.inb_S512x2_S512x1_0_0) (f := x2) (q := fullShare)
    Variants.none none Set.univ (Finset.subset_univ _)) $$ H2
  iintro H2
  iapply (wp_load_rect (c := (c.tc : Thread nD τ)) (m := Memref.whole cc0_stg2_0) (r := Rect.unit (s := S512x2) ![0, 1] S512x1.size Facts₀.inb_S512x2_S512x1_0_1) (f := x2) (q := fullShare)
    Variants.none none Set.univ (Finset.subset_univ _)) $$ H2
  iintro H2
  iapply Hk $$ H0 H1 H2

end Cert.KernelIdeal.Moe

end
-- ==== Proof.Tail.lean ====
/- The end of a core: the last sums awaited, the results stored, and every cell of the core closed. -/
module

public import proofs.«01_k».proof.Proof.Entry

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## The result -/

abbrev rO0 : Rect S512x512 := Rect.unit (s := S512x512) ![0, 0] S256x512.size Facts₀.inb_S512x512_S256x512_0_0
abbrev rO1 : Rect S512x512 := Rect.unit (s := S512x512) ![256, 0] S256x512.size Facts₀.inb_S512x512_S256x512_256_0
/-- Two halves, one over the other. -/
def outJ (a b : Vec F S256x512 .f32) : Vec F S512x512 .f32 := fun j =>
  if h : (j 0).val < 256 then a (ix2 (⟨(j 0).val, h⟩ : Fin 256) (⟨(j 1).val, (j 1).isLt⟩ : Fin 512))
  else b (ix2 (⟨(j 0).val - 256, by have : (j 0).val < 512 := (j 0).isLt; omega⟩ : Fin 256) (⟨(j 1).val, (j 1).isLt⟩ : Fin 512))
abbrev oM : Memref sig .tc .vmem S512x512 .f32 := Memref.whole cc0_stg6_0

theorem out_hit0 (f : Vec F S512x512 .f32) (a : Vec F S256x512 .f32) (i : Fin 256) (l : Fin 512) :
    oM.view.read (Elt F) ((oM.view.slice rO0).write (Elt F) f a Finset.univ) (rO0.emb (ix2 i l)) = a (ix2 i l) :=
  View.read_slice_write_emb (v := oM.view) rO0 f a (Finset.mem_univ (ix2 i l))
theorem out_hit1 (f : Vec F S512x512 .f32) (a : Vec F S256x512 .f32) (i : Fin 256) (l : Fin 512) :
    oM.view.read (Elt F) ((oM.view.slice rO1).write (Elt F) f a Finset.univ) (rO1.emb (ix2 i l)) = a (ix2 i l) :=
  View.read_slice_write_emb (v := oM.view) rO1 f a (Finset.mem_univ (ix2 i l))
theorem out_miss1 (f : Vec F S512x512 .f32) (a : Vec F S256x512 .f32) (j : S512x512.Idx) (h : (j 0).val < 256) :
    oM.view.read (Elt F) ((oM.view.slice rO1).write (Elt F) f a Finset.univ) j = oM.view.read (Elt F) f j :=
  View.read_slice_write_of_not_mem (v := oM.view) rO1 f a Finset.univ (by
    rw [Rect.map_emb_univ, Rect.mem_set_unit]
    intro hm
    have h1 : 256 ≤ (j 0).val := (hm 0).1
    omega)
theorem emb0 (j : S512x512.Idx) (h : (j 0).val < 256) :
    j = rO0.emb (ix2 (⟨(j 0).val, h⟩ : Fin 256) (⟨(j 1).val, (j 1).isLt⟩ : Fin 512)) := by
  funext a; apply Fin.ext; fin_cases a
  · show (j 0).val = 0 + 1 * (j 0).val; omega
  · show (j 1).val = 0 + 1 * (j 1).val; omega
theorem emb1 (j : S512x512.Idx) (h : ¬ (j 0).val < 256) (h' : (j 0).val - 256 < 256) :
    j = rO1.emb (ix2 (⟨(j 0).val - 256, h'⟩ : Fin 256) (⟨(j 1).val, (j 1).isLt⟩ : Fin 512)) := by
  funext a; apply Fin.ext; fin_cases a
  · show (j 0).val = 256 + 1 * ((j 0).val - 256); omega
  · show (j 1).val = 0 + 1 * (j 1).val; omega
theorem read_out (g : Vec F S512x512 .f32) : oM.view.read (Elt F) g = g := rfl
theorem out_read (f : Vec F S512x512 .f32) (a b : Vec F S256x512 .f32) :
    oM.view.read (Elt F) ((oM.view.slice rO1).write (Elt F) ((oM.view.slice rO0).write (Elt F) f a Finset.univ) b Finset.univ) = outJ a b := by
  funext j
  unfold outJ
  by_cases h : (j 0).val < 256
  · rw [dif_pos h]
    refine (out_miss1 _ b j h).trans ?_
    exact (congrArg (oM.view.read (Elt F) ((oM.view.slice rO0).write (Elt F) f a Finset.univ)) (emb0 j h)).trans (out_hit0 f a _ _)
  · have h' : (j 0).val - 256 < 256 := by have : (j 0).val < 512 := (j 0).isLt; omega
    rw [dif_neg h]
    exact (congrArg (oM.view.read (Elt F) ((oM.view.slice rO1).write (Elt F) ((oM.view.slice rO0).write (Elt F) f a Finset.univ) b Finset.univ)) (emb1 j h h')).trans (out_hit1 _ b _ _)

variable (I : Inp F) (κ : GSem nD τ sig → ℕ) (κS : KK → ℕ)

/-- What core `c` stores. -/
def outV (c : Dev nD) : Vec F S512x512 .f32 := outJ (Gen.k0_pay221 (thickP (PV I false 32 c))) (Gen.k0_pay222 (thickP (PV I true 32 c)))

/-! ## The last waits -/

abbrev tS (c : Dev nD) (R : Bool) (k h : ℕ) : GSem nD τ sig := ((c.tc : Thread nD τ), .dma (dS R k h))

theorem wp_lastWaits (c : Dev nD) (R : Bool) (k : PR F) (Q : PUnit → sProp 𝕄) (hh : 31 < 32) (h0 : 0 < 2) (h1 : 1 < 2) :
    iprop(Ctx I κ κS ∗ cred (tallyAt (tS c R 2 31) 1 Np) ∗ RxH c R 31 ∗ OW c 256)
      ⊢ iprop((OW c 256 -∗ (semVal (tS c R 2 31) 0 ∗ semVal (tS c R 3 31) 0 ∗ PS c R 31 fullShare ∗ atPos EQ (tS c R 0 31) 0 ∅ 0 ∗ atPos EQ (tS c R 1 31) 0 ∅ 0)
            -∗ PC c R 32 fullShare (PV I R 32 c) -∗ WP c k Q)
        -∗ WP c (waitPs (rg c R) 31 hh 0 1 h0 h1 (waitPr (rg c R) 31 hh 0 h0 k)) Q) := by
  have hlt := item_lt R (h := 31) (a := 3) (by omega) (by decide)
  unfold RxH
  rw [amt3]
  iintro ⟨#HC, Hc, ⟨Hax, Hap, Haxr, Hapr, -, Hcp⟩, HO⟩ Hk
  iapply (wp_waitPs I κ κS c R _ Q (h := 31) (i := 256) _ _ _) $$ [Hc HO Hap]
  · isplitr; · iexact HC
    isplitl [Hc]; · iexact Hc
    isplitl [HO] <;> iassumption
  iintro HO Hv2 HP
  iapply (wp_waitPr I κ κS c R _ Q (h := 31) (u := 2 + item 31 R 3) (i := 256) _ _ (by omega) (by omega)) $$ [Hcp HO Hapr]
  · isplitr; · iexact HC
    isplitl [Hcp]; · iexact Hcp
    isplitl [HO] <;> iassumption
  iintro HO Hv3 HPC
  iapply Hk $$ HO [Hv2 Hv3 HP Hax Haxr] HPC
  isplitl [Hv2]; · iexact Hv2
  isplitl [Hv3]; · iexact Hv3
  isplitl [HP]; · iexact HP
  isplitl [Hax] <;> iassumption

/-! ## The cells closed -/

theorem closeIdle (c : Dev nD) (R : Bool) {k : ℕ} (hk : k < 2) :
    iprop(Ctx I κ κS ∗ atPos EQ (tS c R k 31) 0 ∅ 0) ⊢ (|={Set.univ}=> semVal (tS c R k 31) 0 : sProp 𝕄) := by
  iintro ⟨#HC, Hat⟩
  imod (Rounds.fupd_skip EQ (sched I) (κ := κ (tS c R k 31)) (g := tS c R k 31) (R := 0) (m := 0) (T := ∅)
    (by rw [duties_idle I c R hk]) (by rw [expect_idle I c R hk]) (Set.mem_univ _)) $$ [Hat] with ⟨Hat, -⟩
  · isplitr; · iapply (Ctx_own I κ κS c (osem_dma R (k := k) (h := 31) (by omega) (by decide))); iexact HC
    iexact Hat
  iapply (closeCell I κ κS c _ (osem_dma R (k := k) (h := 31) (by omega) (by decide)))
  isplitr; · iexact HC
  iexact Hat
theorem closeCredit (c : Dev nD) (R : Bool) {k : ℕ} (hk : k < 2) :
    iprop(Ctx I κ κS ∗ crSt c R k (30 + k)) ⊢ (|={Set.univ}=> semVal ((c.tc : Thread nD τ), .reg (cS R k)) 0 : sProp 𝕄) := by
  unfold crSt
  iintro ⟨#HC, ⟨%T, %hT, Hat, -⟩⟩
  have hTe : Finset.Icc 1 (30 + k) ⊆ T := by
    have := Finset.eq_of_subset_of_card_le hT.1 (by rw [Nat.card_Icc]; have := hT.2; omega)
    rw [this]
  imod (Rounds.fupd_skip EQ (sched I) (κ := κ ((c.tc : Thread nD τ), .reg (cS R k))) (g := ((c.tc : Thread nD τ), .reg (cS R k))) (R := 0) (m := 30 + k) (T := T)
    (by rw [duties_credit I c R hk]; exact hTe) (by rw [expect_credit I c R hk]) (Set.mem_univ _)) $$ [Hat] with ⟨Hat, -⟩
  · isplitr; · iapply (Ctx_own I κ κS c (osem_reg R hk)); iexact HC
    iexact Hat
  iapply (closeCell I κ κS c _ (osem_reg R hk))
  isplitr; · iexact HC
  iexact Hat

theorem XS_of (c : Dev nD) (R : Bool) (n : ℕ) (q : PosShare TreeShare) (v : Vec F S256x384 .bf16) : (XC c R n q v : sProp 𝕄) ⊢ XS c R n q := by
  unfold XC XS; iintro ⟨%f, -, H⟩; iexists f; iexact H
theorem PS_of (c : Dev nD) (R : Bool) (n : ℕ) (q : PosShare TreeShare) (v : Vec F S256x512 .bf16) : (PC c R n q v : sProp 𝕄) ⊢ PS c R n q := by
  unfold PC PS; iintro ⟨%f, -, H⟩; iexists f; iexact H

/-- The credit cells of ring `R`, done with. -/
def CrD (c : Dev nD) (R : Bool) : sProp 𝕄 := iprop(semVal ((c.tc : Thread nD τ), .reg (cS R 0)) 0 ∗ semVal ((c.tc : Thread nD τ), .reg (cS R 1)) 0)

theorem ring_finish (c : Dev nD) (R : Bool) :
    iprop(Ctx I κ κS ∗ (semVal (tS c R 2 31) 0 ∗ semVal (tS c R 3 31) 0 ∗ PS c R 31 fullShare ∗ atPos EQ (tS c R 0 31) 0 ∅ 0 ∗ atPos EQ (tS c R 1 31) 0 ∅ 0)
        ∗ PC c R 32 fullShare (PV I R 32 c) ∗ XC c R 31 fullShare (XV I R 31 c) ∗ XS c R 30 fullShare ∗ crSt c R 0 30 ∗ crSt c R 1 31)
      ⊢ (|={Set.univ}=> (DoneH c R 31 ∗ BW c R ∗ CrD c R) : sProp 𝕄) := by
  iintro ⟨#HC, ⟨Hv2, Hv3, HP1, Hax, Har⟩, HP0, HX1, HX0, Hc0, Hc1⟩
  imod (closeIdle I κ κS c R (k := 0) (by decide)) $$ [Hax] with Hv0
  · isplitr; · iexact HC
    iexact Hax
  imod (closeIdle I κ κS c R (k := 1) (by decide)) $$ [Har] with Hv1
  · isplitr; · iexact HC
    iexact Har
  imod (closeCredit I κ κS c R (k := 0) (by decide)) $$ [Hc0] with Hs0
  · isplitr; · iexact HC
    iexact Hc0
  imod (closeCredit I κ κS c R (k := 1) (by decide)) $$ [Hc1] with Hs1
  · isplitr; · iexact HC
    iexact Hc1
  ihave HP0 := (PS_of c R 32 fullShare _) $$ HP0
  ihave HX1 := (XS_of c R 31 fullShare _) $$ HX1
  imodintro
  unfold DoneH CrD
  isplitl [Hv0 Hv1 Hv2 Hv3]
  · isplitl [Hv0]; · iexact Hv0
    isplitl [Hv2]; · iexact Hv2
    isplitl [Hv1] <;> iassumption
  isplitl [HX0 HX1 HP0 HP1]
  · iapply (slots_join c R)
    rw [XS_mod c R (n := 0) (m := 30) rfl, PS_mod c R (n := 0) (m := 32) rfl, XS_mod c R (n := 1) (m := 31) rfl, PS_mod c R (n := 1) (m := 31) rfl]
    isplitl [HX0]; · iexact HX0
    isplitl [HP0]; · iexact HP0
    isplitl [HX1] <;> iassumption
  isplitl [Hs0] <;> iassumption

/-! ## The end -/

theorem wp_loadOut (c : Dev nD) (R : Bool) (v : Vec F S256x512 .bf16) (k : Vec F S1x256x512 .bf16 → PR F) (Q : PUnit → sProp 𝕄) :
    (PC c R 32 fullShare v : sProp 𝕄) ⊢ iprop((PC c R 32 fullShare v -∗ WP c (k (thickP v)) Q)
      -∗ WP c (.op (.load (bufM R) (Rect.unit (s := S2x256x896) ![0, 0, 384] S1x256x512.size Facts₀.inb_S2x256x896_S1x256x512_0_0_384).toLoadRect (View.loadsAt_vmem Facts₀.h_S1x256x512)) k) Q) := by
  unfold PC
  iintro ⟨%f, %hf, Hf⟩ Hk
  iapply (wp_load_rect (c := (c.tc : Thread nD τ)) (m := bufM R) (r := rP 32) (f := f) (q := fullShare) Variants.none none Set.univ (P_sub R 32)) $$ Hf
  iintro Hf
  rw [read_sums R 32 f, hf]
  iapply Hk
  iexists f
  isplitr; · ipureintro; exact hf
  iexact Hf

theorem wp_tail (c : Dev nD) (Q : PUnit → sProp 𝕄) :
    iprop(Ctx I κ κS ∗ OW c 256 ∗ (RxH c false 31 ∗ RxH c true 31) ∗ StE I c false ∗ StE I c true ∗ (∃ o, stg c cc0_stg6_0 o))
      ⊢ iprop((OW c 256 -∗ stg c cc0_stg6_0 (outV I c) -∗ (DoneH c false 31 ∗ DoneH c true 31) -∗ BW c false -∗ BW c true -∗ CrD c false -∗ CrD c true -∗ Q ⟨⟩)
        -∗ WP c (tail (rg c false) (rg c true) (Memref.whole cc0_stg6_0)) Q) := by
  unfold StE tail
  iintro ⟨#HC, HO, ⟨Hra, Hrb⟩, ⟨HXa, HXa0, Hca, Ha0, Ha1⟩, ⟨HXb, HXb0, Hcb, Hb0, Hb1⟩, ⟨%o, Ho⟩⟩ Hk
  iapply (wp_lastWaits I κ κS c false _ Q _ _ _) $$ [HO Hra Hca]
  · isplitr; · iexact HC
    isplitl [Hca]; · iexact Hca
    isplitl [Hra] <;> iassumption
  iintro HO Hva HPa
  iapply (wp_lastWaits I κ κS c true _ Q _ _ _) $$ [HO Hrb Hcb]
  · isplitr; · iexact HC
    isplitl [Hcb]; · iexact Hcb
    isplitl [Hrb] <;> iassumption
  iintro HO Hvb HPb
  iapply (wp_loadOut c false _ _ Q) $$ HPa
  iintro HPa
  iapply (wp_load_rect (c := (c.tc : Thread nD τ)) (m := oM) (r := rO0) (f := o) (q := fullShare) Variants.none none Set.univ (Finset.subset_univ _)) $$ Ho
  iintro Ho
  iapply (wp_store (c := (c.tc : Thread nD τ)) (m := oM) (r := rO0) (f := o) Variants.none none Set.univ (Finset.subset_univ _)) $$ Ho
  iintro Ho
  iapply (wp_loadOut c true _ _ Q) $$ HPb
  iintro HPb
  iapply (wp_load_rect (c := (c.tc : Thread nD τ)) (m := oM) (r := rO1) (q := fullShare) Variants.none none Set.univ (Finset.subset_univ _)) $$ Ho
  iintro Ho
  iapply (wp_store (c := (c.tc : Thread nD τ)) (m := oM) (r := rO1) Variants.none none Set.univ (Finset.subset_univ _)) $$ Ho
  iintro Ho
  rw [wp_ret]
  imod (ring_finish I κ κS c false) $$ [Hva HPa HXa HXa0 Ha0 Ha1] with ⟨Hda, HBa, HCa⟩
  · isplitr; · iexact HC
    isplitl [Hva]; · iexact Hva
    isplitl [HPa]; · iexact HPa
    isplitl [HXa]; · iexact HXa
    isplitl [HXa0]; · iexact HXa0
    isplitl [Ha0] <;> iassumption
  imod (ring_finish I κ κS c true) $$ [Hvb HPb HXb HXb0 Hb0 Hb1] with ⟨Hdb, HBb, HCb⟩
  · isplitr; · iexact HC
    isplitl [Hvb]; · iexact Hvb
    isplitl [HPb]; · iexact HPb
    isplitl [HXb]; · iexact HXb
    isplitl [HXb0]; · iexact HXb0
    isplitl [Hb0] <;> iassumption
  imodintro
  have eo := out_read o (Gen.k0_pay221 (thickP (PV I false 32 c))) (Gen.k0_pay222 (thickP (PV I true 32 c)))
  rw [read_out, ← outV] at eo
  have eo' := (Entails.of_eq (congrArg (fun g : Vec F S512x512 .f32 => (stg c cc0_stg6_0 g : sProp 𝕄)) eo))
  ihave Ho := eo' $$ Ho
  iapply Hk $$ HO Ho [Hda Hdb] HBa HBb HCa HCb
  isplitl [Hda] <;> iassumption

end Cert.KernelIdeal.Moe

end
-- ==== Proof.Run.lean ====
/- One core's whole run, from what the launch gives it to what it leaves. -/
module

public import proofs.«01_k».proof.Proof.Tail

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-- The inputs of every core: tokens, the router's weights, the routes, the experts' weights. -/
structure Args (F : FTy → Type) [FloatOps F] where
  x : Dev nD → Vec F S512x256 .f32
  r : Dev nD → Vec F S256x128 .f32
  i : Dev nD → Vec F S512x2 .i32
  e : Dev nD → Vec F S4x256x512 .f32

/-- Half of a core's tokens. -/
abbrev rows (off : Fin 2 → ℕ) (hoff : ∀ a, off a + S256x256.size a ≤ S512x256.size a) (x : Vec F S512x256 .f32) : Vec F S256x256 .f32 :=
  ((Memref.whole cc0_stg0_0).access (Rect.unit (s := S512x256) off S256x256.size hoff)).read (Elt F) x

variable (A : Args F)

def coefA (c : Dev nD) : FVec F S1x256x128 .bf16 :=
  Gen.k0_pay8 (Gen.k0_pay2 (col0 (A.i c))) (Gen.k0_pay3 (col1 (A.i c))) (Gen.k0_pay4 (A.x c) (A.r c) (col0 (A.i c))) (Gen.k0_pay5 (A.x c) (A.r c) (col1 (A.i c)))
def coefB (c : Dev nD) : FVec F S1x256x128 .bf16 :=
  Gen.k0_pay12 (Gen.k0_pay11 (Gen.k0_pay2 (col0 (A.i c))) (Gen.k0_pay3 (col1 (A.i c))) (Gen.k0_pay4 (A.x c) (A.r c) (col0 (A.i c))) (Gen.k0_pay5 (A.x c) (A.r c) (col1 (A.i c))))

/-- What the cores start from. -/
def inp : Inp F where
  x0 c R := bif R then joinX (Gen.k0_pay10 (rows ![256, 0] Facts₀.inb_S512x256_S256x256_256_0 (A.x c))) (coefB A c)
    else joinX (Gen.k0_pay7 (rows ![0, 0] Facts₀.inb_S512x256_S256x256_0_0 (A.x c))) (coefA A c)
  p0 _ R := bif R then flatP Gen.k0_pay13 else flatP Gen.k0_pay9
  w c := wOf (A.e c)

variable (κ : GSem nD τ sig → ℕ) (κS : KK → ℕ)

theorem rot3 (P Q R : sProp 𝕄) : iprop(P ∗ Q ∗ R) = iprop(Q ∗ R ∗ P) := by
  have h1 : iprop(P ∗ Q ∗ R) ⊢ iprop(Q ∗ R ∗ P) := by
    iintro ⟨H1, H2, H3⟩
    isplitl [H2]; · iexact H2
    isplitl [H3] <;> iassumption
  have h2 : iprop(Q ∗ R ∗ P) ⊢ iprop(P ∗ Q ∗ R) := by
    iintro ⟨H1, H2, H3⟩
    isplitl [H3]; · iexact H3
    isplitl [H1] <;> iassumption
  exact equiv_iff.mp ⟨h1, h2⟩
theorem rev3_le (P Q R : sProp 𝕄) : iprop(P ∗ Q ∗ R) ⊢ iprop(R ∗ Q ∗ P) := by
  iintro ⟨H1, H2, H3⟩
  isplitl [H3]; · iexact H3
  isplitl [H2] <;> iassumption
theorem rev3 (P Q R : sProp 𝕄) : iprop(P ∗ Q ∗ R) = iprop(R ∗ Q ∗ P) := equiv_iff.mp ⟨rev3_le P Q R, rev3_le R Q P⟩
theorem range32 (Φ : ℕ → sProp 𝕄) : bigSep (Finset.range 32) Φ = iprop(Φ 0 ∗ bigSep (Finset.Ico 0 30) (fun h => Φ (h + 1)) ∗ Φ 31) := by
  rw [show Finset.range 32 = insert 31 (insert 0 ((Finset.Ico 0 30).map ⟨fun h => h + 1, fun a b h => Nat.succ.inj h⟩)) from by decide,
    bigSep_ins (by decide), bigSep_ins (by decide), bigSep_map]
  exact rot3 _ _ _
theorem range32' (Φ : ℕ → sProp 𝕄) : bigSep (Finset.range 32) Φ = iprop(bigSep (Finset.Ico 0 30) Φ ∗ Φ 30 ∗ Φ 31) := by
  rw [show Finset.range 32 = insert 31 (insert 30 (Finset.Ico 0 30)) from by decide,
    bigSep_ins (by decide), bigSep_ins (by decide)]
  exact rev3 _ _ _

theorem WL_zero (c : Dev nD) (e : Vec F S4x256x512 .f32) : iprop(∃ g, stg c cc0_scratch2 g) ⊢ (WL c e 0 : sProp 𝕄) := by
  unfold WL
  iintro ⟨%g, H⟩
  iexists g
  isplitr; · ipureintro; intro j hj; exact absurd hj (by omega)
  iexact H

/-- The credit cells of ring `R`, not yet waited on. -/
def CrA (c : Dev nD) (R : Bool) : sProp 𝕄 :=
  iprop(atPos EQ ((c.tc : Thread nD τ), .reg (cS R 0)) 0 ∅ 0 ∗ atPos EQ ((c.tc : Thread nD τ), .reg (cS R 1)) 0 ∅ 0)

/-- The whole body's program at the buffers of the launch. -/
abbrev bodyP : PR F :=
  body (Memref.whole cc0_stg0_0) (Memref.whole cc0_stg1_0) (Memref.whole cc0_stg2_0) (Memref.whole cc0_stg3_0) (Memref.whole cc0_stg4_0) (Memref.whole cc0_stg5_0) (Memref.whole cc0_stg6_0)
    (Memref.whole cc0_scratch0) (Memref.isWhole_whole _) (Memref.whole cc0_scratch1) (Memref.isWhole_whole _) (Memref.whole cc0_scratch2) (Memref.isWhole_whole _)
    cc0_scratch3 cc0_scratch4 cc0_scratch5 cc0_scratch6 cc0_scratch7 cc0_scratch8 cc0_scratch9 cc0_scratch10 cc0_scratch11 cc0_scratch12 cc0_scratch13 cc0_scratch14

/-- The staging buffers of the inputs of core `c`. -/
def InS (c : Dev nD) : sProp 𝕄 :=
  iprop(stg c cc0_stg0_0 (A.x c) ∗ stg c cc0_stg1_0 (A.r c) ∗ stg c cc0_stg2_0 (A.i c) ∗ stg c cc0_stg3_0 (A.e c) ∗ stg c cc0_stg4_0 tab0 ∗ stg c cc0_stg5_0 tab1)
/-- The ghost state a core starts its run with. -/
def TkS (c : Dev nD) : sProp 𝕄 :=
  iprop(BarTk c ∗ bigSep (Finset.range 32) (TxB c) ∗ bigSep (Finset.range 32) (RxB c) ∗ CrA c false ∗ CrA c true)

theorem wp_body (c : Dev nD) (Q : PUnit → sProp 𝕄) :
    iprop(Ctx (inp A) κ κS ∗ rch c ∗ InS A c ∗ (∃ o, stg c cc0_stg6_0 o) ∗ BW c false ∗ BW c true ∗ (∃ g, stg c cc0_scratch2 g)
        ∗ TkS c ∗ (∃ W, owes (c.tc : Thread nD τ) (O₀ c) W))
      ⊢ iprop((InS A c -∗ stg c cc0_stg6_0 (outV (inp A) c) -∗ BW c false -∗ BW c true -∗ (∃ g, stg c cc0_scratch2 g)
            -∗ bigSep (Finset.range 32) (DoneB c) -∗ CrD c false -∗ CrD c true -∗ semVal (barC c) 0 -∗ OW c 256 -∗ Q ⟨⟩)
        -∗ WP c bodyP Q) := by
  unfold InS TkS CrA bodyP body
  rw [range32 (TxB c), range32' (RxB c), range32' (DoneB c)]
  iintro ⟨#HC, #Hrc, ⟨H0, H1, H2, H3, H4, H5⟩, Ho, HBa, HBb, HW, ⟨Hbar, ⟨Ht0, Hts, Ht31⟩, ⟨Hrs, Hr30, Hr31⟩, ⟨Hca0, Hca1⟩, Hcb0, Hcb1⟩, HO⟩ Hk
  ihave HBa := (slots_split c false) $$ HBa
  ihave HBb := (slots_split c true) $$ HBb
  icases HBa with ⟨HXa, HPa, HXa1, HPa1⟩
  icases HBb with ⟨HXb, HPb, HXb1, HPb1⟩
  iapply (wp_entry (inp A) κ κS c _ Q) $$ [H4 H5 Hbar HO HXa1 HPa1 HXb1 HPb1]
  · isplitr; · iexact HC
    isplitr; · iexact Hrc
    isplitl [H4]; · iexact H4
    isplitl [H5]; · iexact H5
    isplitl [Hbar]; · iexact Hbar
    isplitl [HO]; · iexact HO
    isplitl [HXa1 HPa1]
    · isplitl [HXa1] <;> iassumption
    isplitl [HXb1] <;> iassumption
  iintro H4 H5 #HK HO Hsb ⟨HXan, HPan⟩ ⟨HXbn, HPbn⟩
  rw [ringA_eq c, ringB_eq c]
  iapply (wp_loadIn c (A.x c) (A.r c) (A.i c) _ Q) $$ [H0 H1 H2]
  · isplitl [H0]; · iexact H0
    isplitl [H1] <;> iassumption
  iintro H0 H1 H2
  iapply (wp_fill c false _ _ _ _ _ (A.x c) _ Q) $$ [H0 HXa HPa]
  · isplitl [H0]; · iexact H0
    isplitl [HXa] <;> iassumption
  iintro H0 HXa HPa
  iapply (wp_fill c true _ _ _ _ _ (A.x c) _ Q) $$ [H0 HXb HPb]
  · isplitl [H0]; · iexact H0
    isplitl [HXb] <;> iassumption
  iintro H0 HXb HPb
  ihave HW := (WL_zero c (A.e c)) $$ HW
  iapply (wp_fillW c (A.e c) (o := 0) (by decide) rfl _ _ _ _ Q) $$ [H3 HW]
  · isplitl [H3] <;> iassumption
  iintro H3 HW
  iapply (wp_fillW c (A.e c) (o := 1) (by decide) rfl _ _ _ _ Q) $$ [H3 HW]
  · isplitl [H3] <;> iassumption
  iintro H3 HW
  iapply (wp_fillW c (A.e c) (o := 2) (by decide) rfl _ _ _ _ Q) $$ [H3 HW]
  · isplitl [H3] <;> iassumption
  iintro H3 HW
  iapply (wp_fillW c (A.e c) (o := 3) (by decide) rfl _ _ _ _ Q) $$ [H3 HW]
  · isplitl [H3] <;> iassumption
  iintro H3 HW
  ihave HW := (WL_all c (A.e c)) $$ HW
  have et : (TxB c 0 : sProp 𝕄) ⊢ iprop(TxH c false 0 ∗ TxH c true 0) := BI.Entails.refl _
  have et' : (TxB c 31 : sProp 𝕄) ⊢ iprop(TxH c false 31 ∗ TxH c true 31) := BI.Entails.refl _
  have er : (RxB c 30 : sProp 𝕄) ⊢ iprop(RxH c false 30 ∗ RxH c true 30) := BI.Entails.refl _
  have er' : (RxB c 31 : sProp 𝕄) ⊢ iprop(RxH c false 31 ∗ RxH c true 31) := BI.Entails.refl _
  ihave Ht0 := et $$ Ht0
  ihave Ht31 := et' $$ Ht31
  ihave Hr30 := er $$ Hr30
  ihave Hr31 := er' $$ Hr31
  icases Ht0 with ⟨Hta, Htb⟩
  icases Ht31 with ⟨Hta', Htb'⟩
  icases Hr30 with ⟨Hra, Hrb⟩
  iapply (wp_hop0 (inp A) κ κS c false _ Q) $$ [Hta HO HXa HPa HXan HPan Hca0 Hca1 HW]
  · isplitr; · iexact HK
    isplitl [Hta]; · iexact Hta
    isplitl [HO]; · iexact HO
    isplitl [HXa]; · iexact HXa
    isplitl [HPa]; · iexact HPa
    isplitl [HXan]; · iexact HXan
    isplitl [HPan]; · iexact HPan
    isplitl [Hca0]; · iexact Hca0
    isplitl [Hca1]; · iexact Hca1
    iexact HW
  iintro HO HSa HW
  iapply (wp_hop0 (inp A) κ κS c true _ Q) $$ [Htb HO HXb HPb HXbn HPbn Hcb0 Hcb1 HW]
  · isplitr; · iexact HK
    isplitl [Htb]; · iexact Htb
    isplitl [HO]; · iexact HO
    isplitl [HXb]; · iexact HXb
    isplitl [HPb]; · iexact HPb
    isplitl [HXbn]; · iexact HXbn
    isplitl [HPbn]; · iexact HPbn
    isplitl [Hcb0]; · iexact Hcb0
    isplitl [Hcb1] <;> iassumption
  iintro HO HSb HW
  iapply (wp_hops (inp A) κ κS c _ Q 30 0 _ rfl) $$ [Hts Hrs HO HSa HSb HW]
  · isplitr; · iexact HK
    isplitl [Hts]; · iexact Hts
    isplitl [Hrs]; · iexact Hrs
    isplitl [HO]; · iexact HO
    isplitl [HSa HSb]
    · unfold StB
      isplitl [HSa] <;> iassumption
    iexact HW
  unfold StB
  iintro HO ⟨HSa, HSb⟩ HW Hds
  iapply (wp_hopLast (inp A) κ κS c false _ Q) $$ [Hta' Hra HO HSa HW]
  · isplitr; · iexact HK
    isplitl [Hta']; · iexact Hta'
    isplitl [Hra]; · iexact Hra
    isplitl [HO]; · iexact HO
    isplitl [HSa] <;> iassumption
  iintro HO HSa HW Hda
  iapply (wp_hopLast (inp A) κ κS c true _ Q) $$ [Htb' Hrb HO HSb HW]
  · isplitr; · iexact HK
    isplitl [Htb']; · iexact Htb'
    isplitl [Hrb]; · iexact Hrb
    isplitl [HO]; · iexact HO
    isplitl [HSb] <;> iassumption
  iintro HO HSb HW Hdb
  iapply (wp_tail (inp A) κ κS c Q) $$ [HO Hr31 HSa HSb Ho]
  · isplitr; · iexact HC
    isplitl [HO]; · iexact HO
    isplitl [Hr31]; · iexact Hr31
    isplitl [HSa]; · iexact HSa
    isplitl [HSb] <;> iassumption
  iintro HO Ho Hd31 HBa HBb HCa HCb
  iapply Hk $$ [H0 H1 H2 H3 H4 H5] Ho HBa HBb [HW] [Hds Hda Hdb Hd31] HCa HCb Hsb HO
  · isplitl [H0]; · iexact H0
    isplitl [H1]; · iexact H1
    isplitl [H2]; · iexact H2
    isplitl [H3]; · iexact H3
    isplitl [H4] <;> iassumption
  · unfold WW; iexists _; iexact HW
  · isplitl [Hds]; · iexact Hds
    isplitl [Hda Hdb]
    · unfold DoneB
      isplitl [Hda] <;> iassumption
    unfold DoneB; iexact Hd31

end Cert.KernelIdeal.Moe

end
-- ==== Proof.Cells.lean ====
/- The launch's ghost state dealt out: what is made cell by cell and item by item, regrouped by ring and hop; the tokens of the duties
   and the right to write a slot passed to the neighbour that uses them; and what all the cores owe one core, as that core's credits. -/
module

public import proofs.«01_k».proof.Proof.Run
public import Idealize.ShloMosaic.Lib.Ring
public import Idealize.ShloMosaic.Harness.Basic
public import Idealize.SL.BI.BigOpNat
public import Idealize.ShloMosaic.Lib.SparseCore.Launch

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F] [Facts]

local notation "𝕄" => MT nD τ sig ℕ (Elt F) ℕ UU ℕ

/-! ## Regrouping by ring and hop -/

theorem swap_eq {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty => exact (bigSep_emp_const t).symm
  | insert a s ha ih =>
    rw [bigSep_insert ha, ih, bigSep_congr (s := t) (fun j _ => bigSep_insert ha), bigSep_sep]

theorem assoc_eq (P Q R : sProp 𝕄) : iprop((P ∗ Q) ∗ R) = iprop(P ∗ Q ∗ R) := equiv_iff.mp ⟨BI.sep_assoc, BI.sep_assoc'⟩
theorem two_eq (n : ℕ) (Ψ : ℕ → sProp 𝕄) :
    bigSep (Finset.range (2 * n)) Ψ = bigSep (Finset.range n) fun k => iprop(Ψ (2 * k) ∗ Ψ (2 * k + 1)) :=
  (_root_.Idealize.ShloMosaic.Ring.bigSep_range_deinterleave n Ψ).trans (bigSep_sep' _ _ _).symm

/-- The four items of ring `R` and hop `h`. -/
def it4 (Ψ : ℕ → sProp 𝕄) (R : Bool) (h : ℕ) : sProp 𝕄 := iprop(Ψ (item h R 0) ∗ Ψ (item h R 1) ∗ Ψ (item h R 2) ∗ Ψ (item h R 3))
/-- The number of the credit of ring `R`, slot part `k` and hop `h` among the credits. -/
def ci (h : ℕ) (R : Bool) (k : ℕ) : ℕ := 4 * h + 2 * R.toNat + k

theorem items_eq (Ψ : ℕ → sProp 𝕄) : bigSep (Finset.range 256) Ψ = bigSep (Finset.range 32) fun h => iprop(it4 Ψ false h ∗ it4 Ψ true h) := by
  rw [show 256 = 2 * (2 * (2 * 32)) from rfl, two_eq, two_eq, two_eq]
  refine bigSep_congr fun h _ => ?_
  have e0 : item h false 0 = 2 * (2 * (2 * h)) := by unfold item; simp only [Bool.toNat_false]; omega
  have e1 : item h false 1 = 2 * (2 * (2 * h)) + 1 := by unfold item; simp only [Bool.toNat_false]; omega
  have e2 : item h false 2 = 2 * (2 * (2 * h) + 1) := by unfold item; simp only [Bool.toNat_false]; omega
  have e3 : item h false 3 = 2 * (2 * (2 * h) + 1) + 1 := by unfold item; simp only [Bool.toNat_false]; omega
  have e4 : item h true 0 = 2 * (2 * (2 * h + 1)) := by unfold item; simp only [Bool.toNat_true]; omega
  have e5 : item h true 1 = 2 * (2 * (2 * h + 1)) + 1 := by unfold item; simp only [Bool.toNat_true]; omega
  have e6 : item h true 2 = 2 * (2 * (2 * h + 1) + 1) := by unfold item; simp only [Bool.toNat_true]; omega
  have e7 : item h true 3 = 2 * (2 * (2 * h + 1) + 1) + 1 := by unfold item; simp only [Bool.toNat_true]; omega
  unfold it4
  rw [e0, e1, e2, e3, e4, e5, e6, e7, assoc_eq (Ψ _) (Ψ _), assoc_eq (Ψ (2 * (2 * (2 * h + 1)))) (Ψ _)]
theorem credits_eq (Ψ : ℕ → sProp 𝕄) : bigSep (Finset.range 128) Ψ
    = bigSep (Finset.range 32) fun h => iprop((Ψ (ci h false 0) ∗ Ψ (ci h false 1)) ∗ Ψ (ci h true 0) ∗ Ψ (ci h true 1)) := by
  rw [show 128 = 2 * (2 * 32) from rfl, two_eq, two_eq]
  refine bigSep_congr fun h _ => ?_
  have e0 : ci h false 0 = 2 * (2 * h) := by unfold ci; simp only [Bool.toNat_false]; omega
  have e1 : ci h false 1 = 2 * (2 * h) + 1 := by unfold ci; simp only [Bool.toNat_false]; omega
  have e2 : ci h true 0 = 2 * (2 * h + 1) := by unfold ci; simp only [Bool.toNat_true]; omega
  have e3 : ci h true 1 = 2 * (2 * h + 1) + 1 := by unfold ci; simp only [Bool.toNat_true]; omega
  rw [e0, e1, e2, e3]

/-- The credit semaphore numbered `j`. -/
def cSn (j : ℕ) : Sem sig := ⟨j % 4 % 5, Nat.mod_lt _ (by decide)⟩
theorem cSn_ci (h : ℕ) (R : Bool) {k : ℕ} (hk : k < 2) : cSn (ci h R k) = cS R k := by
  apply Fin.ext; show ci h R k % 4 % 5 = (2 * R.toNat + k) % 5
  unfold ci
  cases R
  · simp only [Bool.toNat_false]; omega
  · simp only [Bool.toNat_true]; omega
theorem ci_div (h : ℕ) (R : Bool) {k : ℕ} (hk : k < 2) : ci h R k / 4 = h := by
  unfold ci
  cases R
  · simp only [Bool.toNat_false]; omega
  · simp only [Bool.toNat_true]; omega

/-! ## The cells -/

def osemN (k : ℕ) : SemLoc sig := if k < 256 then .dma (dcell k) else .reg ⟨(k - 256) % 5, Nat.mod_lt _ (by decide)⟩

/-- The four transfer cells of ring `R` and hop `h`. -/
def cell4 (Φ : SemLoc sig → sProp 𝕄) (R : Bool) (h : ℕ) : sProp 𝕄 :=
  iprop(Φ (.dma (dS R 0 h)) ∗ Φ (.dma (dS R 2 h)) ∗ Φ (.dma (dS R 1 h)) ∗ Φ (.dma (dS R 3 h)))
def cell2 (Φ : SemLoc sig → sProp 𝕄) (R : Bool) : sProp 𝕄 := iprop(Φ (.reg (cS R 0)) ∗ Φ (.reg (cS R 1)))

theorem dcells_eq (Φ : SemLoc sig → sProp 𝕄) (R : Bool) (h : ℕ) : it4 (fun i => Φ (.dma (dcell i))) R h = cell4 Φ R h := by
  unfold it4 cell4
  dsimp only
  rw [dcell_item h R (by decide), dcell_item h R (by decide), dcell_item h R (by decide), dcell_item h R (by decide)]
  rfl

theorem order5 (A B C D E : sProp 𝕄) : iprop(A ∗ B ∗ C ∗ D ∗ E) = iprop(E ∗ (D ∗ C) ∗ B ∗ A) := by
  have h1 : iprop(A ∗ B ∗ C ∗ D ∗ E) ⊢ iprop(E ∗ (D ∗ C) ∗ B ∗ A) := by
    iintro ⟨HA, HB, HC, HD, HE⟩
    isplitl [HE]; · iexact HE
    isplitl [HC HD]
    · isplitl [HD] <;> iassumption
    isplitl [HB] <;> iassumption
  have h2 : iprop(E ∗ (D ∗ C) ∗ B ∗ A) ⊢ iprop(A ∗ B ∗ C ∗ D ∗ E) := by
    iintro ⟨HE, ⟨HD, HC⟩, HB, HA⟩
    isplitl [HA]; · iexact HA
    isplitl [HB]; · iexact HB
    isplitl [HC]; · iexact HC
    isplitl [HD] <;> iassumption
  exact equiv_iff.mp ⟨h1, h2⟩

theorem own_eq (Φ : SemLoc sig → sProp 𝕄) : (bigSep Finset.univ fun k : Fin 260 => Φ (osem k))
    = iprop(bigSep (Finset.range 32) (fun h => iprop(cell4 Φ false h ∗ cell4 Φ true h)) ∗ cell2 Φ false ∗ cell2 Φ true) := by
  rw [_root_.Idealize.ShloMosaic.Ring.bigSep_fin_eq_range 260 (fun k : Fin 260 => Φ (osem k)) (fun k => Φ (osemN k)) (fun _ _ => rfl),
    show 260 = 256 + 1 + 1 + 1 + 1 from rfl, bigSep_range_succ, bigSep_range_succ, bigSep_range_succ, bigSep_range_succ,
    bigSep_congr (s := Finset.range 256) (Ψ := fun k => Φ (.dma (dcell k))) (fun k hk => by
      show Φ (osemN k) = _
      unfold osemN; rw [if_pos (Finset.mem_range.mp hk)]),
    items_eq, order5]
  refine congrArg₂ BIBase.sep (bigSep_congr fun h _ => ?_) rfl
  rw [dcells_eq, dcells_eq]

theorem osem_inj : Function.Injective osem := by decide +kernel
theorem osem_ne_bar : ∀ k, osem k ≠ .reg bS := by decide +kernel
theorem osem_facts : Pipeline.OwnSemFacts spec0 osem := ⟨by decide +kernel, osem_inj, by decide +kernel⟩
theorem ownCells_inj : Function.Injective (fun p : Dev nD × Fin 260 => ((((p.1.tc : Thread nD τ), osem p.2)) : GSem nD τ sig)) := fun _ _ h =>
  Prod.ext (congrArg (fun g : GSem nD τ sig => g.1.1) h) (osem_inj (congrArg Prod.snd h))
theorem liveCells_inj : Function.Injective (fun c : Dev nD => ((((c.tc : Thread nD τ), SemLoc.reg bS)) : GSem nD τ sig)) := fun _ _ h =>
  congrArg (fun g : GSem nD τ sig => g.1.1) h

theorem own_cells (Φ : GSem nD τ sig → sProp 𝕄) :
    bigSep ownCells Φ = bigSep Finset.univ fun c : Dev nD => bigSep Finset.univ fun k : Fin 260 => Φ ((c.tc : Thread nD τ), osem k) := by
  unfold ownCells
  rw [bigSep_image_of_injOn (ownCells_inj.injOn), bigSep_univ_prod]
theorem live_cells (Φ : GSem nD τ sig → sProp 𝕄) : bigSep liveCells Φ = bigSep Finset.univ fun c : Dev nD => Φ (barC c) := by
  unfold liveCells
  rw [bigSep_image_of_injOn (liveCells_inj.injOn)]
theorem disjoint_cells : Disjoint liveCells ownCells := by
  rw [Finset.disjoint_left]
  rintro g h₁ h₂
  unfold liveCells at h₁
  unfold ownCells at h₂
  obtain ⟨c, -, rfl⟩ := Finset.mem_image.mp h₁
  obtain ⟨ck, -, h⟩ := Finset.mem_image.mp h₂
  exact osem_ne_bar ck.2 (congrArg Prod.snd h)

/-! ## The tokens -/

/-- The duties of one core's cells: each transfer cell's, each credit cell's one per hop, the barrier's two. -/
def fA (i : ℕ) : SemLoc sig × ℕ × ℕ := (.dma (dcell i), 0, 0)
def fB (j : ℕ) : SemLoc sig × ℕ × ℕ := (.reg (cSn j), 0, j / 4)
def dutyA : Finset (SemLoc sig × ℕ × ℕ) := (Finset.range 256).image fA
def dutyB : Finset (SemLoc sig × ℕ × ℕ) := (Finset.range 128).image fB
def dutyC : Finset (SemLoc sig × ℕ × ℕ) := {(.reg bS, 0, 0), (.reg bS, 0, 1)}
def duties1 : Finset (SemLoc sig × ℕ × ℕ) := dutyA ∪ (dutyB ∪ dutyC)
def toTok (x : Dev nD × (SemLoc sig × ℕ × ℕ)) : GSem nD τ sig × ℕ × ℕ := (((x.1.tc : Thread nD τ), x.2.1), x.2.2.1, x.2.2.2)
def toks : Finset (GSem nD τ sig × ℕ × ℕ) := (Finset.univ ×ˢ duties1).image toTok

theorem fA_inj : Set.InjOn fA (Finset.range 256) := fun i hi j hj h => by
  rw [Finset.mem_coe, Finset.mem_range] at hi hj
  have e : osem ⟨i, by omega⟩ = osem ⟨j, by omega⟩ := by
    unfold osem; rw [if_pos hi, if_pos hj]; exact congrArg Prod.fst h
  exact congrArg Fin.val (osem_inj e)
theorem fB_inj : Set.InjOn fB (Finset.range 128) := fun i hi j hj h => by
  have h1 : cSn i = cSn j := SemLoc.reg.inj (congrArg Prod.fst h)
  have h2 : i / 4 = j / 4 := congrArg (fun x : SemLoc sig × ℕ × ℕ => x.2.2) h
  have h3 : i % 4 % 5 = j % 4 % 5 := congrArg Fin.val h1
  omega
theorem toTok_inj : Function.Injective toTok := fun x y h =>
  Prod.ext (congrArg (fun t : GSem nD τ sig × ℕ × ℕ => t.1.1.1) h)
    (Prod.ext (congrArg (fun t : GSem nD τ sig × ℕ × ℕ => t.1.2) h)
      (Prod.ext (congrArg (fun t : GSem nD τ sig × ℕ × ℕ => t.2.1) h) (congrArg (fun t : GSem nD τ sig × ℕ × ℕ => t.2.2) h)))
theorem cSn_ne (j : ℕ) : cSn j ≠ bS := fun h => by
  have h' : j % 4 % 5 = (bS : Sem sig).val := congrArg Fin.val h
  have hb : (bS : Sem sig).val = 4 := by decide
  omega
theorem disjBC : Disjoint dutyB dutyC := by
  rw [Finset.disjoint_left]
  intro x h₁ h₂
  unfold dutyB at h₁
  unfold dutyC at h₂
  obtain ⟨j, -, rfl⟩ := Finset.mem_image.mp h₁
  rw [Finset.mem_insert, Finset.mem_singleton] at h₂
  rcases h₂ with h | h
  · exact cSn_ne j (SemLoc.reg.inj (congrArg Prod.fst h))
  · exact cSn_ne j (SemLoc.reg.inj (congrArg Prod.fst h))
theorem disjABC : Disjoint dutyA (dutyB ∪ dutyC) := by
  rw [Finset.disjoint_left]
  intro x h₁ h₂
  unfold dutyA at h₁
  obtain ⟨i, -, rfl⟩ := Finset.mem_image.mp h₁
  rcases Finset.mem_union.mp h₂ with h₂ | h₂
  · unfold dutyB at h₂
    obtain ⟨j, -, h⟩ := Finset.mem_image.mp h₂
    exact absurd (congrArg Prod.fst h) (by intro e; cases e)
  · unfold dutyC at h₂
    rw [Finset.mem_insert, Finset.mem_singleton] at h₂
    rcases h₂ with h | h
    · exact absurd (congrArg Prod.fst h) (by intro e; cases e)
    · exact absurd (congrArg Prod.fst h) (by intro e; cases e)

/-- A transfer cell's token, and a credit cell's. -/
abbrev tkA (c : Dev nD) (i : ℕ) : sProp 𝕄 := dutyTok EQ ((c.tc : Thread nD τ), .dma (dcell i)) 0 0
abbrev tkB (c : Dev nD) (j : ℕ) : sProp 𝕄 := dutyTok EQ ((c.tc : Thread nD τ), .reg (cSn j)) 0 (j / 4)
theorem toks_eq : bigSep toks (fun x => (dutyTok EQ x.1 x.2.1 x.2.2 : sProp 𝕄)) = bigSep Finset.univ fun c : Dev nD =>
    iprop(bigSep (Finset.range 256) (tkA c) ∗ bigSep (Finset.range 128) (tkB c) ∗ dutyTok EQ (barC c) 0 0 ∗ dutyTok EQ (barC c) 0 1) := by
  unfold toks
  rw [bigSep_image_of_injOn (toTok_inj.injOn), SparseCore.bigSep_product]
  refine bigSep_congr fun c _ => ?_
  unfold duties1
  rw [bigSep_union disjABC, bigSep_union disjBC]
  unfold dutyA dutyB dutyC
  rw [bigSep_image_of_injOn fA_inj, bigSep_image_of_injOn fB_inj, bigSep_ins (by decide), bigSep_singleton]
  rfl

/-- What the payments of hop `h` spend, the neighbours before and after taken to be `u` and `d`. -/
def TxG (u d c : Dev nD) (R : Bool) (h : ℕ) : sProp 𝕄 :=
  iprop(readerAt ES (c, item h R 0) 0 ∗ readerAt ES (c, item h R 1) 0
    ∗ dutyTok EQ ((u.tc : Thread nD τ), .reg (cS R 0)) 0 h ∗ dutyTok EQ ((u.tc : Thread nD τ), .reg (cS R 1)) 0 h
    ∗ cred (tallyAt ((c.tc : Thread nD τ), .reg (cS R 0)) (2 + item h R 0) (amt (item h R 0))) ∗ cred (tallyAt ((c.tc : Thread nD τ), .reg (cS R 1)) (2 + item h R 1) (amt (item h R 1)))
    ∗ writeTok ES (d, item h R 0) 1 ∗ writeTok ES (d, item h R 1) 1
    ∗ dutyTok EQ ((c.tc : Thread nD τ), .dma (dS R 0 h)) 0 0 ∗ dutyTok EQ ((d.tc : Thread nD τ), .dma (dS R 1 h)) 0 0
    ∗ dutyTok EQ ((c.tc : Thread nD τ), .dma (dS R 2 h)) 0 0 ∗ dutyTok EQ ((d.tc : Thread nD τ), .dma (dS R 3 h)) 0 0)
theorem TxH_eq (c : Dev nD) (R : Bool) (h : ℕ) : (TxH c R h : sProp 𝕄) = TxG (up c R) (dn c R) c R h := rfl
/-- The credits the waits of hop `h` spend. -/
def RxC (c : Dev nD) (R : Bool) (h : ℕ) : sProp 𝕄 :=
  iprop(cred (tallyAt ((c.tc : Thread nD τ), .dma (dS R 1 h)) (2 + item h R 2) (amt (item h R 2))) ∗ cred (tallyAt ((c.tc : Thread nD τ), .dma (dS R 3 h)) (2 + item h R 3) (amt (item h R 3))))

theorem rot_dn (R : Bool) (Φ : Dev nD → sProp 𝕄) : bigSep Finset.univ Φ = bigSep Finset.univ fun c => Φ (dn c R) := bigSep_univ_equiv (ringE R) Φ
theorem rot_up (R : Bool) (Φ : Dev nD → sProp 𝕄) : bigSep Finset.univ Φ = bigSep Finset.univ fun c => Φ (up c R) := bigSep_univ_equiv (ringE R).symm Φ

theorem tx_around (R : Bool) (h : ℕ) : (bigSep Finset.univ fun c : Dev nD => (TxG c c c R h : sProp 𝕄)) = bigSep Finset.univ fun c : Dev nD => TxH c R h := by
  simp only [TxH_eq]
  unfold TxG
  simp only [bigSep_sep']
  rw [← rot_up R (fun c => dutyTok EQ ((c.tc : Thread nD τ), .reg (cS R 0)) 0 h), ← rot_up R (fun c => dutyTok EQ ((c.tc : Thread nD τ), .reg (cS R 1)) 0 h),
    ← rot_dn R (fun c => writeTok ES (c, item h R 0) 1), ← rot_dn R (fun c => writeTok ES (c, item h R 1) 1),
    ← rot_dn R (fun c => dutyTok EQ ((c.tc : Thread nD τ), .dma (dS R 1 h)) 0 0), ← rot_dn R (fun c => dutyTok EQ ((c.tc : Thread nD τ), .dma (dS R 3 h)) 0 0)]
theorem txs_around (R : Bool) : (bigSep Finset.univ fun c : Dev nD => bigSep (Finset.range 32) fun h => (TxG c c c R h : sProp 𝕄))
    = bigSep Finset.univ fun c : Dev nD => bigSep (Finset.range 32) fun h => TxH c R h := by
  rw [swap_eq, swap_eq Finset.univ]
  exact bigSep_congr fun h _ => tx_around R h

/-- The credits of core `c`, item by item. -/
abbrev crI (c : Dev nD) (i : ℕ) : sProp 𝕄 := cred (tallyAt (own c i) (2 + i) (amt i))
theorem own_reg (c : Dev nD) (h : ℕ) (R : Bool) {a : ℕ} (ha : a < 2) : own c (item h R a) = ((c.tc : Thread nD τ), .reg (cS R a)) := by
  unfold own; rw [ia_item h R (by omega), if_pos ha, iR_item h R (by omega)]
theorem own_dma (c : Dev nD) (h : ℕ) (R : Bool) {a : ℕ} (ha : a < 4) (h2 : ¬ a < 2) : own c (item h R a) = ((c.tc : Thread nD τ), .dma (dS R (kindOf a) h)) := by
  unfold own; rw [ia_item h R ha, if_neg h2, dcell_item h R ha]

/-- What is made for the cells of one core, ring `R` and hop `h`. -/
theorem tok_hop (c : Dev nD) (R : Bool) (h : ℕ) :
    iprop(it4 (fun i => readerAt ES (c, i) 0) R h ∗ it4 (fun i => writeTok ES (c, i) 1) R h ∗ it4 (tkA c) R h ∗ (tkB c (ci h R 0) ∗ tkB c (ci h R 1)) ∗ it4 (crI c) R h)
      ⊢ (iprop(TxG c c c R h ∗ RxC c R h) : sProp 𝕄) := by
  rw [dcells_eq (fun s => dutyTok EQ ((c.tc : Thread nD τ), s) 0 0)]
  unfold it4 cell4 TxG RxC tkB crI
  rw [cSn_ci h R (by decide), cSn_ci h R (by decide), ci_div h R (by decide), ci_div h R (by decide), own_reg c h R (by decide), own_reg c h R (by decide),
    own_dma c h R (by decide) (by decide), own_dma c h R (by decide) (by decide)]
  iintro ⟨⟨Hr0, Hr1, -, -⟩, ⟨Hw0, Hw1, -, -⟩, ⟨Ha0, Ha2, Ha1, Ha3⟩, ⟨Hb0, Hb1⟩, Hc0, Hc1, Hc2, Hc3⟩
  isplitr [Hc2 Hc3]
  · isplitl [Hr0]; · iexact Hr0
    isplitl [Hr1]; · iexact Hr1
    isplitl [Hb0]; · iexact Hb0
    isplitl [Hb1]; · iexact Hb1
    isplitl [Hc0]; · iexact Hc0
    isplitl [Hc1]; · iexact Hc1
    isplitl [Hw0]; · iexact Hw0
    isplitl [Hw1]; · iexact Hw1
    isplitl [Ha0]; · iexact Ha0
    isplitl [Ha1]; · iexact Ha1
    isplitl [Ha2]; · iexact Ha2
    iexact Ha3
  · isplitl [Hc2]; · iexact Hc2
    iexact Hc3

theorem tok_rings (c : Dev nD) (h : ℕ) :
    iprop((it4 (fun i => readerAt ES (c, i) 0) false h ∗ it4 (fun i => readerAt ES (c, i) 0) true h)
        ∗ (it4 (fun i => writeTok ES (c, i) 1) false h ∗ it4 (fun i => writeTok ES (c, i) 1) true h)
        ∗ (it4 (tkA c) false h ∗ it4 (tkA c) true h)
        ∗ ((tkB c (ci h false 0) ∗ tkB c (ci h false 1)) ∗ tkB c (ci h true 0) ∗ tkB c (ci h true 1))
        ∗ it4 (crI c) false h ∗ it4 (crI c) true h)
      ⊢ (iprop(TxG c c c false h ∗ TxG c c c true h ∗ RxC c false h ∗ RxC c true h) : sProp 𝕄) := by
  iintro ⟨⟨Ha, Hb⟩, ⟨Hc, Hd⟩, ⟨He, Hf⟩, ⟨Hg, Hi⟩, ⟨Hj, Hk⟩⟩
  ihave HA := (tok_hop c false h) $$ [Ha Hc He Hg Hj]
  · isplitl [Ha]; · iexact Ha
    isplitl [Hc]; · iexact Hc
    isplitl [He]; · iexact He
    isplitl [Hg] <;> iassumption
  ihave HB := (tok_hop c true h) $$ [Hb Hd Hf Hi Hk]
  · isplitl [Hb]; · iexact Hb
    isplitl [Hd]; · iexact Hd
    isplitl [Hf]; · iexact Hf
    isplitl [Hi] <;> iassumption
  icases HA with ⟨HA1, HA2⟩
  icases HB with ⟨HB1, HB2⟩
  isplitl [HA1]; · iexact HA1
  isplitl [HB1]; · iexact HB1
  isplitl [HA2] <;> iassumption

/-- What is made for the cells of one core. -/
def made (c : Dev nD) : sProp 𝕄 :=
  iprop(bigSep (Finset.range 256) (fun i => readerAt ES (c, i) 0) ∗ bigSep (Finset.range 256) (fun i => writeTok ES (c, i) 1) ∗ bigSep (Finset.range 256) (tkA c)
    ∗ bigSep (Finset.range 128) (tkB c) ∗ bigSep (Finset.range 256) (crI c))
/-- The same by ring. -/
def madeR (T : Dev nD → Bool → ℕ → sProp 𝕄) (c : Dev nD) : sProp 𝕄 :=
  iprop(bigSep (Finset.range 32) (fun h => T c false h) ∗ bigSep (Finset.range 32) (fun h => T c true h)
    ∗ bigSep (Finset.range 32) (fun h => RxC c false h) ∗ bigSep (Finset.range 32) (fun h => RxC c true h))
theorem made_rings (c : Dev nD) : (made c : sProp 𝕄) ⊢ madeR (fun c => TxG c c c) c := by
  unfold made madeR
  rw [items_eq, items_eq, items_eq, items_eq, credits_eq]
  simp only [← bigSep_sep']
  exact bigSep_mono fun h _ => tok_rings c h
theorem made_around : (bigSep Finset.univ fun c : Dev nD => (made c : sProp 𝕄)) ⊢ bigSep Finset.univ fun c : Dev nD => madeR TxH c := by
  have e : (bigSep Finset.univ fun c : Dev nD => (madeR (fun c => TxG c c c) c : sProp 𝕄)) = bigSep Finset.univ fun c : Dev nD => madeR TxH c := by
    unfold madeR
    simp only [bigSep_sep' (Finset.univ : Finset (Dev nD))]
    rw [txs_around false, txs_around true]
  rw [← e]
  exact bigSep_mono fun c _ => made_rings c

end Cert.KernelIdeal.Moe

end
-- ==== Proof.Deal.lean ====
/- What the launch gives every core, dealt out: the credits of what the others owe it, the slots' records, and its cells opened. -/
module

public import proofs.«01_k».proof.Proof.Cells

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Smoke (bigSep_pair bigSep_unpair)
open Cert.KernelIdeal

variable {F : FTy → Type} [FloatOps F] [Facts]

local notation "𝕄" => MT nD τ sig ℕ (Elt F) ℕ UU ℕ

/-! ## The credits -/

/-- What the waits of core `c` spend, all told. -/
def Oc (c : Dev nD) : CellTallies nD τ sig ℕ :=
  (∑ i ∈ Finset.range 256, tallyAt (own c i) (2 + i) (amt i)) + tallyAt (barC c) 1 1 + tallyAt (barC c) 1 1

theorem sum_peer (i : ℕ) (f : Dev nD → CellTallies nD τ sig ℕ) : ∑ c, f (peer c i) = ∑ c, f c := by
  unfold peer; split
  · exact Equiv.sum_comp (ringE (iR i)).symm f
  · exact Equiv.sum_comp (ringE (iR i)) f
theorem sum_owed : ∑ d, O₀ d = ∑ c, Oc c := by
  have h1 : ∑ d : Dev nD, O d 0 = ∑ c : Dev nD, ∑ i ∈ Finset.range 256, tallyAt (own c i) (2 + i) (amt i) := by
    unfold O it
    rw [Nat.Ico_zero_eq_range]
    exact Finset.sum_comm.trans ((Finset.sum_congr rfl fun i _ => sum_peer i fun c => tallyAt (own c i) (2 + i) (amt i)).trans Finset.sum_comm)
  have h2 (R : Bool) : ∑ d : Dev nD, (tallyAt (barC (up d R)) 1 1 : CellTallies nD τ sig ℕ) = ∑ c, tallyAt (barC c) 1 1 :=
    Equiv.sum_comp (ringE R).symm fun c => (tallyAt (barC c) 1 1 : CellTallies nD τ sig ℕ)
  unfold O₀ Oc
  simp only [Finset.sum_add_distrib]
  rw [h1, h2, h2]

theorem own_core (c : Dev nD) (i : ℕ) : (own c i).1 = (c.tc : Thread nD τ) := by unfold own; split <;> rfl
theorem Oc_off (c : Dev nD) (g : GSem nD τ sig) (h : g.1 ≠ (c.tc : Thread nD τ)) : Oc c g = 0 := by
  have hb : g ≠ barC c := fun e => h (congrArg Prod.fst e)
  unfold Oc
  rw [Pi.add_apply, Pi.add_apply, Finset.sum_apply, tallyAt_ne_cell hb, add_zero, add_zero]
  exact Finset.sum_eq_zero fun i _ => tallyAt_ne_cell (fun e => h ((congrArg Prod.fst e).trans (own_core c i))) _ _
theorem credit_eq (c : Dev nD) (sm : SemLoc sig) :
    launchCredit (Pipeline.owing O₀) 0 ((c.tc : Thread nD τ), sm) = Oc c ((c.tc : Thread nD τ), sm) := by
  have h : launchCredit (Pipeline.owing O₀) 0 ((c.tc : Thread nD τ), sm) = (∑ d, O₀ d) ((c.tc : Thread nD τ), sm) :=
    Finsupp.ext fun i => by rw [Pipeline.launchCredit_owing, Finset.sum_apply, Finsupp.finset_sum_apply]
  rw [h, sum_owed, Finset.sum_apply]
  refine Finset.sum_eq_single c (fun d _ hd => Oc_off d _ fun e => hd ?_) fun hc => absurd (Finset.mem_univ _) hc
  exact (congrArg Prod.fst e).symm
theorem cred_core (c : Dev nD) : (Pipeline.launchCred O₀ c : sProp 𝕄) = cred (Oc c) := by
  rw [cred_cells (Oc c), bigSep_univ_prod, bigSep_univ_at _ (c.tc : Thread nD τ),
    bigSep_congr (s := Finset.univ.erase (c.tc : Thread nD τ)) (Ψ := fun _ => (BI.emp : sProp 𝕄)) (fun t ht => by
      rw [bigSep_congr (Ψ := fun _ => (BI.emp : sProp 𝕄)) (fun sm _ => by rw [Oc_off c (t, sm) (Finset.ne_of_mem_erase ht), tallyOn_zero, cred_zero]; rfl)]
      exact BI.bigSep_emp_const _), BI.bigSep_emp_const]
  refine Eq.trans ?_ (BI.equiv_iff.mp sep_emp).symm
  unfold Pipeline.launchCred
  exact bigSep_congr fun sm _ => by rw [credit_eq]
theorem creds (c : Dev nD) : (Pipeline.launchCred O₀ c : sProp 𝕄) ⊢ iprop(bigSep (Finset.range 256) (crI c) ∗ cred (tallyAt (barC c) 1 2)) := by
  have e : Oc c = (∑ i ∈ Finset.range 256, tallyAt (own c i) (2 + i) (amt i)) + tallyAt (barC c) 1 2 := by
    unfold Oc; rw [add_assoc, tallyAt_add]
  rw [cred_core, e, SparseCore.Cfg.cred_add_eq, SparseCore.Cfg.cred_finsum]

/-! ## The slots' records -/

theorem keys_eq (Φ : KK → sProp 𝕄) : bigSep keys Φ = bigSep Finset.univ fun c : Dev nD => bigSep (Finset.range 256) fun i => Φ (c, i) := by
  unfold keys; rw [SparseCore.bigSep_product]
theorem writes_eq (Φ : KK × ℕ → sProp 𝕄) : bigSep (keys ×ˢ Finset.range 1) Φ = bigSep Finset.univ fun c : Dev nD => bigSep (Finset.range 256) fun i => Φ ((c, i), 0) := by
  rw [SparseCore.bigSep_product, keys_eq]
  simp only [Finset.range_one, bigSep_singleton]

/-! ## The barrier's tokens -/

theorem bar_around : (bigSep Finset.univ fun c : Dev nD => iprop(dutyTok EQ (barC c) 0 0 ∗ dutyTok EQ (barC c) 0 1) : sProp 𝕄)
    ⊢ bigSep Finset.univ fun c : Dev nD => iprop(dutyTok EQ (barC (up c false)) 0 0 ∗ dutyTok EQ (barC (up c true)) 0 1) := by
  rw [bigSep_sep', bigSep_sep', ← rot_up false (fun c => dutyTok EQ (barC c) 0 0), ← rot_up true (fun c => dutyTok EQ (barC c) 0 1)]

/-! ## The cells of one core opened -/

variable (I : Inp F) (κ : GSem nD τ sig → ℕ) (κS : KK → ℕ)

/-- The positions of core `c`'s own cells. -/
abbrev atP (c : Dev nD) (s : SemLoc sig) : sProp 𝕄 := atPos EQ ((c.tc : Thread nD τ), s) 0 ∅ 0

theorem open_cells (c : Dev nD) :
    iprop(Ctx I κ κS ∗ bigSep Finset.univ (fun k : Fin 260 => openTok EQ ((c.tc : Thread nD τ), osem k)) ∗ Pipeline.ownSems0 osem c)
      ⊢ (|={Set.univ}=> (bigSep Finset.univ (fun k : Fin 260 => atP c (osem k)) ∗ rch c) : sProp 𝕄) := by
  have h1 (k : Fin 260) : iprop(Ctx I κ κS ∗ (openTok EQ ((c.tc : Thread nD τ), osem k) ∗ semVal ((c.tc : Thread nD τ), osem k) 0))
      ⊢ (|={Set.univ}=> (atP c (osem k) ∗ reached EQ ((c.tc : Thread nD τ), osem k) 0) : sProp 𝕄) := by
    iintro ⟨#HC, Ho, Hs⟩
    iapply (Rounds.cell_open EQ (sched I) (g := ((c.tc : Thread nD τ), osem k)) (Set.mem_univ (κ ((c.tc : Thread nD τ), osem k))))
    isplitr; · iapply (Ctx_own I κ κS c ⟨k, rfl⟩); iexact HC
    isplitl [Ho] <;> iassumption
  have h2 : iprop(Ctx I κ κS ∗ bigSep Finset.univ (fun k : Fin 260 => iprop(openTok EQ ((c.tc : Thread nD τ), osem k) ∗ semVal ((c.tc : Thread nD τ), osem k) 0)))
      ⊢ bigSep Finset.univ (fun k : Fin 260 => iprop(|={Set.univ}=> (atP c (osem k) ∗ reached EQ ((c.tc : Thread nD τ), osem k) 0))) :=
    bigSep_with_persistent (fun k _ => h1 k)
  have h3 : (bigSep Finset.univ fun k : Fin 260 => iprop(|={Set.univ}=> (atP c (osem k) ∗ reached EQ ((c.tc : Thread nD τ), osem k) 0)))
      ⊢ (|={Set.univ}=> bigSep Finset.univ fun k : Fin 260 => iprop(atP c (osem k) ∗ reached EQ ((c.tc : Thread nD τ), osem k) 0) : sProp 𝕄) :=
    bigSep_fupd _ _
  rw [bigSep_sep'] at h2 h3
  exact h2.trans h3

end Cert.KernelIdeal.Moe

end
-- ==== Proof.Launch.lean ====
/- The whole program: the tables' constants, the region around the kernel's body, and the launch that deals every core what it runs on. -/
module

public import proofs.«01_k».proof.Proof.Deal
public import proofs.«01_k».proof.Proof.Gen.KernelIdeal.Frame
public import Idealize.ShloMosaic.Lib.Pipeline.RegionTalk

@[expose] public section

set_option maxRecDepth 65536
set_option backward.isDefEq.respectTransparency.types false

noncomputable section

namespace Cert.KernelIdeal.Moe

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Smoke (bigSep_pair bigSep_unpair)
open Idealize.ShloMosaic.Pipeline (Dat BodyObligation)
open Cert.KernelIdeal

variable {F : FTy → Type} [FloatOps F] [Facts]

local notation "𝕄" => MT nD τ sig ℕ (Elt F) ℕ UU ℕ

variable (m : (ℓ : Loc nD τ sig) → Buf (Elt F) ℓ) (ρ : Dev nD → PrngReg)

/-! ## The contents -/

/-- The inputs as the memory holds them. -/
def argsOf : Args F where
  x c := m ((c.tc : Thread nD τ).loc main_arg0)
  r c := m ((c.tc : Thread nD τ).loc main_arg1)
  i c := m ((c.tc : Thread nD τ).loc main_arg2)
  e c := m ((c.tc : Thread nD τ).loc main_arg3)

/-- The buffers outside the kernel: the windows' arrays. -/
abbrev bufs : Finset (DevRef τ sig) := Pipeline.arrRefs (τ := τ) spec0
abbrev V₀ (c : Dev nD) : Valuation τ sig (Elt F) := fun b => m (c, b)
abbrev V₁ (c : Dev nD) : Valuation τ sig (Elt F) := StableHlo.after Gen.hostOps0 (V₀ m c)
/-- What the kernel leaves core `c`. -/
def res (c : Dev nD) : Vec F S512x512 .f32 := outV (inp (argsOf m)) c
abbrev V₂ (c : Dev nD) : Valuation τ sig (Elt F) := Function.update (V₁ m c) (Proc.devRef .tc main_v1) (res m c)

theorem V₁_c (c : Dev nD) : V₁ m c (Proc.devRef .tc main_c) = (tab0 (F := F)) := by
  show StableHlo.after Gen.hostOps0 (V₀ m c) (Proc.devRef .tc main_c) = _
  unfold Gen.hostOps0
  rw [StableHlo.after_cons, StableHlo.after_cons, StableHlo.after_nil]
  exact (StableHlo.nullary_result_ne main_c_0 _ _ _ (by decide)).trans (StableHlo.nullary_result main_c (tab0 (F := F)) _ _)
theorem V₁_c0 (c : Dev nD) : V₁ m c (Proc.devRef .tc main_c_0) = (tab1 (F := F)) := by
  show StableHlo.after Gen.hostOps0 (V₀ m c) (Proc.devRef .tc main_c_0) = _
  unfold Gen.hostOps0
  rw [StableHlo.after_cons, StableHlo.after_cons, StableHlo.after_nil]
  exact StableHlo.nullary_result main_c_0 (tab1 (F := F)) _ _

/-- A window's one block is its whole array. -/
theorem off_zero : ∀ (w : Fin 7) (a : Fin (spec0 w).shape.rank), ((win0 w).rect Gen.t0_0).off a = 0 := by decide +kernel
omit [FloatOps F] in
theorem emb_val (w : Fin 7) (i : ((win0 w).xblock (grid0.coords Gen.t0_0)).Idx) (a : Fin (spec0 w).shape.rank) :
    (((win0 w).rect Gen.t0_0).emb i a).val = (i a).val := by
  rw [Rect.emb_apply, off_zero]; show 0 + 1 * _ = _; omega

/-- What the window holds at the kernel's entry, for an input; the output's entry is what it holds at its end. -/
def stOf (c : Dev nD) : (w : Fin 7) → (cfg0.win w).block.Idx → Elt F (cfg0.win w).elt
  | 0 => (argsOf m).x c | 1 => (argsOf m).r c | 2 => (argsOf m).i c | 3 => (argsOf m).e c | 4 => tab0 | 5 => tab1 | 6 => res m c

/-! ## The region's data -/

variable (I : Inp F) (κ : GSem nD τ sig → ℕ) (κS : KK → ℕ)

/-- The invariants of the cells and of the slots. -/
def Inv : sProp 𝕄 := iprop(bigSep (liveCells ∪ ownCells) (fun g => cellInv EQ (sched I) (κ g) g) ∗ bigSep keys (fun k => slotInv ES (κS k) k (slotOf k.1 k.2)))
instance Inv_persistent : BI.Persistent (Inv I κ κS) := by unfold Inv; infer_instance

/-- What core `c` takes to the region, and what its opening makes of it. -/
def Tk (c : Dev nD) : sProp 𝕄 :=
  iprop(∃ κ κS, Inv I κ κS ∗ bigSep Finset.univ (fun k : Fin 260 => openTok EQ ((c.tc : Thread nD τ), osem k)) ∗ madeR TxH c ∗ BarTk c)
def Xk (c : Dev nD) : sProp 𝕄 := iprop(∃ κ κS, Ctx I κ κS ∗ rch c ∗ TkS c)
/-- The core's two ring buffers and its weights' buffer. -/
def Sc (c : Dev nD) : sProp 𝕄 := iprop(BW c false ∗ BW c true ∗ (∃ g, stg c cc0_scratch2 g) ∗ ∃ r, prngReg c r)
def Dn (c : Dev nD) : sProp 𝕄 := iprop(bigSep (Finset.range 32) (DoneB c) ∗ CrD c false ∗ CrD c true ∗ semVal (barC c) 0)

theorem rx_one (c : Dev nD) (h : ℕ) :
    iprop((cell4 (atP c) false h ∗ cell4 (atP c) true h) ∗ RxC c false h ∗ RxC c true h) ⊢ (RxB c h : sProp 𝕄) := by
  unfold cell4 RxC RxB RxH
  iintro ⟨⟨⟨A0, A2, A1, A3⟩, B0, B2, B1, B3⟩, ⟨C0, C1⟩, D0, D1⟩
  isplitl [A0 A2 A1 A3 C0 C1]
  · isplitl [A0]; · iexact A0
    isplitl [A2]; · iexact A2
    isplitl [A1]; · iexact A1
    isplitl [A3]; · iexact A3
    isplitl [C0] <;> iassumption
  · isplitl [B0]; · iexact B0
    isplitl [B2]; · iexact B2
    isplitl [B1]; · iexact B1
    isplitl [B3]; · iexact B3
    isplitl [D0] <;> iassumption
theorem rx_all (c : Dev nD) :
    iprop((bigSep (Finset.range 32) fun h => iprop(cell4 (atP c) false h ∗ cell4 (atP c) true h))
        ∗ (bigSep (Finset.range 32) fun h => RxC c false h) ∗ bigSep (Finset.range 32) fun h => RxC c true h)
      ⊢ (bigSep (Finset.range 32) (RxB c) : sProp 𝕄) := by
  rw [← bigSep_sep', ← bigSep_sep']
  exact bigSep_mono fun h _ => rx_one c h
theorem tx_all (c : Dev nD) : iprop((bigSep (Finset.range 32) fun h => TxH c false h) ∗ bigSep (Finset.range 32) fun h => TxH c true h)
    ⊢ (bigSep (Finset.range 32) (TxB c) : sProp 𝕄) := by
  have e : (TxB c : ℕ → sProp 𝕄) = fun h => iprop(TxH c false h ∗ TxH c true h) := by funext h; unfold TxB; rfl
  rw [e, bigSep_sep']
theorem cr_all (c : Dev nD) (R : Bool) : cell2 (atP c) R ⊢ (CrA c R : sProp 𝕄) := by
  unfold cell2 CrA
  exact BI.Entails.refl _
theorem ctx_all : iprop(Inv I κ κS ∗ levAts L lv) ⊢ Ctx I κ κS := by
  unfold Inv Ctx
  iintro ⟨⟨#HI, #HS⟩, #Hlev⟩
  isplitr; · iexact HI
  isplitr; · iexact HS
  iexact Hlev
theorem tks_all (c : Dev nD) : iprop((bigSep Finset.univ (fun k : Fin 260 => atP c (osem k))) ∗ madeR TxH c ∗ BarTk c) ⊢ (TkS c : sProp 𝕄) := by
  rw [own_eq]
  unfold TkS madeR
  iintro ⟨⟨Hat, Hca, Hcb⟩, ⟨Ha, Hb, Hra, Hrb⟩, Hbar⟩
  isplitl [Hbar]; · iexact Hbar
  isplitl [Ha Hb]
  · iapply (tx_all c); isplitl [Ha] <;> iassumption
  isplitl [Hat Hra Hrb]
  · iapply (rx_all c)
    isplitl [Hat]; · iexact Hat
    isplitl [Hra] <;> iassumption
  isplitl [Hca]; · iapply (cr_all c false); iexact Hca
  iapply (cr_all c true); iexact Hcb
theorem hopen (c : Dev nD) : iprop(Tk I c ∗ Pipeline.ownSems0 osem c ∗ levAts L lv) ⊢ (|={Set.univ}=> Xk I c : sProp 𝕄) := by
  unfold Tk Xk
  iintro ⟨⟨%κ, %κS, #HI, Ho, Hm, Hbar⟩, Hs, #Hlev⟩
  ihave #HC := (ctx_all I κ κS) $$ []
  · isplitr; · iexact HI
    iexact Hlev
  imod (open_cells I κ κS c) $$ [Ho Hs] with ⟨Hat, #Hrc⟩
  · isplitr; · iexact HC
    isplitl [Ho] <;> iassumption
  imodintro
  iexists κ; iexists κS
  isplitr; · iexact HC
  isplitr; · iexact Hrc
  iapply (tks_all c)
  isplitl [Hat]; · iexact Hat
  isplitl [Hm] <;> iassumption

def dat0 (c : Dev nD) : Dat τ (Elt F) ℕ ℕ UU ℕ cfg0 c where
  A w := V₁ m c (Proc.devRef .tc (Pipeline.arrRef spec0 w))
  after w _ := stOf m c w
  Φ t := if t.val = 0 then iprop(Sc c ∗ Xk (inp (argsOf m)) c) else iprop(Sc c ∗ Dn c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

theorem lastN : (Fin.last cfg0.N).val ≠ 0 := by rw [Fin.val_last, show cfg0.N = 1 from Gen.N_0]; decide
theorem succN : (Gen.t0_0.succ : Fin (cfg0.N + 1)).val ≠ 0 := by decide

theorem Φ_end (c : Dev nD) (t : Fin (cfg0.N + 1)) (h : t.val ≠ 0) : (dat0 m c).Φ t = iprop(Sc c ∗ Dn c) :=
  if_neg (t := iprop(Sc c ∗ Xk (inp (argsOf m)) c)) h
theorem owed_end (c : Dev nD) (t : Fin (cfg0.N + 1)) (h : t.val ≠ 0) : (dat0 m c).owed t = 0 := if_neg (t := O₀ c) h

theorem owesAt_intro {cfg : Pipeline.Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (iprop(∃ W, owes (c : Thread nD τ) O W) : sProp 𝕄) ⊢ dat.owesAt 0 t := by
  unfold Dat.owesAt Pipeline.owesWithin Dat.bound; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) ℕ ℕ UU ℕ cfg c) (t : Fin (cfg.N + 1))
    (O : CellTallies nD τ sig ℕ) (h0 : dat.owed t = O) :
    dat.owesAt 0 t ⊢ (iprop(∃ W, owes (c : Thread nD τ) O W) : sProp 𝕄) := by
  unfold Dat.owesAt Pipeline.owesWithin; rw [h0]
  iintro ⟨%W, -, HO⟩; iexists W; iexact HO

omit [FloatOps F] [Facts] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_in (c : Dev nD) : (w : Fin 7) → w ≠ 6 → ∀ d, (dat0 m c).before w Gen.t0_0 d = stOf m c w
  | 0, _, d => by
    unfold Dat.before; rw [if_pos (Gen.fetch0_0 _)]
    exact funext fun i => (congrFun (Gen.V_main_arg0 m c) _).trans (congrArg ((argsOf m).x c) (funext fun a => Fin.ext (emb_val 0 i a)))
  | 1, _, d => by
    unfold Dat.before; rw [if_pos (Gen.fetch0_1 _)]
    exact funext fun i => (congrFun (Gen.V_main_arg1 m c) _).trans (congrArg ((argsOf m).r c) (funext fun a => Fin.ext (emb_val 1 i a)))
  | 2, _, d => by
    unfold Dat.before; rw [if_pos (Gen.fetch0_2 _)]
    exact funext fun i => (congrFun (Gen.V_main_arg2 m c) _).trans (congrArg ((argsOf m).i c) (funext fun a => Fin.ext (emb_val 2 i a)))
  | 3, _, d => by
    unfold Dat.before; rw [if_pos (Gen.fetch0_3 _)]
    exact funext fun i => (congrFun (Gen.V_main_arg3 m c) _).trans (congrArg ((argsOf m).e c) (funext fun a => Fin.ext (emb_val 3 i a)))
  | 4, _, d => by
    unfold Dat.before; rw [if_pos (Gen.fetch0_4 _)]
    exact funext fun i => (congrFun (V₁_c m c) _).trans (congrArg (tab0 (F := F)) (funext fun a => Fin.ext (emb_val 4 i a)))
  | 5, _, d => by
    unfold Dat.before; rw [if_pos (Gen.fetch0_5 _)]
    exact funext fun i => (congrFun (V₁_c0 m c) _).trans (congrArg (tab1 (F := F)) (funext fun a => Fin.ext (emb_val 5 i a)))
  | 6, h, _ => absurd rfl h

theorem arr_out (c : Dev nD) : (dat0 m c).arrAt 6 cfg0.N = res m c :=
  (dat0 m c).arrAt_eq_of_cover 6 (res m c)
    (fun t _ => by
      obtain rfl := Gen.fin_N0 t
      exact funext fun i => congrArg (res m c) (funext fun a => Fin.ext (emb_val 6 i a).symm))
    fun i => ⟨Gen.t0_0, Gen.flush0_6 _, Finset.mem_map.mpr ⟨i, Finset.mem_univ _, funext fun a => Fin.ext (emb_val 6 i a)⟩⟩

theorem body_at : (defs₀ (F := F)) Proc.tc 0 (Gen.t0_0, cfg0.slots Gen.t0_0) = bodyP :=
  body_eq _ _ _ _ _ _ _ _ _ _ _ _ _ _ _ _ _ _ _ _ _ _ _ _ _ _ _ _ _ _ _ _
/-- A staging buffer at the contents the data name. -/
theorem staged (c : Dev nD) (b : Ref sig .tc) (X : b.ty.Contents (Elt F)) :
    stg c b X ⊢ (iprop(∃ f : Buf (Elt F) (((c : Dev nD) : Thread nD τ).loc b), ⌜f = X⌝ ∗ (((c : Thread nD τ).loc b) ↦{fullShare} f)) : sProp 𝕄) := by
  iintro H; iexists X; isplitr; · ipureintro; rfl
  iexact H

theorem body_obligation (c : Dev nD) : BodyObligation (dat0 (F := F) m c) (defs₀ (F := F)) Variants.none 0 Set.univ := fun t => by
  obtain rfl := Gen.fin_N0 t
  rw [Gen.bigSep_W0, Gen.bigSep_W0]
  simp only [owns_whole_eq]
  rw [show (dat0 m c).Φ Gen.t0_0.castSucc = iprop(Sc c ∗ Xk (inp (argsOf m)) c) from rfl,
    show (dat0 m c).Φ Gen.t0_0.succ = iprop(Sc c ∗ Dn c) from Φ_end m c _ succN]
  iintro ⟨⟨HS, HX⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  rw [before_in m c 0 (by decide)] at hf0
  rw [before_in m c 1 (by decide)] at hf1
  rw [before_in m c 2 (by decide)] at hf2
  rw [before_in m c 3 (by decide)] at hf3
  rw [before_in m c 4 (by decide)] at hf4
  rw [before_in m c 5 (by decide)] at hf5
  subst hf0 hf1 hf2 hf3 hf4 hf5
  ihave HO := (owesAt_elim (dat0 m c) _ (O₀ c) rfl) $$ HO
  unfold Sc Xk
  icases HS with ⟨HBa, HBb, HW, Hp⟩
  icases HX with ⟨%κ, %κS, HC, Hrc, HT⟩
  iapply ((show (WP c bodyP _ : sProp 𝕄) ⊢ _ from Entails.of_eq (congrArg (fun e => WP c e _) body_at.symm)))
  iapply (wp_body (argsOf m) κ κS c _) $$ [HC Hrc H0 H1 H2 H3 H4 H5 H6 HBa HBb HW HT HO]
  · isplitl [HC]; · iexact HC
    isplitl [Hrc]; · iexact Hrc
    isplitl [H0 H1 H2 H3 H4 H5]
    · unfold InS
      isplitl [H0]; · iexact H0
      isplitl [H1]; · iexact H1
      isplitl [H2]; · iexact H2
      isplitl [H3]; · iexact H3
      isplitl [H4]; · iexact H4
      iexact H5
    isplitl [H6]; · iexists _; iexact H6
    isplitl [HBa]; · iexact HBa
    isplitl [HBb]; · iexact HBb
    isplitl [HW]; · iexact HW
    isplitl [HT]; · iexact HT
    iexact HO
  unfold InS
  iintro ⟨H0, H1, H2, H3, H4, H5⟩ H6 HBa HBb HW Hds HCa HCb Hsb HO
  isplitl [HBa HBb HW Hp Hds HCa HCb Hsb]
  · isplitl [HBa HBb HW Hp]
    · isplitl [HBa]; · iexact HBa
      isplitl [HBb]; · iexact HBb
      isplitl [HW]; · iexact HW
      iexact Hp
    unfold Dn
    isplitl [Hds]; · iexact Hds
    isplitl [HCa]; · iexact HCa
    isplitl [HCb]; · iexact HCb
    iexact Hsb
  isplitl [HO]
  · iapply (owesAt_intro (dat0 m c) Gen.t0_0.succ 0 (owed_end m c _ succN) rfl)
    unfold OW; rw [O_last]; iexact HO
  isplitl [H0]; · iapply (staged c cc0_stg0_0); iexact H0
  isplitl [H1]; · iapply (staged c cc0_stg1_0); iexact H1
  isplitl [H2]; · iapply (staged c cc0_stg2_0); iexact H2
  isplitl [H3]; · iapply (staged c cc0_stg3_0); iexact H3
  isplitl [H4]; · iapply (staged c cc0_stg4_0); iexact H4
  isplitl [H5]; · iapply (staged c cc0_stg5_0); iexact H5
  iapply (staged c cc0_stg6_0); iexact H6

theorem hin (c : Dev nD) : iprop(Pipeline.scopedRest (Pipeline.pin (pcfgs (F := F)) adm 0).spec c ∗ (∃ r, prngReg c r)
      ∗ StableHlo.held (c.tc : Thread nD τ) ∅ (V₁ m c) ∗ Xk (inp (argsOf m)) c) ⊢ (pdats m 0 c).Φ 0 := by
  rw [show (pdats m 0 c).Φ 0 = iprop(Sc c ∗ Xk (inp (argsOf m)) c) from rfl,
    show Pipeline.scopedRest (Pipeline.pin (pcfgs (F := F)) adm 0).spec c = Pipeline.scopedRest spec0 c from rfl, Gen.scopedRest0_eq]
  unfold Sc BW
  iintro ⟨⟨Ha, Hb, Hw⟩, Hp, -, HX⟩
  isplitr [HX]
  · isplitl [Ha]; · iexact Ha
    isplitl [Hb]; · iexact Hb
    isplitl [Hw]; · iexact Hw
    iexact Hp
  iexact HX

theorem own_back (c : Dev nD) : iprop(bigSep (Finset.range 32) (DoneB c) ∗ CrD c false ∗ CrD c true) ⊢ (Pipeline.ownSems0 osem c : sProp 𝕄) := by
  have e := own_eq (fun s => (semVal ((c.tc : Thread nD τ), s) 0 : sProp 𝕄))
  unfold Pipeline.ownSems0
  refine BI.Entails.trans ?_ (Entails.of_eq e.symm)
  unfold cell2 cell4 CrD
  exact BI.Entails.refl _

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ semVal (barC c) 0) := by
  rw [show (pdats m 0 c).Φ (Fin.last _) = iprop(Sc c ∗ Dn c) from Φ_end m c _ lastN,
    show Pipeline.scopedRest (Pipeline.pin (pcfgs (F := F)) adm 0).spec c = Pipeline.scopedRest spec0 c from rfl, Gen.scopedRest0_eq]
  unfold Sc BW Dn StableHlo.held
  rw [BI.bigSep_empty]
  iintro ⟨⟨Ha, Hb, Hw, Hp⟩, Hd, HCa, HCb, Hsb⟩
  isplitl [Ha Hb Hw]
  · isplitl [Ha]; · iexact Ha
    isplitl [Hb]; · iexact Hb
    iexact Hw
  isplitl [Hp]; · iexact Hp
  isplitr; · iempintro
  isplitr [Hsb]
  · iapply (own_back c)
    isplitl [Hd]; · iexact Hd
    isplitl [HCa] <;> iassumption
  iexact Hsb

/-! ## The segments -/

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem O₀_pos {c : Dev nD} {g : GSem nD τ sig} {u : ℕ} (h : 0 < O₀ c g u) : u ∈ L g ∧ 0 < lv g u := by
  have hb (R : Bool) (hp : 0 < (tallyAt (barC (up c R)) 1 1 : CellTallies nD τ sig ℕ) g u) : u ∈ L g ∧ 0 < lv g u := by
    rw [tallyAt_apply] at hp
    split at hp
    · next hg => rw [hg.1, hg.2, L_tc]; exact ⟨by decide, by unfold lv; decide⟩
    · exact absurd hp (Nat.lt_irrefl 0)
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨h1, h2, h3⟩ := O_pos h
      refine ⟨by unfold L; rw [if_pos h1]; exact Finset.mem_range.mpr h3, ?_⟩
      unfold lv; omega
    · exact hb true h
  · exact hb false h

theorem cutD (c : Dev nD) (t : Fin ((Pipeline.pin (pcfgs (F := F)) adm 0).N + 1)) (g : GSem nD τ sig) (i : ℕ) (h : 0 < (pdats (F := F) m 0 c).owed t g i) :
    i ∈ L g ∧ 0 < lv g i := by
  have e : (pdats (F := F) m 0 c).owed t = if t.val = 0 then O₀ c else 0 := rfl
  rw [e] at h
  split at h
  · exact O₀_pos h
  · exact absurd h (Nat.lt_irrefl 0)

theorem arr_in (c : Dev nD) (w : Fin 7) (hw : (spec0 w).isOut = false) (hne : Pipeline.arrRef spec0 w ≠ main_v1) :
    (dat0 m c).arrAt w cfg0.N = V₂ m c (Proc.devRef .tc (Pipeline.arrRef spec0 w)) :=
  by
  have e : V₂ m c (Proc.devRef .tc (Pipeline.arrRef spec0 w)) = V₁ m c (Proc.devRef .tc (Pipeline.arrRef spec0 w)) :=
    Function.update_of_ne (StableHlo.devRef_ne_of_ne hne) _ _
  rw [e]
  exact (dat0 m c).arrAt_in w hw _
theorem arr_end (c : Dev nD) : (w : Fin 7) → (dat0 m c).arrAt w cfg0.N = V₂ m c (Proc.devRef .tc (Pipeline.arrRef spec0 w))
  | 0 => arr_in m c 0 rfl (by decide) | 1 => arr_in m c 1 rfl (by decide) | 2 => arr_in m c 2 rfl (by decide)
  | 3 => arr_in m c 3 rfl (by decide) | 4 => arr_in m c 4 rfl (by decide) | 5 => arr_in m c 5 rfl (by decide)
  | 6 => (arr_out m c).trans (Function.update_self (Proc.devRef .tc main_v1) (res m c) (V₁ m c)).symm

def reg0 : Pipeline.RegionSeg (pcfgs (F := F)) adm (pdats m) 0 defs₀ Variants.none L lv 0 :=
  Pipeline.RegionSeg.ofTalk (pcfgs (F := F)) adm (pdats m) 0 defs₀ Variants.none L lv 0 osem osem_facts
    ∅ ∅ (Finset.Subset.refl _) kitP rfl (fun c => (body_obligation m c).loose)
    (fun _ => 0) O₀ (fun _ => (zero_add _).symm) (fun c => owed_end m c _ lastN) (fun _ => rfl) (fun c => (pdats m 0 c).share_full fun _ => rfl)
    (V₁ m) (V₂ m) (fun _ b hb => absurd hb (by rw [Finset.sdiff_self]; exact Finset.notMem_empty b))
    (Tk (inp (argsOf m))) (fun c => semVal (barC c) 0) (Xk (inp (argsOf m))) (fun c => semVal (barC c) 0) (hopen (inp (argsOf m))) (hin m) (hout m)
    (fun c => by iintro H; imodintro; iexact H)
    (fun _ => 0)
    ⟨fun c w s => by rw [L_tc]; decide, fun _ _ _ => le_refl _, fun c t g i h => cutD m c t g i h⟩
    (fun _ => iprop(emp))
    (fun _ _ => rfl) (arr_end m)

/-- What rides with the core beside its buffers until the region. -/
def R (c : Dev nD) : sProp 𝕄 := iprop(Tk (inp (argsOf m)) c ∗ (∃ r, prngReg c r) ∗ ∃ W, owes (c : Thread nD τ) (O₀ c) W)

omit [FloatOps F] [Facts] in
theorem ops_sub : ∀ op ∈ (Gen.hostOps0 : List (HloOp τ sig (Elt F))), op.bufs ⊆ bufs := by
  have h0 : ({Proc.devRef .tc main_c} : Finset (DevRef τ sig)) ⊆ bufs := by decide
  have h1 : ({Proc.devRef .tc main_c_0} : Finset (DevRef τ sig)) ⊆ bufs := by decide
  intro op h
  unfold Gen.hostOps0 at h
  rcases List.mem_cons.mp h with rfl | h
  · exact h0
  · rcases List.mem_cons.mp h with rfl | h
    · exact h1
    · exact absurd h List.not_mem_nil

def seg0 : Pipeline.HostSeg (Name := ℕ) (U := UU) (pcfgs (F := F)) defs₀ Variants.none L lv :=
  Pipeline.HostSeg.ofOps _ _ _ _ _ bufs Gen.hostOps0 ops_sub (List.forall_iff_forall_mem.mp Gen.hostOps0_fresh) (V₀ m) (R m)

theorem reg_pre (c : Dev nD) : iprop(StableHlo.held (c : Thread nD τ) bufs (V₁ m c) ∗ R m c) ⊢ (reg0 m).pre c := by
  show _ ⊢ iprop(StableHlo.held (c.tc : Thread nD τ) bufs (V₁ m c)
    ∗ (∃ r, prngReg c r)
    ∗ (StableHlo.held (c.tc : Thread nD τ) ∅ (V₁ m c) ∗ emp) ∗ Tk (inp (argsOf m)) c ∗ ∃ Wd, owes (c : Thread nD τ) (0 + O₀ c) Wd)
  unfold R
  rw [zero_add]
  iintro ⟨Hh, HT, Hp, HO⟩
  isplitl [Hh]; · iexact Hh
  isplitl [Hp]; · iexact Hp
  isplitr
  · unfold StableHlo.held; rw [BI.bigSep_empty]
    isplitr <;> iempintro
  isplitl [HT]; · iexact HT
  iexact HO

/-- What core `c` holds at the end. -/
abbrev Tₙ (c : Dev nD) : sProp 𝕄 := iprop(StableHlo.held (c : Thread nD τ) bufs (V₂ m c) ∗ semVal (barC c) 0)

theorem reg_post (c : Dev nD) : (reg0 m).post c ⊢ iprop(Tₙ m c ∗ ∃ W, owes (c : Thread nD τ) (0 : CellTallies nD τ sig ℕ) W) := by
  show iprop(StableHlo.held (c.tc : Thread nD τ) bufs (V₂ m c) ∗ (∃ r, prngReg c r)
    ∗ (StableHlo.held (c.tc : Thread nD τ) ∅ (V₂ m c) ∗ emp) ∗ semVal (barC c) 0 ∗ ∃ Wd, owes (c : Thread nD τ) (0 : CellTallies nD τ sig ℕ) Wd) ⊢ _
  iintro ⟨Hh, -, -, Hb, HO⟩
  isplitr [HO]
  · isplitl [Hh]; · iexact Hh
    iexact Hb
  iexact HO

def segs : List (Pipeline.Seg (pcfgs (F := F)) adm (pdats m) 0 defs₀ Variants.none L lv) := [.host (seg0 m), .region (reg0 m)]
theorem main_eq (c : Dev nD) : main (F := F) c = Pipeline.Seg.run (segs m) := Gen.main_segs adm (pdats m) 0 Variants.none L lv (seg0 m) (reg0 m) rfl c

/-! ## The launch -/

theorem bufs_eq : (StableHlo.tcRefs τ sig).filter (fun b => ¬ b.isScoped) = bufs := by decide
theorem unscopedBufs_held (c : Dev nD) (W : Valuation τ sig (Elt F)) :
    (unscopedBufs c (fun b => W b) : sProp 𝕄) = StableHlo.held (c : Thread nD τ) bufs W := by
  rw [← bufs_eq]
  unfold unscopedBufs StableHlo.held StableHlo.tcRefs
  rw [Finset.filter_map, BI.bigSep_map]
  rfl
theorem unscopedSems0_eq (c : Dev nD) : (unscopedSems0 c : sProp 𝕄) = semVal (barC c) 0 := by
  unfold unscopedSems0
  rw [show (Finset.univ.filter fun sm : SemLoc sig => ¬ sm.isScoped .tc) = {SemLoc.reg bS} from by decide, bigSep_singleton]
theorem unscoped_eq : ∀ sm : SemLoc sig, sm.isScoped .tc = false → sm = .reg bS := by decide

/-- What is made for the protocol at the launch. -/
def uQ : UQ × USlots KK := (launchOf liveCells ownCells toks, initSlots keys 1)
def u₀ : UU :=
  (initOf (Pipeline.cells (Pipeline.pin (pcfgs (F := F)) adm) Gen.cellOf_inj) (Pipeline.launchToks (Pipeline.pin (pcfgs (F := F)) adm) Gen.cellOf_inj), uQ)
def Gh : sProp 𝕄 := iprop(BI.own (EQ (launchOf liveCells ownCells toks)) ∗ BI.own (ES (initSlots keys 1)))
/-- All of it on core 0 until it is dealt. -/
def G (c : Dev nD) : sProp 𝕄 := if c = 0 then Gh else iprop(emp)
theorem bigSep_G : (bigSep Finset.univ G : sProp 𝕄) = Gh := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem u_split : (ownU (u₀ (F := F)) : sProp 𝕄) ⊢ iprop(BI.own (EP (u₀ (F := F)).1) ∗ Gh) := by
  unfold u₀ Gh uQ
  iintro Hu
  ihave H := (ownU_pair _ _) $$ Hu
  icases H with ⟨HP, HX⟩
  ihave H := (own_pair_emb _ _ _) $$ HX
  icases H with ⟨HQ, HS⟩
  isplitl [HP]; · iexact HP
  isplitl [HQ]; · iexact HQ
  iexact HS

abbrev T₀ (c : Dev nD) : sProp 𝕄 := iprop(StableHlo.held (c : Thread nD τ) bufs (V₀ m c) ∗ R m c)

/-- The records every core may consult. -/
def records : sProp 𝕄 := iprop(Inv I κ κS ∗ bigSep liveCells fun g => reached EQ g 0)
instance records_persistent : BI.Persistent (records I κ κS) := by unfold records; infer_instance
/-- The protocol's share of core `c`. -/
def linear (c : Dev nD) : sProp 𝕄 :=
  iprop(bigSep Finset.univ (fun k : Fin 260 => openTok EQ ((c.tc : Thread nD τ), osem k)) ∗ madeR TxH c
    ∗ (dutyTok EQ (barC (up c false)) 0 0 ∗ dutyTok EQ (barC (up c true)) 0 1) ∗ atPos EQ (barC c) 0 ∅ 0 ∗ cred (tallyAt (barC c) 1 2))
/-- The rest of what the launch gives it. -/
def bundle (c : Dev nD) : sProp 𝕄 :=
  iprop(StableHlo.held (c : Thread nD τ) bufs (V₀ m c) ∗ (∃ r, prngReg c r) ∗ ∃ W, owes (c : Thread nD τ) (O₀ c) W)

theorem reached_at (c : Dev nD) : (bigSep liveCells fun g => (reached EQ g 0 : sProp 𝕄)) ⊢ reached EQ (barC c) 0 :=
  bigSep_elim (Finset.mem_image_of_mem _ (Finset.mem_univ c))

theorem T₀_intro (c : Dev nD) : iprop(records (inp (argsOf m)) κ κS ∗ (linear c ∗ bundle m c)) ⊢ T₀ m c := by
  unfold records linear bundle T₀ R Tk
  iintro ⟨⟨#HI, #HR⟩, ⟨Ho, Hm, ⟨Hd0, Hd1⟩, Hat, Hcr⟩, Hh, Hp, HO⟩
  isplitl [Hh]; · iexact Hh
  isplitr [Hp HO]
  · iexists κ; iexists κS
    isplitr; · iexact HI
    isplitl [Ho]; · iexact Ho
    isplitl [Hm]; · iexact Hm
    unfold BarTk
    isplitr; · iapply (reached_at (F := F) (up c false)); iexact HR
    isplitr; · iapply (reached_at (F := F) (up c true)); iexact HR
    isplitl [Hd0]; · iexact Hd0
    isplitl [Hd1]; · iexact Hd1
    isplitl [Hat] <;> iassumption
  isplitl [Hp] <;> iassumption

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (bigSep (Finset.range 256) (crI c) ∗ (cred (tallyAt (barC c) 1 2) ∗ (semVal (barC c) 0 ∗ G c)))) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (creds (F := F) c) $$ Hcr
  icases Hc with ⟨H1, H2⟩
  isplitl [Hh HO Hp]
  · isplitl [Hh]; · iexact Hh
    isplitl [Hp]; · iexists (ρ c); iexact Hp
    iexists ∅; iexact HO
  isplitl [H1]; · iexact H1
  isplitl [H2]; · iexact H2
  isplitl [Hus] <;> iassumption

/-- The tokens, records and credits the launch makes, dealt to the cores. -/
theorem deal : iprop(bigSep keys (fun k => readerAt ES k 0) ∗ bigSep (keys ×ˢ Finset.range 1) (fun x => writeTok ES x.1 (x.2 + 1))
      ∗ bigSep toks (fun x => dutyTok EQ x.1 x.2.1 x.2.2) ∗ bigSep Finset.univ (fun c : Dev nD => bigSep (Finset.range 256) (crI c)))
    ⊢ (iprop(bigSep Finset.univ (fun c : Dev nD => madeR TxH c)
      ∗ bigSep Finset.univ fun c : Dev nD => iprop(dutyTok EQ (barC (up c false)) 0 0 ∗ dutyTok EQ (barC (up c true)) 0 1)) : sProp 𝕄) := by
  rw [keys_eq, writes_eq, toks_eq, bigSep_sep', bigSep_sep']
  iintro ⟨Hr, Hw, ⟨Ha, Hb, Hbar⟩, Hc⟩
  isplitr [Hbar]
  · iapply (made_around (F := F))
    unfold made
    iapply bigSep_pair; isplitl [Hr]; · iexact Hr
    iapply bigSep_pair; isplitl [Hw]; · iexact Hw
    iapply bigSep_pair; isplitl [Ha]; · iexact Ha
    iapply bigSep_pair; isplitl [Hb]; · iexact Hb
    iexact Hc
  · iapply (bar_around (F := F)); iexact Hbar

/-- The launch element made into cells and slots, for any sets of them. -/
theorem fund_all {S Sd : Finset (GSem nD τ sig)} (h : Disjoint S Sd) (T : Finset (GSem nD τ sig × ℕ × ℕ)) (K : Finset KK) :
    iprop(bigSep S (fun g => semVal g 0) ∗ (BI.own (EQ (Rounds.launchOf S Sd T)) ∗ BI.own (ES (initSlots K 1))))
      ⊢ (|={Set.univ}=> ∃ (κ : GSem nD τ sig → ℕ) (κS : KK → ℕ), ((bigSep (S ∪ Sd) (fun g => cellInv EQ (sched I) (κ g) g) ∗ bigSep K (fun k => slotInv ES (κS k) k (slotOf k.1 k.2)))
          ∗ bigSep S fun g => reached EQ g 0)
        ∗ bigSep S (fun g => atPos EQ g 0 ∅ 0) ∗ bigSep Sd (fun g => openTok EQ g) ∗ bigSep T (fun x => dutyTok EQ x.1 x.2.1 x.2.2)
        ∗ bigSep K (fun k => readerAt ES k 0) ∗ bigSep (K ×ˢ Finset.range 1) (fun x => writeTok ES x.1 (x.2 + 1)) : sProp 𝕄) := by
  iintro ⟨Hv, HQ, HS⟩
  imod (Rounds.fund_launch EQ (sched I) h (fun g _ h => h) T) $$ [Hv HQ] with ⟨%κ, -, #Hinv, #Hr, Hat, Hopen, Htok⟩
  · isplitl [Hv]; · iexact Hv
    iexact HQ
  imod (slots_init ES K 1 (fun k => slotOf k.1 k.2)) $$ HS with ⟨%κS, -, #Hsl, Hrd, Hwr⟩
  imodintro
  iexists κ; iexists κS
  isplitr
  · isplitr
    · isplitr; · iexact Hinv
      iexact Hsl
    iexact Hr
  isplitl [Hat]; · iexact Hat
  isplitl [Hopen]; · iexact Hopen
  isplitl [Htok]; · iexact Htok
  isplitl [Hrd] <;> iassumption

theorem core_all :
    (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (bundle m) ∗ bigSep Finset.univ (fun c : Dev nD => bigSep (Finset.range 256) (crI c))
        ∗ bigSep Finset.univ (fun c : Dev nD => cred (tallyAt (barC c) 1 2)) ∗ bigSep liveCells (fun g => semVal g 0) ∗ Gh) : sProp 𝕄) := by
  rw [live_cells, ← bigSep_G, ← bigSep_sep', ← bigSep_sep', ← bigSep_sep', ← bigSep_sep']
  exact bigSep_mono fun c _ => core_split m ρ c

theorem linear_all : iprop(bigSep liveCells (fun g => atPos EQ g 0 ∅ 0) ∗ bigSep ownCells (fun g => openTok EQ g)
      ∗ (bigSep Finset.univ (fun c : Dev nD => madeR TxH c) ∗ bigSep Finset.univ fun c : Dev nD => iprop(dutyTok EQ (barC (up c false)) 0 0 ∗ dutyTok EQ (barC (up c true)) 0 1))
      ∗ bigSep Finset.univ (fun c : Dev nD => cred (tallyAt (barC c) 1 2)))
    ⊢ (bigSep Finset.univ linear : sProp 𝕄) := by
  rw [live_cells, own_cells]
  unfold linear
  iintro ⟨Hat, Hopen, ⟨Hm, Hbar⟩, Hcb⟩
  iapply bigSep_pair; isplitl [Hopen]; · iexact Hopen
  iapply bigSep_pair; isplitl [Hm]; · iexact Hm
  iapply bigSep_pair; isplitl [Hbar]; · iexact Hbar
  iapply bigSep_pair; isplitl [Hat]; · iexact Hat
  iexact Hcb

theorem T₀_all : iprop(records (inp (argsOf m)) κ κS ∗ (bigSep Finset.univ linear ∗ bigSep Finset.univ (bundle m))) ⊢ (bigSep Finset.univ (T₀ m) : sProp 𝕄) := by
  rw [← bigSep_sep']
  exact bigSep_with_persistent (R := records (inp (argsOf m)) κ κS) (Φ := fun c => iprop(linear c ∗ bundle m c)) fun c _ => T₀_intro m κ κS c

theorem fund_here : iprop(bigSep liveCells (fun g => semVal g 0) ∗ Gh)
      ⊢ (|={Set.univ}=> ∃ κ κS, records I κ κS
        ∗ bigSep liveCells (fun g => atPos EQ g 0 ∅ 0) ∗ bigSep ownCells (fun g => openTok EQ g) ∗ bigSep toks (fun x => dutyTok EQ x.1 x.2.1 x.2.2)
        ∗ bigSep keys (fun k => readerAt ES k 0) ∗ bigSep (keys ×ˢ Finset.range 1) (fun x => writeTok ES x.1 (x.2 + 1)) : sProp 𝕄) := by
  unfold Gh records Inv
  exact fund_all I disjoint_cells toks keys

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (core_all m ρ) $$ H
  icases H' with ⟨HB, Hcr, Hcb, Hv⟩
  imod (fund_here (inp (argsOf m))) $$ Hv with ⟨%κ, %κS, HR, Hat, Hopen, Htok, Hrd, Hwr⟩
  imodintro
  iapply (T₀_all m κ κS)
  isplitl [HR]; · iexact HR
  isplitr [HB]
  · iapply (linear_all (F := F))
    isplitl [Hat]; · iexact Hat
    isplitl [Hopen]; · iexact Hopen
    isplitr [Hcb]
    · iapply (deal (F := F))
      isplitl [Hrd]; · iexact Hrd
      isplitl [Hwr]; · iexact Hwr
      isplitl [Htok]; · iexact Htok
      iexact Hcr
    iexact Hcb
  iexact HB

/-! ## The run -/

theorem bufs_split (c : Dev nD) (W : Valuation τ sig (Elt F)) : StableHlo.held (c : Thread nD τ) bufs W
    ⊢ (iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_v1) ↦{fullShare} W main_v1)) : sProp 𝕄) := by
  have e : (bufs : Finset (DevRef τ sig)) = {Proc.devRef .tc main_arg0, Proc.devRef .tc main_arg1, Proc.devRef .tc main_arg2, Proc.devRef .tc main_arg3,
    Proc.devRef .tc main_v1, Proc.devRef .tc main_c, Proc.devRef .tc main_c_0} := by decide
  unfold StableHlo.held
  rw [e, bigSep_insert (by decide), bigSep_insert (by decide), bigSep_insert (by decide), bigSep_insert (by decide), bigSep_insert (by decide)]
  exact sep_mono_right (sep_mono_right (sep_mono_right (sep_mono_right sep_elim_left)))

theorem V₂_arg (c : Dev nD) (b : Ref sig .tc) (h : b ≠ main_v1) : V₂ m c (Proc.devRef .tc b) = Gen.V m c b :=
  Function.update_of_ne (StableHlo.devRef_ne_of_ne h) _ _
theorem V₂_out (c : Dev nD) : V₂ m c (Proc.devRef .tc main_v1) = res m c := Function.update_self _ _ _

/-- From any memory with its counters at zero every fair execution ends with the arguments as they were, the result at `res` and every counter at zero. -/
theorem run_main : θ_run defs (onTc (τ := τ) (main (F := F))) (s₀ m ρ)
    (fun r => (∀ c : Dev nD, r.2.mem ((c : Thread nD τ).loc main_v1) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_sems (pcfgs (F := F)) adm (pdats m) 0 Gen.cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      iintro Hu
      ihave H := (u_split (F := F)) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_v1) = V₂ m c main_v1)
      ∧ s.sem (barC c) = 0)
    (hfin := fun c s' => by
      dsimp only [Tₙ]
      iintro ⟨⟨Hh, Hb0⟩, HSI⟩
      ihave Hh := (bufs_split c (V₂ m c)) $$ Hh
      icases Hh with ⟨H0, H1, H2, H3, H4⟩
      icombine HSI H0 gives %h0
      icombine HSI H1 gives %h1
      icombine HSI H2 gives %h2
      icombine HSI H3 gives %h3
      icombine HSI H4 gives %h4
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4⟩, by simpa using hb⟩
      iexact HSI)
    (hQ := fun s h hs => ⟨fun c => by
        obtain ⟨⟨h0, h1, h2, h3, h4⟩, -⟩ := h c
        exact ⟨h4.trans (V₂_out m c), h0.trans ((V₂_arg m c _ (by decide)).trans (Gen.V_main_arg0 m c)), h1.trans ((V₂_arg m c _ (by decide)).trans (Gen.V_main_arg1 m c)),
          h2.trans ((V₂_arg m c _ (by decide)).trans (Gen.V_main_arg2 m c)), h3.trans ((V₂_arg m c _ (by decide)).trans (Gen.V_main_arg3 m c))⟩,
      sem_eq_zero hs fun c sm hsm => by
        obtain rfl := unscoped_eq sm hsm
        exact (h c).2⟩)

end Cert.KernelIdeal.Moe

end
-- ==== Proof.Frames.lean ====
/- The frames of the two kernels from their runs, and of the reference from the generated one. -/
module

public import proofs.«01_k».proof.Defs
public import proofs.«01_k».proof.Proof.Launch
public import proofs.«01_k».proof.Proof.Word.Launch
public import proofs.«01_k».proof.Proof.Gen.ReferenceIdeal.Run

@[expose] public section

noncomputable section

namespace Cert.Proof

open Idealize.ShloMosaic Idealize.SL.Sem

theorem frame_kernel [Cert.Kernel.Facts] : quiescent_Kernel := fun m g _ =>
  (θ_run _ _ _).mono (fun _ h => ⟨fun c => (h.1 c).2, h.2⟩) (Cert.Kernel.Moe.run_main m g)

theorem frame_ideal [Cert.KernelIdeal.Facts] : quiescent_KernelIdeal := fun m g _ =>
  (θ_run _ _ _).mono (fun _ h => ⟨fun c => (h.1 c).2, h.2⟩) (Cert.KernelIdeal.Moe.run_main m g)

theorem frame_reference : quiescent_ReferenceIdeal := fun m g _ =>
  (θ_run _ _ _).mono (fun r h => ⟨fun c => (h c).2, sem_eq_zero_of_no_sems (by decide) r.2⟩) (Cert.ReferenceIdeal.Value.run m g)

end Cert.Proof

end
-- ==== Proof.ValueRing.lean ====
/- What a core's sums hold after the ring, at the extended reals: the contributions of the thirty-two cores to its own tokens, added up. -/
module

public import proofs.«01_k».proof.Proof.Launch
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

set_option maxRecDepth 65536
set_option backward.isDefEq.respectTransparency.types false

noncomputable section

namespace Cert.KernelIdeal.Moe

open Idealize.ShloMosaic hiding ix1 ix2 ix3
open Idealize.ShloMosaic.TcCoe Idealize.ShloMosaic.ValueIdx
open Cert.KernelIdeal
open scoped BigOperators

variable [Facts]

/-! ## Reading the operations at an index -/

/-- A column repeated along the rows reads the column. -/
theorem broadcastTo_col {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A word's indicator, as a number. -/
theorem flag_eq (a b : BitVec 32) : (FloatOps.sitofp .f32 ((IntOp.cmpi .eq a b).setWidth 32) : Ideal .f32) = if a = b then (1 : EReal) else 0 := by
  by_cases h : a = b
  · subst h
    rw [if_pos rfl]
    have : (IntOp.cmpi .eq a a) = 1#1 := by simp [IntOp.cmpi]
    rw [this]
    show (((BitVec.setWidth 32 1#1).toInt : ℝ) : EReal) = 1
    norm_num
  · rw [if_neg h]
    have : (IntOp.cmpi .eq a b) = 0#1 := by show BitVec.ofBool (a == b) = 0#1; rw [beq_eq_false_iff_ne.mpr h]; rfl
    rw [this]
    show (((BitVec.setWidth 32 0#1).toInt : ℝ) : EReal) = 0
    norm_num

/-! ## One core's contribution -/

/-- A core's index word. -/
theorem idxWord_eq (d : Dev nD) : idxWord d = BitVec.ofNat 32 d.val := by revert d; decide

/-- The column of core `d`'s `k`-th expert. -/
abbrev expertOf (d : Dev nD) (k : Fin 4) : Fin 128 := ⟨4 * d.val + k.val, by have : d.val < 32 := d.isLt; have := k.isLt; omega⟩

theorem sel_apply (d : Dev nD) (e : Fin 128) (k : Fin 4) :
    (sel (F := Ideal) d) (ix2 e k) = if e = expertOf d k then (1 : EReal) else 0 := by
  have hd : d.val < 32 := d.isLt
  have hk := k.isLt
  have he := e.isLt
  show (FloatOps.sitofp .f32 ((IntOp.cmpi .eq (iota .tc S128x4 32 [0] _ (ix2 e k)) (IntOp.addi (Scalar.muli 4#32 (idxWord d)) (iota .tc S128x4 32 [1] _ (ix2 e k)))).setWidth 32) : Ideal .f32) = _
  rw [flag_eq, iota_single_apply, iota_single_apply, idxWord_eq]
  refine if_congr ?_ rfl rfl
  show BitVec.ofNat 32 e.val = 4#32 * BitVec.ofNat 32 d.val + BitVec.ofNat 32 k.val ↔ _
  constructor
  · intro h
    have h' := congrArg BitVec.toNat h
    simp [BitVec.toNat_ofNat, BitVec.toNat_add, BitVec.toNat_mul] at h'
    apply Fin.ext
    show e.val = 4 * d.val + k.val
    omega
  · rintro rfl
    apply BitVec.eq_of_toNat_eq
    simp [BitVec.toNat_ofNat, BitVec.toNat_add, BitVec.toNat_mul]

/-- Where a slot's coefficient for expert `e` is. -/
abbrev colC (e : Fin 128) : Fin 384 := ⟨256 + e.val, by have := e.isLt; omega⟩
abbrev colX (j : Fin 256) : Fin 384 := ⟨j.val, by have := j.isLt; omega⟩
abbrev colW (k : Fin 4) (h : Fin 512) : Fin 2048 := ⟨512 * k.val + h.val, by have := k.isLt; have := h.isLt; omega⟩

theorem tokOf_at (v : Vec Ideal S256x384 .bf16) (u : Fin 1) (t : Fin 256) (j : Fin 256) : tokOf v (ix3 u t j) = v (ix2 t (colX j)) := by
  unfold tokOf
  rw [shapeCast_ab_1ab_apply, slice2_axis1_apply 0 v _ t j (colX j) (by simp)]
theorem coefOf_at (v : Vec Ideal S256x384 .bf16) (u : Fin 1) (t : Fin 256) (e : Fin 128) : coefOf v (ix3 u t e) = v (ix2 t (colC e)) := by
  unfold coefOf
  rw [shapeCast_ab_1ab_apply, slice2_axis1_apply 256 v _ t e (colC e) rfl]
theorem flatP_apply (v : Vec Ideal S1x256x512 .bf16) (t : Fin 256) (h : Fin 512) : flatP v (ix2 t h) = v (ix3 (0 : Fin 1) t h) := by
  unfold flatP
  rw [shapeCast_1ab_ab_apply]
theorem thickP_apply (v : Vec Ideal S256x512 .bf16) (u : Fin 1) (t : Fin 256) (h : Fin 512) : thickP v (ix3 u t h) = v (ix2 t h) := by
  unfold thickP
  rw [shapeCast_ab_1ab_apply]

/-- What core `d`'s `k`-th expert adds to token `t` of a slot. -/
def part (w : Vec Ideal S256x2048 .bf16) (d : Dev nD) (x : Vec Ideal S256x384 .bf16) (t : Fin 256) (h : Fin 512) (k : Fin 4) : EReal :=
  x (ix2 t (colC (expertOf d k))) * ∑ j : Fin 256, x (ix2 t (colX j)) * w (ix2 j (colW k h))

/-- The selection's product picks one coefficient. -/
theorem coef_apply (d : Dev nD) (cb : FVec Ideal S256x128 .bf16) (t : Fin 256) (k : Fin 4) :
    (matmul dot_S256x128_S128x4_S256x4_1_0_0_1_n_n none cb (sel (F := Ideal) d) (constant S256x4 .f32 0x00000000#32) : FVec Ideal S256x4 .f32) (ix2 t k)
      = cb (ix2 t (expertOf d k)) := by
  refine (Ideal.matmul_plain_apply (M := 256) (K := 128) (N := 4) none cb (sel (F := Ideal) d) (constant S256x4 .f32 0x00000000#32) t k).trans ?_
  rw [constant_apply, Ideal.ofBits_zero_f32, zero_add]
  simp only [sel_apply]
  rw [Finset.sum_eq_single (expertOf d k)]
  · rw [if_pos rfl, mul_one]
  · intro e _ he; rw [if_neg he, mul_zero]
  · intro h; exact absurd (Finset.mem_univ _) h

theorem prod_apply (xb : FVec Ideal S256x256 .bf16) (w : FVec Ideal S256x2048 .bf16) (t : Fin 256) (q : Fin 2048) :
    (matmul dot_S256x256_S256x2048_S256x2048_1_0_0_1_n_n none xb w (constant S256x2048 .f32 0x00000000#32) : FVec Ideal S256x2048 .f32) (ix2 t q)
      = ∑ j : Fin 256, xb (ix2 t j) * w (ix2 j q) := by
  refine (Ideal.matmul_plain_apply (M := 256) (K := 256) (N := 2048) none xb w (constant S256x2048 .f32 0x00000000#32) t q).trans ?_
  rw [constant_apply, Ideal.ofBits_zero_f32, zero_add]

theorem stepV_apply (I : Inp Ideal) (d : Dev nD) (x : Vec Ideal S256x384 .bf16) (p : Vec Ideal S256x512 .bf16) (t : Fin 256) (h : Fin 512) :
    stepV I d x p (ix2 t h) = p (ix2 t h) + ∑ k : Fin 4, part (I.w d) d x t h k := by
  unfold stepV
  rw [flatP_apply]
  unfold stepPay Gen.k0_pay25
  rw [shapeCast_ab_1ab_apply]
  simp only [truncf_apply, extf_apply, addf_apply, mulf_apply, broadcastTo_col, slice2_axis1_eq, coef_apply, prod_apply, shapeCast_1ab_ab_apply,
    thickP_apply, tokOf_at, coefOf_at]
  rw [Fin.sum_univ_four]
  rfl

/-! ## Around the ring -/

/-- `n` places up the ring. -/
def upN (R : Bool) : ℕ → Dev nD → Dev nD
  | 0, c => c
  | n + 1, c => upN R n (up c R)

theorem upN_cycle (R : Bool) (c : Dev nD) : upN R 32 c = c := by revert R c; decide +kernel
theorem upN_inj (R : Bool) (c : Dev nD) : ((List.range 32).map fun k => upN R (k + 1) c).Nodup := by revert R c; decide +kernel

theorem XV_eq (I : Inp Ideal) (R : Bool) (n : ℕ) : ∀ c, XV I R n c = I.x0 (upN R n c) R := by
  induction n with
  | zero => intro c; rfl
  | succ n ih => intro c; exact ih (up c R)

/-- What core `d` adds to the tokens `x`. -/
def whole (I : Inp Ideal) (x : Vec Ideal S256x384 .bf16) (t : Fin 256) (h : Fin 512) (d : Dev nD) : EReal := ∑ k : Fin 4, part (I.w d) d x t h k

theorem PV_eq (I : Inp Ideal) (R : Bool) (t : Fin 256) (h : Fin 512) (n : ℕ) : ∀ c, PV I R n c (ix2 t h)
    = I.p0 (upN R n c) R (ix2 t h) + ∑ k ∈ Finset.range n, whole I (I.x0 (upN R n c) R) t h (upN R (k + 1) c) := by
  induction n with
  | zero => intro c; simp only [Finset.range_zero, Finset.sum_empty, add_zero]; rfl
  | succ n ih =>
    intro c
    show stepV I (up c R) (XV I R n (up c R)) (PV I R n (up c R)) (ix2 t h) = _
    rw [stepV_apply, ih, XV_eq, Finset.sum_range_succ', add_assoc]
    rfl

theorem PV_all (I : Inp Ideal) (R : Bool) (t : Fin 256) (h : Fin 512) (c : Dev nD) :
    PV I R 32 c (ix2 t h) = I.p0 c R (ix2 t h) + ∑ d : Dev nD, whole I (I.x0 c R) t h d := by
  rw [PV_eq, upN_cycle]
  congr 1
  have hi : Set.InjOn (fun k => upN R (k + 1) c) (Finset.range 32 : Finset ℕ) := by
    intro a ha b hb hab
    have ha' : a < 32 := by simpa using ha
    have hb' : b < 32 := by simpa using hb
    have := (List.nodup_map_iff_inj_on List.nodup_range).mp (upN_inj R c)
    exact this a (by simpa using ha') b (by simpa using hb') hab
  have hu : (Finset.range 32).image (fun k => upN R (k + 1) c) = Finset.univ := by
    apply Finset.eq_univ_of_card
    rw [Finset.card_image_of_injOn hi]
    rfl
  rw [← hu, Finset.sum_image hi]

end Cert.KernelIdeal.Moe

end
-- ==== Proof.ValueKernel.lean ====
/- What a core stores, at the extended reals: the sum over the experts of a token's coefficient times that expert's product. -/
module

public import proofs.«01_k».proof.Proof.ValueRing

@[expose] public section

set_option maxRecDepth 65536
set_option backward.isDefEq.respectTransparency.types false

noncomputable section

namespace Cert.KernelIdeal.Moe

open Idealize.ShloMosaic hiding ix1 ix2 ix3
open Idealize.ShloMosaic.TcCoe Idealize.ShloMosaic.ValueIdx
open Cert.KernelIdeal
open scoped BigOperators

variable [Facts] (A : Args Ideal)

/-! ## The loads -/

theorem col0_at (v : Vec Ideal S512x2 .i32) (t : Fin 512) (u : Fin 1) : col0 v (ix2 t u) = v (ix2 t (0 : Fin 2)) := by
  have hu : u.val = 0 := by omega
  refine congrArg v (funext fun a => Fin.ext ?_)
  match a with
  | ⟨0, _⟩ => show 0 + 1 * t.val = t.val; omega
  | ⟨1, _⟩ => show 0 + 1 * u.val = 0; omega
theorem col1_at (v : Vec Ideal S512x2 .i32) (t : Fin 512) (u : Fin 1) : col1 v (ix2 t u) = v (ix2 t (1 : Fin 2)) := by
  have hu : u.val = 0 := by omega
  refine congrArg v (funext fun a => Fin.ext ?_)
  match a with
  | ⟨0, _⟩ => show 0 + 1 * t.val = t.val; omega
  | ⟨1, _⟩ => show 1 + 1 * u.val = 1; omega

/-- Token `t` of half `R`. -/
abbrev rowH (R : Bool) (t : Fin 256) : Fin 512 := ⟨256 * R.toNat + t.val, by have := t.isLt; cases R <;> simp <;> omega⟩

theorem rows0_at (v : Vec Ideal S512x256 .f32) (t j : Fin 256) : rows ![0, 0] Facts₀.inb_S512x256_S256x256_0_0 v (ix2 t j) = v (ix2 (rowH false t) j) := by
  refine congrArg v (funext fun a => Fin.ext ?_)
  match a with
  | ⟨0, _⟩ => show 0 + 1 * t.val = 256 * 0 + t.val; omega
  | ⟨1, _⟩ => show 0 + 1 * j.val = j.val; omega
theorem rows1_at (v : Vec Ideal S512x256 .f32) (t j : Fin 256) : rows ![256, 0] Facts₀.inb_S512x256_S256x256_256_0 v (ix2 t j) = v (ix2 (rowH true t) j) := by
  refine congrArg v (funext fun a => Fin.ext ?_)
  match a with
  | ⟨0, _⟩ => show 256 + 1 * t.val = 256 * 1 + t.val; omega
  | ⟨1, _⟩ => show 0 + 1 * j.val = j.val; omega

theorem slab_at (v : Vec Ideal S4x256x512 .f32) (k : Fin 4) (u : Fin 1) (j : Fin 256) (h : Fin 512) : slab v k.val k.isLt (ix3 u j h) = v (ix3 k j h) := by
  have hu : u.val = 0 := by omega
  refine congrArg v (funext fun a => Fin.ext ?_)
  match a with
  | ⟨0, _⟩ => show k.val + 1 * u.val = k.val; omega
  | ⟨1, _⟩ => show 0 + 1 * j.val = j.val; omega
  | ⟨2, _⟩ => show 0 + 1 * h.val = h.val; omega

theorem cast_self {α : Type} {s : Shape} (x : s.Idx → α) (h : s.ShapeCasts s) (i : s.Idx) : shapeCast s x h i = x i :=
  shapeCast_apply x h _ _ rfl

theorem wOf_at (v : Vec Ideal S4x256x512 .f32) (k : Fin 4) (j : Fin 256) (h : Fin 512) : wOf v (ix2 j (colW k h)) = v (ix3 k j h) := by
  refine (wOf_apply v k.isLt (ix2 j (colW k h)) j h rfl rfl).trans ?_
  unfold Gen.k0_pay14
  refine (cast_self _ _ _).trans ?_
  rw [truncf_apply]
  exact (shapeCast_1ab_ab_apply _ _ j h).trans (slab_at v k 0 j h)

/-! ## The coefficients -/

/-- Token `t`'s score for expert `e`. -/
def score (c : Dev nD) (t : Fin 512) (e : Fin 128) : EReal := ∑ j : Fin 256, A.x c (ix2 t j) * A.r c (ix2 j e)
/-- Whether token `t`'s `s`-th expert is `e`. -/
def hot (c : Dev nD) (s : Fin 2) (t : Fin 512) (e : Fin 128) : EReal := if BitVec.ofNat 32 e.val = A.i c (ix2 t s) then 1 else 0
/-- The score of token `t`'s `s`-th expert. -/
def picked (c : Dev nD) (s : Fin 2) (t : Fin 512) : EReal := ∑ e : Fin 128, score A c t e * hot A c s t e
/-- Token `t`'s coefficient for expert `e`. -/
def coefK (c : Dev nD) (t : Fin 512) (e : Fin 128) : EReal :=
  Ideal.logistic (picked A c 0 t - picked A c 1 t) * hot A c 0 t e + (1 - Ideal.logistic (picked A c 0 t - picked A c 1 t)) * hot A c 1 t e

theorem pay1_at (c : Dev nD) (t : Fin 512) (e : Fin 128) : Gen.k0_pay1 (F := Ideal) (A.x c) (A.r c) (ix2 t e) = score A c t e := by
  unfold Gen.k0_pay1
  refine (Ideal.matmul_plain_apply (M := 512) (K := 256) (N := 128) (φ₁ := .f32) (φ₂ := .f32) none _ _ (constant S512x128 .f32 0x00000000#32) t e).trans ?_
  rw [constant_apply, Ideal.ofBits_zero_f32, zero_add]
  unfold score
  refine Finset.sum_congr rfl fun j _ => ?_
  rw [cast_self, cast_self]

theorem pay2_at (v : Vec Ideal S512x1 .i32) (t : Fin 512) (e : Fin 128) :
    Gen.k0_pay2 (F := Ideal) v (ix2 t e) = if BitVec.ofNat 32 e.val = v (ix2 t (0 : Fin 1)) then (1 : EReal) else 0 := by
  unfold Gen.k0_pay2
  show (FloatOps.sitofp .f32 ((IntOp.cmpi .eq (iota .tc S512x128 32 [1] _ (ix2 t e)) (broadcastTo S512x128 (shapeCast S512x1 v _) _ (ix2 t e))).setWidth 32) : Ideal .f32) = _
  rw [flag_eq, iota_single_apply, broadcastTo_col, cast_self]
theorem pay3_at (v : Vec Ideal S512x1 .i32) (t : Fin 512) (e : Fin 128) :
    Gen.k0_pay3 (F := Ideal) v (ix2 t e) = if BitVec.ofNat 32 e.val = v (ix2 t (0 : Fin 1)) then (1 : EReal) else 0 := by
  unfold Gen.k0_pay3
  show (FloatOps.sitofp .f32 ((IntOp.cmpi .eq (iota .tc S512x128 32 [1] _ (ix2 t e)) (broadcastTo S512x128 (shapeCast S512x1 v _) _ (ix2 t e))).setWidth 32) : Ideal .f32) = _
  rw [flag_eq, iota_single_apply, broadcastTo_col, cast_self]

theorem hot0_at (c : Dev nD) (t : Fin 512) (e : Fin 128) : Gen.k0_pay2 (F := Ideal) (col0 (A.i c)) (ix2 t e) = hot A c 0 t e := by
  rw [pay2_at, col0_at]; rfl
theorem hot1_at (c : Dev nD) (t : Fin 512) (e : Fin 128) : Gen.k0_pay3 (F := Ideal) (col1 (A.i c)) (ix2 t e) = hot A c 1 t e := by
  rw [pay3_at, col1_at]; rfl

/-- A row's sum. -/
theorem rowSum_at (v : FVec Ideal S512x128 .f32) (hr : S512x128.Reduces [1] S512) (hf hn) (hc : S512.ShapeCasts S512x1) (t : Fin 512) (u : Fin 1) :
    shapeCast S512x1 (multiReduction .add [1] S512 v 0x00000000#32 hr hf hn : FVec Ideal S512 .f32) hc (ix2 t u) = ∑ e : Fin 128, v (ix2 t e) := by
  rw [shapeCast_a_a1_apply, Ideal.multiReduction_add_single]
  refine Finset.sum_congr rfl fun e _ => congrArg v (funext fun a => Fin.ext ?_)
  match a with
  | ⟨0, _⟩ => rfl
  | ⟨1, _⟩ => rfl

theorem pay4_at (c : Dev nD) (t : Fin 512) (u : Fin 1) : Gen.k0_pay4 (F := Ideal) (A.x c) (A.r c) (col0 (A.i c)) (ix2 t u) = picked A c 0 t := by
  unfold Gen.k0_pay4
  refine (rowSum_at _ _ _ _ _ t u).trans ?_
  unfold picked
  refine Finset.sum_congr rfl fun e _ => ?_
  rw [mulf_apply, pay1_at, hot0_at]
theorem pay5_at (c : Dev nD) (t : Fin 512) (e : Fin 128) : Gen.k0_pay5 (F := Ideal) (A.x c) (A.r c) (col1 (A.i c)) (ix2 t e) = score A c t e * hot A c 1 t e := by
  unfold Gen.k0_pay5
  refine (mulf_apply _ _ _).trans ?_
  rw [pay1_at, hot1_at]

theorem pay6_at (c : Dev nD) (t : Fin 512) (e : Fin 128) :
    Gen.k0_pay6 (F := Ideal) (Gen.k0_pay2 (col0 (A.i c))) (Gen.k0_pay3 (col1 (A.i c))) (Gen.k0_pay4 (A.x c) (A.r c) (col0 (A.i c))) (Gen.k0_pay5 (A.x c) (A.r c) (col1 (A.i c))) (ix2 t e)
      = coefK A c t e := by
  have hw : (logistic (subf (Gen.k0_pay4 (F := Ideal) (A.x c) (A.r c) (col0 (A.i c)))
      (shapeCast S512x1 (multiReduction .add [1] S512 (Gen.k0_pay5 (F := Ideal) (A.x c) (A.r c) (col1 (A.i c))) 0x00000000#32 Gen.reduces_S512x128_S512 (.inl rfl) rfl) Gen.shapeCasts_S512_S512x1))
      : FVec Ideal S512x1 .f32) (ix2 t (0 : Fin 1)) = Ideal.logistic (picked A c 0 t - picked A c 1 t) := by
    show Ideal.logistic (_ - _) = _
    rw [pay4_at, rowSum_at]
    simp only [pay5_at]
    rfl
  unfold Gen.k0_pay6
  show broadcastTo S512x128 _ _ (ix2 t e) * _ + broadcastTo S512x128 _ _ (ix2 t e) * _ = _
  rw [broadcastTo_col, broadcastTo_col, hot0_at, hot1_at, subf_apply, hw]
  show _ + (Ideal.ofBits .f32 0x3F800000#32 - _) * _ = _
  rw [Ideal.ofBits_one_f32]
  rfl

theorem coefA_at (c : Dev nD) (u : Fin 1) (t : Fin 256) (e : Fin 128) : coefA A c (ix3 u t e) = coefK A c (rowH false t) e := by
  unfold coefA Gen.k0_pay8
  refine (shapeCast_ab_1ab_apply _ _ u t e).trans ?_
  rw [truncf_apply, slice2_axis0_apply 0 _ _ t e (rowH false t) (by simp), pay6_at]
theorem coefB_at (c : Dev nD) (u : Fin 1) (t : Fin 256) (e : Fin 128) : coefB A c (ix3 u t e) = coefK A c (rowH true t) e := by
  unfold coefB Gen.k0_pay12
  refine (shapeCast_ab_1ab_apply _ _ u t e).trans ?_
  unfold Gen.k0_pay11
  rw [truncf_apply, slice2_axis0_apply 256 _ _ t e (rowH true t) (by simp), pay6_at]

/-! ## What a core puts in -/

theorem joinX_tok (a : Vec Ideal S1x256x256 .bf16) (b : Vec Ideal S1x256x128 .bf16) (t j : Fin 256) : joinX a b (ix2 t (colX j)) = a (ix3 (0 : Fin 1) t j) := by
  unfold joinX
  exact (dif_pos (show (colX j).val < 256 from j.isLt)).trans (congrArg a (funext fun q => by match q with | ⟨0, _⟩ => rfl | ⟨1, _⟩ => rfl | ⟨2, _⟩ => rfl))
theorem joinX_coef (a : Vec Ideal S1x256x256 .bf16) (b : Vec Ideal S1x256x128 .bf16) (t : Fin 256) (e : Fin 128) : joinX a b (ix2 t (colC e)) = b (ix3 (0 : Fin 1) t e) := by
  unfold joinX
  refine (dif_neg (show ¬ (colC e).val < 256 by simp)).trans (congrArg b (funext fun q => Fin.ext ?_))
  match q with
  | ⟨0, _⟩ => rfl
  | ⟨1, _⟩ => rfl
  | ⟨2, _⟩ => show 256 + e.val - 256 = e.val; omega

theorem pay7_at (v : Vec Ideal S256x256 .f32) (u : Fin 1) (t j : Fin 256) : Gen.k0_pay7 (F := Ideal) v (ix3 u t j) = v (ix2 t j) := by
  unfold Gen.k0_pay7
  refine (shapeCast_ab_1ab_apply _ _ u t j).trans ?_
  rw [truncf_apply, cast_self]
theorem pay10_at (v : Vec Ideal S256x256 .f32) (u : Fin 1) (t j : Fin 256) : Gen.k0_pay10 (F := Ideal) v (ix3 u t j) = v (ix2 t j) := by
  unfold Gen.k0_pay10
  refine (shapeCast_ab_1ab_apply _ _ u t j).trans ?_
  rw [truncf_apply, cast_self]

theorem x0_tok (c : Dev nD) (R : Bool) (t j : Fin 256) : (inp A).x0 c R (ix2 t (colX j)) = A.x c (ix2 (rowH R t) j) := by
  cases R
  · exact (joinX_tok _ _ t j).trans ((pay7_at _ 0 t j).trans (rows0_at _ t j))
  · exact (joinX_tok _ _ t j).trans ((pay10_at _ 0 t j).trans (rows1_at _ t j))
theorem x0_coef (c : Dev nD) (R : Bool) (t : Fin 256) (e : Fin 128) : (inp A).x0 c R (ix2 t (colC e)) = coefK A c (rowH R t) e := by
  cases R
  · exact (joinX_coef _ _ t e).trans (coefA_at A c 0 t e)
  · exact (joinX_coef _ _ t e).trans (coefB_at A c 0 t e)
theorem p0_at (c : Dev nD) (R : Bool) (t : Fin 256) (h : Fin 512) : (inp A).p0 c R (ix2 t h) = (0 : EReal) := by
  cases R
  · show flatP (F := Ideal) (Gen.k0_pay9 (F := Ideal)) (ix2 t h) = 0
    refine (flatP_apply _ t h).trans ?_
    unfold Gen.k0_pay9
    exact (shapeCast_ab_1ab_apply _ _ _ t h).trans Ideal.ofBits_zero_bf16
  · show flatP (F := Ideal) (Gen.k0_pay13 (F := Ideal)) (ix2 t h) = 0
    refine (flatP_apply _ t h).trans ?_
    unfold Gen.k0_pay13
    exact (shapeCast_ab_1ab_apply _ _ _ t h).trans Ideal.ofBits_zero_bf16

/-! ## What a core stores -/

/-- Token `t` of core `c` times the `k`-th matrix of core `d`. -/
def prodK (c : Dev nD) (t : Fin 512) (h : Fin 512) (d : Dev nD) (k : Fin 4) : EReal := ∑ j : Fin 256, A.x c (ix2 t j) * A.e d (ix3 k j h)

theorem PV_out (c : Dev nD) (R : Bool) (t : Fin 256) (h : Fin 512) :
    PV (inp A) R 32 c (ix2 t h) = ∑ d : Dev nD, ∑ k : Fin 4, coefK A c (rowH R t) (expertOf d k) * prodK A c (rowH R t) h d k := by
  rw [PV_all, p0_at, zero_add]
  refine Finset.sum_congr rfl fun d _ => ?_
  unfold whole
  refine Finset.sum_congr rfl fun k _ => ?_
  unfold part prodK
  rw [x0_coef]
  refine congrArg _ (Finset.sum_congr rfl fun j _ => ?_)
  rw [x0_tok]
  exact congrArg _ (wOf_at (A.e d) k j h)

theorem pay221_at (v : Vec Ideal S1x256x512 .bf16) (t : Fin 256) (h : Fin 512) : Gen.k0_pay221 (F := Ideal) v (ix2 t h) = v (ix3 (0 : Fin 1) t h) := by
  unfold Gen.k0_pay221
  rw [extf_apply, shapeCast_1ab_ab_apply]
theorem pay222_at (v : Vec Ideal S1x256x512 .bf16) (t : Fin 256) (h : Fin 512) : Gen.k0_pay222 (F := Ideal) v (ix2 t h) = v (ix3 (0 : Fin 1) t h) := by
  unfold Gen.k0_pay222
  rw [extf_apply, shapeCast_1ab_ab_apply]

theorem outJ_lo (a b : Vec Ideal S256x512 .f32) (t : Fin 256) (h : Fin 512) : outJ a b (ix2 (rowH false t) h) = a (ix2 t h) := by
  unfold outJ
  refine (dif_pos (show (rowH false t).val < 256 by simp)).trans (congrArg a (funext fun q => Fin.ext ?_))
  match q with
  | ⟨0, _⟩ => show 256 * 0 + t.val = t.val; omega
  | ⟨1, _⟩ => rfl
theorem outJ_hi (a b : Vec Ideal S256x512 .f32) (t : Fin 256) (h : Fin 512) : outJ a b (ix2 (rowH true t) h) = b (ix2 t h) := by
  unfold outJ
  refine (dif_neg (show ¬ (rowH true t).val < 256 by simp)).trans (congrArg b (funext fun q => Fin.ext ?_))
  match q with
  | ⟨0, _⟩ => show 256 * 1 + t.val - 256 = t.val; omega
  | ⟨1, _⟩ => rfl

theorem outV_lo (c : Dev nD) (t : Fin 256) (h : Fin 512) : outV (inp A) c (ix2 (rowH false t) h) = PV (inp A) false 32 c (ix2 t h) := by
  unfold outV
  rw [outJ_lo, pay221_at, thickP_apply]
theorem outV_hi (c : Dev nD) (t : Fin 256) (h : Fin 512) : outV (inp A) c (ix2 (rowH true t) h) = PV (inp A) true 32 c (ix2 t h) := by
  unfold outV
  rw [outJ_hi, pay222_at, thickP_apply]

theorem outV_at (c : Dev nD) (t h : Fin 512) :
    outV (inp A) c (ix2 t h) = ∑ d : Dev nD, ∑ k : Fin 4, coefK A c t (expertOf d k) * prodK A c t h d k := by
  by_cases ht : t.val < 256
  · have e : rowH false ⟨t.val, ht⟩ = t := Fin.ext (by simp)
    have := (outV_lo A c ⟨t.val, ht⟩ h).trans (PV_out A c false ⟨t.val, ht⟩ h)
    rwa [e] at this
  · have ht' : t.val - 256 < 256 := by have := t.isLt; omega
    have e : rowH true ⟨t.val - 256, ht'⟩ = t := Fin.ext (by simp; omega)
    have := (outV_hi A c ⟨t.val - 256, ht'⟩ h).trans (PV_out A c true ⟨t.val - 256, ht'⟩ h)
    rwa [e] at this

end Cert.KernelIdeal.Moe

end
-- ==== Proof.ValueMath.lean ====
/- The softmax weights renormalized over two experts, as the logistic function of the difference of their scores; and the sum over all experts of a
   coefficient that is nonzero at two of them. -/
module

public import Idealize.ShloMosaic.Lib.IdealHost
public import Idealize.ShloMosaic.Lib.ValueIdx
public import Idealize.ShloMosaic.PureOps.Ideal.Laws

@[expose] public section

noncomputable section

namespace Cert.MoeMath

open Idealize.ShloMosaic
open scoped BigOperators

/-- A sum of real numbers is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem dot_real {ι : Type} [Fintype ι] (f g : ι → ℝ) : ∑ i, ((f i : ℝ) : EReal) * ((g i : ℝ) : EReal) = ((∑ i, f i * g i : ℝ) : EReal) := by
  rw [← coe_sum]
  exact Finset.sum_congr rfl fun i _ => (EReal.coe_mul _ _).symm

theorem div_real (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

theorem exp_sub (a b : ℝ) : Ideal.exp ((a : EReal) - (b : EReal)) = ((Real.exp (a - b) : ℝ) : EReal) := by
  rw [← EReal.coe_sub]; rfl

/-- The largest of finitely many real numbers, folded from the least element, is real. -/
theorem fold_max_real {ι : Type} (s : Finset ι) (hs : s.Nonempty) (f : ι → EReal) (hf : ∀ i, ∃ r : ℝ, f i = r) :
    ∃ M : ℝ, s.fold max (⊥ : EReal) f = M := by
  obtain ⟨i, hi⟩ := hs
  have h1 : s.fold max (⊥ : EReal) f ≠ ⊤ := ne_of_lt ((Finset.fold_max_lt _).mpr ⟨bot_lt_top, fun j _ => by
    obtain ⟨r, hr⟩ := hf j; rw [hr]; exact EReal.coe_lt_top r⟩)
  have h2 : s.fold max (⊥ : EReal) f ≠ ⊥ := ne_of_gt ((Finset.lt_fold_max _).mpr (Or.inr ⟨i, hi, by
    obtain ⟨r, hr⟩ := hf i; rw [hr]; exact EReal.bot_lt_coe r⟩))
  exact ⟨_, (EReal.coe_toReal h1 h2).symm⟩

/-- The first weight. -/
theorem gate0 (a b M Z : ℝ) (hZ : 0 < Z) :
    Ideal.div (Ideal.div (Ideal.exp ((a : EReal) - M)) Z) (Ideal.div (Ideal.exp ((a : EReal) - M)) Z + Ideal.div (Ideal.exp ((b : EReal) - M)) Z)
      = Ideal.logistic ((a : EReal) - b) := by
  have ha := Real.exp_pos (a - M)
  have hb := Real.exp_pos (b - M)
  rw [exp_sub, exp_sub, div_real _ _ hZ.ne', div_real _ _ hZ.ne', ← EReal.coe_add, div_real _ _ (by positivity), ← EReal.coe_sub, Ideal.logistic_coe]
  congr 1
  have e : Real.exp (-(a - b)) = Real.exp (b - M) / Real.exp (a - M) := by rw [← Real.exp_sub]; congr 1; ring
  rw [e]
  field_simp

/-- The second weight. -/
theorem gate1 (a b M Z : ℝ) (hZ : 0 < Z) :
    Ideal.div (Ideal.div (Ideal.exp ((b : EReal) - M)) Z) (Ideal.div (Ideal.exp ((a : EReal) - M)) Z + Ideal.div (Ideal.exp ((b : EReal) - M)) Z)
      = 1 - Ideal.logistic ((a : EReal) - b) := by
  have ha := Real.exp_pos (a - M)
  have hb := Real.exp_pos (b - M)
  rw [exp_sub, exp_sub, div_real _ _ hZ.ne', div_real _ _ hZ.ne', ← EReal.coe_add, div_real _ _ (by positivity), ← EReal.coe_sub, Ideal.logistic_coe,
    ← EReal.coe_one, ← EReal.coe_sub]
  congr 1
  have e : Real.exp (-(a - b)) = Real.exp (b - M) / Real.exp (a - M) := by rw [← Real.exp_sub]; congr 1; ring
  rw [e]
  field_simp
  ring

/-- The weights are not negative. -/
theorem weight_nonneg (r : ℝ) : 0 ≤ Ideal.logistic (r : EReal) ∧ 0 ≤ 1 - Ideal.logistic (r : EReal) := by
  have h := Real.exp_pos (-r)
  rw [Ideal.logistic_coe, ← EReal.coe_one, ← EReal.coe_sub]
  constructor
  · exact_mod_cast (by positivity : (0 : ℝ) ≤ (1 + Real.exp (-r))⁻¹)
  · have : (1 + Real.exp (-r))⁻¹ ≤ 1 := inv_le_one_of_one_le₀ (by linarith)
    exact_mod_cast (by linarith : (0 : ℝ) ≤ 1 - (1 + Real.exp (-r))⁻¹)

/-- A coefficient `a` at `p` and `b` at `q` picks those two values. -/
theorem two_hot {n : ℕ} (a b : EReal) (ha : 0 ≤ a) (hb : 0 ≤ b) (p q : Fin n) (Y : Fin n → EReal) :
    ∑ e, (a * (if e = p then 1 else 0) + b * (if e = q then 1 else 0)) * Y e = a * Y p + b * Y q := by
  have h : ∀ e, (a * (if e = p then (1 : EReal) else 0) + b * (if e = q then 1 else 0)) * Y e
      = (if e = p then a * Y e else 0) + (if e = q then b * Y e else 0) := by
    intro e
    rw [EReal.right_distrib_of_nonneg (mul_nonneg ha (by split <;> simp)) (mul_nonneg hb (by split <;> simp))]
    congr 1 <;> split <;> simp
  simp only [h, Finset.sum_add_distrib, Finset.sum_ite_eq', Finset.mem_univ, if_true]

end Cert.MoeMath

end
-- ==== Proof.ValueRef.lean ====
/- What the reference returns, at the extended reals, where the scores are real numbers and every expert a token names exists. -/
module

public import proofs.«01_k».proof.Proof.Gen.ReferenceIdeal.Run
public import proofs.«01_k».proof.Proof.ValueMath
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 65536
set_option backward.isDefEq.respectTransparency.types false

noncomputable section

namespace Cert.ReferenceIdeal.Moe

open Idealize.ShloMosaic Idealize.ShloMosaic.TcCoe Idealize.ShloMosaic.ValueIdx
open Cert.ReferenceIdeal Cert.ReferenceIdeal.Gen
open scoped BigOperators

/-! ## A row of a table along its columns, and a matrix out of a stack -/

/-- Reading each row of `[N, C]` at its own columns. -/
abbrev takeColsDims (N C B : Nat) (wf : GatherDims.WF ⟨2, ![N, C]⟩ ⟨3, ![N, B, 1]⟩ ⟨2, ![N, B]⟩ [] [1] [0] [1] [0] 2 ![1, 1]) :
    GatherDims ⟨2, ![N, C]⟩ ⟨3, ![N, B, 1]⟩ ⟨2, ![N, B]⟩ where
  offsetDims := []
  collapsedSliceDims := [1]
  operandBatchingDims := [0]
  startIndicesBatchingDims := [0]
  startIndexMap := [1]
  indexVectorDim := 2
  sliceSizes := ![1, 1]
  wf := wf

theorem gather_take_cols_apply {α : Type} {N C B w : Nat} (hC : 0 < C)
    (wf : GatherDims.WF ⟨2, ![N, C]⟩ ⟨3, ![N, B, 1]⟩ ⟨2, ![N, B]⟩ [] [1] [0] [1] [0] 2 ![1, 1])
    (x : (⟨2, ![N, C]⟩ : Shape).Idx → α) (idx : IVec ⟨3, ![N, B, 1]⟩ w) (y : (⟨2, ![N, B]⟩ : Shape).Idx) :
    Host.gather (takeColsDims N C B wf) x idx y
      = x (ix2 ⟨(y 0).val, idx2_lt0 y⟩ ⟨min (idx (takeIdx y)).toInt.toNat (C - 1), by omega⟩) := by
  unfold Host.gather
  congr 1
  funext a
  refine Fin.ext ?_
  show (takeColsDims N C B wf).start y idx a + (takeColsDims N C B wf).batchCoord y a + (takeColsDims N C B wf).offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims N C B wf).startIndexMap from List.mem_singleton.mpr rfl)]
    have hsi : (takeColsDims N C B wf).siIdx y ⟨List.idxOf (1 : Fin 2) (takeColsDims N C B wf).startIndexMap,
        List.idxOf_lt_length_iff.2 (List.mem_singleton.mpr rfl)⟩ = takeIdx y := by
      funext b; refine Fin.ext ?_
      match b with
      | ⟨0, _⟩ => rfl
      | ⟨1, _⟩ => rfl
      | ⟨2, _⟩ => rfl
    rw [hsi]
    rfl

/-- Reading matrices off a stack of them. -/
abbrev takeMatsDims (N K H B : Nat) (wf : GatherDims.WF ⟨3, ![N, K, H]⟩ ⟨2, ![B, 1]⟩ ⟨3, ![B, K, H]⟩ [1, 2] [0] [] [0] [] 1 ![1, K, H]) :
    GatherDims ⟨3, ![N, K, H]⟩ ⟨2, ![B, 1]⟩ ⟨3, ![B, K, H]⟩ where
  offsetDims := [1, 2]
  collapsedSliceDims := [0]
  operandBatchingDims := []
  startIndicesBatchingDims := []
  startIndexMap := [0]
  indexVectorDim := 1
  sliceSizes := ![1, K, H]
  wf := wf

theorem gather_take_mats_apply {α : Type} {N K H B w : Nat} (hN : 0 < N)
    (wf : GatherDims.WF ⟨3, ![N, K, H]⟩ ⟨2, ![B, 1]⟩ ⟨3, ![B, K, H]⟩ [1, 2] [0] [] [0] [] 1 ![1, K, H])
    (x : (⟨3, ![N, K, H]⟩ : Shape).Idx → α) (idx : IVec ⟨2, ![B, 1]⟩ w) (t : Fin B) (j : Fin K) (h : Fin H) :
    Host.gather (takeMatsDims N K H B wf) x idx (ix3 t j h)
      = x (ix3 ⟨min (idx (ix2 t (0 : Fin 1))).toInt.toNat (N - 1), by omega⟩ j h) := by
  unfold Host.gather
  congr 1
  funext a
  refine Fin.ext ?_
  show (takeMatsDims N K H B wf).start (ix3 t j h) idx a + (takeMatsDims N K H B wf).batchCoord (ix3 t j h) a + (takeMatsDims N K H B wf).offCoord (ix3 t j h) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeMatsDims N K H B wf).startIndexMap from List.mem_singleton.mpr rfl)]
    have hsi : (takeMatsDims N K H B wf).siIdx (ix3 t j h) ⟨List.idxOf (0 : Fin 3) (takeMatsDims N K H B wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · unfold GatherDims.start
    rw [dif_neg (show (1 : Fin 3) ∉ (takeMatsDims N K H B wf).startIndexMap from by show (1 : Fin 3) ∉ [(0 : Fin 3)]; decide), Nat.zero_add]
    unfold GatherDims.offCoord
    rw [dif_pos ((GatherDims.mem_sKept _ _).mpr ⟨by show (1 : Fin 3) ∉ [(0 : Fin 3)]; decide, List.not_mem_nil⟩)]
    rfl
  · unfold GatherDims.start
    rw [dif_neg (show (2 : Fin 3) ∉ (takeMatsDims N K H B wf).startIndexMap from by show (2 : Fin 3) ∉ [(0 : Fin 3)]; decide), Nat.zero_add]
    unfold GatherDims.offCoord
    rw [dif_pos ((GatherDims.mem_sKept _ _).mpr ⟨by show (2 : Fin 3) ∉ [(0 : Fin 3)]; decide, List.not_mem_nil⟩)]
    rfl

/-! ## The products -/

/-- Each row times its own matrix. -/
abbrev rowMat (T K N : Nat) (wf : DotDims.WF ⟨2, ![T, K]⟩ ⟨3, ![T, K, N]⟩ ⟨2, ![T, N]⟩ [1] [1] [] [2] [0] [0]) :
    DotDims ⟨2, ![T, K]⟩ ⟨3, ![T, K, N]⟩ ⟨2, ![T, N]⟩ where
  lhsContracting := [1]
  rhsContracting := [1]
  lhsNonContracting := []
  rhsNonContracting := [2]
  lhsBatch := [0]
  rhsBatch := [0]
  wf := wf

theorem rowMat_apply {T K N : Nat} (wf : DotDims.WF ⟨2, ![T, K]⟩ ⟨3, ![T, K, N]⟩ ⟨2, ![T, N]⟩ [1] [1] [] [2] [0] [0]) (sched : HostSchedule)
    (lhs : FVec Ideal ⟨2, ![T, K]⟩ .f32) (rhs : FVec Ideal ⟨3, ![T, K, N]⟩ .f32) (t : Fin T) (h : Fin N) :
    FloatOps.dotGeneral (rowMat T K N wf) none sched lhs rhs (ix2 t h) = ∑ k : Fin K, lhs (ix2 t k) * rhs (ix3 t k h) := by
  rw [Ideal.dotGeneral_apply, ← Equiv.sum_comp (contrEquiv1 (rowMat T K N wf) K rfl rfl).symm]
  refine Finset.sum_congr rfl fun k _ => ?_
  have hk := contrEquiv1_symm_val (rowMat T K N wf) K rfl rfl k
  have el : (rowMat T K N wf).lhsIdx (ix2 t h) ((contrEquiv1 (rowMat T K N wf) K rfl rfl).symm k) = ix2 t k := by
    funext a; apply Fin.ext
    match a with
    | ⟨0, _⟩ => rfl
    | ⟨1, _⟩ => exact hk
  have er : (rowMat T K N wf).rhsIdx (ix2 t h) ((contrEquiv1 (rowMat T K N wf) K rfl rfl).symm k) = ix3 t k h := by
    funext a; apply Fin.ext
    match a with
    | ⟨0, _⟩ => rfl
    | ⟨1, _⟩ => exact hk
    | ⟨2, _⟩ => rfl
  rw [el, er]

theorem plain_apply {M K N : Nat} (sched : HostSchedule) (lhs : FVec Ideal ⟨2, ![M, K]⟩ .f32) (rhs : FVec Ideal ⟨2, ![K, N]⟩ .f32) (r : Fin M) (c : Fin N) :
    FloatOps.dotGeneral (DotDims.plain M K N) none sched lhs rhs (ix2 r c) = ∑ k : Fin K, lhs (ix2 r k) * rhs (ix2 k c) := by
  refine (Ideal.matmul_plain_apply (φ₁ := .f32) (φ₂ := .f32) none lhs rhs (fun _ => (0 : EReal)) r c).trans ?_
  rw [zero_add]

/-! ## The reference by its parts -/

variable (x : FVec Ideal S16384x256 .f32) (W : FVec Ideal S256x128 .f32) (idx : IVec S16384x2 32) (ew : FVec Ideal S128x256x512 .f32)

/-- The scores. -/
def scores : FVec Ideal S16384x128 .f32 := Host.dotGeneral dot_S16384x256_S256x128_S16384x128_1_0_0_1_n_n none x W
/-- The exponentials below the row's largest. -/
def exps : FVec Ideal S16384x128 .f32 :=
  Host.exp (subf (scores x W) (broadcastInDim S16384x128 ![0, 1] bcast_S16384x1_S16384x128_0_1 (broadcastInDim S16384x1 ![0] bcast_S16384_S16384x1_0
    (Host.reduce FloatOps.maximumf (scores x W) (constant S_ .f32 0xFF800000#32) reducesTo_S16384x128_S16384_d1 h_S_))))
/-- The softmax. -/
def gates : FVec Ideal S16384x128 .f32 :=
  Host.divf (exps x W) (broadcastInDim S16384x128 ![0, 1] bcast_S16384x1_S16384x128_0_1 (broadcastInDim S16384x1 ![0] bcast_S16384_S16384x1_0
    (Host.reduceAdd (exps x W) (constant S_ .f32 0x00000000#32) reducesTo_S16384x128_S16384_d1 h_S_)))
/-- The softmax at the tokens' experts. -/
def chosen : FVec Ideal S16384x2 .f32 :=
  Host.gather gather_S16384x128_S16384x2x1_S16384x2_n_1_0_0_1_2_11 (gates x W)
    (shapeCast _ (select (cmpi .slt idx (broadcastInDim S16384x2 ![] bcast_S_S16384x2 (constantI S_ 32 0#32)))
      (addi idx (broadcastInDim S16384x2 ![] bcast_S_S16384x2 (constantI S_ 32 128#32))) idx) shapeCasts_S16384x2_S16384x2x1)
def chosen0 : FVec Ideal S16384x1 .f32 := extractStridedSlice S16384x1 ![0, 0] (chosen x W idx) slices_S16384x2_S16384x1_0_0
def chosen1 : FVec Ideal S16384x1 .f32 := extractStridedSlice S16384x1 ![0, 1] (chosen x W idx) slices_S16384x2_S16384x1_0_1
/-- The tokens by the matrices a column of experts names. -/
def prods (v : IVec S16384x1 32) : FVec Ideal S16384x512 .f32 :=
  Host.dotGeneral dot_S16384x256_S16384x256x512_S16384x512_1_1_n_2_0_0 none x
    (Host.gather gather_S128x256x512_S16384x1_S16384x256x512_12_0_n_n_0_1_1256512 ew (broadcastInDim S16384x1 ![0] bcast_S16384_S16384x1_0
      (select (cmpi .slt (shapeCast S16384 v shapeCasts_S16384x1_S16384) (broadcastInDim S16384 ![] bcast_S_S16384 (constantI S_ 32 0#32)))
        (addi (shapeCast S16384 v shapeCasts_S16384x1_S16384) (broadcastInDim S16384 ![] bcast_S_S16384 (constantI S_ 32 128#32)))
        (shapeCast S16384 v shapeCasts_S16384x1_S16384))))
/-- One expert's share. -/
def share (g : FVec Ideal S16384x1 .f32) (v : IVec S16384x1 32) : FVec Ideal S16384x512 .f32 :=
  mulf (broadcastInDim S16384x512 ![0, 1] bcast_S16384x1_S16384x512_0_1 (Host.divf g (addf (chosen0 x W idx) (chosen1 x W idx)))) (prods x ew v)
/-- The whole. -/
def refOut : FVec Ideal S16384x512 .f32 :=
  addf (share x W idx ew (chosen0 x W idx) (extractStridedSlice S16384x1 ![0, 0] idx slices_S16384x2_S16384x1_0_0))
    (share x W idx ew (chosen1 x W idx) (extractStridedSlice S16384x1 ![0, 1] idx slices_S16384x2_S16384x1_0_1))

theorem res_eq (m : (ℓ : Loc nD τ sig) → Buf (Elt Ideal) ℓ) (c : Dev nD) :
    Value.res_main_v40 m c = refOut (m ((c.tc : Thread nD τ).loc main_arg0)) (m ((c.tc : Thread nD τ).loc main_arg1))
      (m ((c.tc : Thread nD τ).loc main_arg2)) (m ((c.tc : Thread nD τ).loc main_arg3)) := by
  unfold Value.res_main_v40 refOut share prods chosen0 chosen1 chosen gates exps scores
  rfl

/-! ## Reading them -/

theorem scores_at (t : Fin 16384) (e : Fin 128) : scores x W (ix2 t e) = ∑ j : Fin 256, x (ix2 t j) * W (ix2 j e) :=
  plain_apply (M := 16384) (K := 256) (N := 128) _ x W t e

/-- A column repeated along the rows. -/
theorem bcastCol {α : Type} {a b : Nat} (dh : (⟨2, ![a, 1]⟩ : Shape).BroadcastsInDim ⟨2, ![a, b]⟩ ![0, 1]) (v : (⟨2, ![a, 1]⟩ : Shape).Idx → α) (p : Fin a) (q : Fin b) :
    broadcastInDim ⟨2, ![a, b]⟩ ![0, 1] dh v (ix2 p q) = v (ix2 p (0 : Fin 1)) := by
  refine broadcastInDim_apply _ dh v (ix2 p q) (ix2 p (0 : Fin 1)) fun ax => ?_
  match ax with
  | ⟨0, _⟩ =>
    show p.val = if a = 1 then 0 else p.val
    split
    · have := p.isLt; omega
    · rfl
  | ⟨1, _⟩ => rfl
/-- A vector as a column. -/
theorem bcastVec {α : Type} {a : Nat} (dh : (⟨1, ![a]⟩ : Shape).BroadcastsInDim ⟨2, ![a, 1]⟩ ![0]) (v : (⟨1, ![a]⟩ : Shape).Idx → α) (p : Fin a) (u : Fin 1) :
    broadcastInDim ⟨2, ![a, 1]⟩ ![0] dh v (ix2 p u) = v (ix1 p) := by
  refine broadcastInDim_apply _ dh v (ix2 p u) (ix1 p) fun ax => ?_
  match ax with
  | ⟨0, _⟩ =>
    show p.val = if a = 1 then 0 else p.val
    split
    · have := p.isLt; omega
    · rfl

/-- The largest of a row of real scores is real. -/
theorem max_real (v : FVec Ideal S16384x128 .f32) (hv : ∀ i, ∃ r : ℝ, v i = (r : EReal)) (t : Fin 16384) :
    ∃ M : ℝ, Host.reduce FloatOps.maximumf v (constant S_ .f32 0xFF800000#32 : FVec Ideal S_ .f32) reducesTo_S16384x128_S16384_d1 h_S_ (ix1 t) = (M : EReal) := by
  have hb : Ideal.ofBits .f32 0xFF800000#32 = ⊥ := by simp [Ideal.ofBits, Ideal.ieee]
  have h := Host.reduce_eq_fold (max : EReal → EReal → EReal) v (constant S_ .f32 0xFF800000#32 : FVec Ideal S_ .f32) reducesTo_S16384x128_S16384_d1 h_S_ (ix1 t)
  obtain ⟨M, hM⟩ := MoeMath.fold_max_real (Finset.univ.filter fun i => reducesTo_S16384x128_S16384_d1.drop i = ix1 t)
    ⟨ix2 t (0 : Fin 128), Finset.mem_filter.mpr ⟨Finset.mem_univ _, funext fun a => Fin.ext (by match a with | ⟨0, _⟩ => rfl)⟩⟩ v hv
  refine ⟨M, h.trans ?_⟩
  rw [← hM]
  show Finset.fold max (Ideal.ofBits .f32 0xFF800000#32) v _ = _
  rw [hb]

theorem sum_at (v : FVec Ideal S16384x128 .f32) (t : Fin 16384) :
    Host.reduceAdd v (constant S_ .f32 0x00000000#32 : FVec Ideal S_ .f32) reducesTo_S16384x128_S16384_d1 h_S_ (ix1 t) = ∑ e : Fin 128, v (ix2 t e) := by
  rw [hostReduceAdd_apply, Ideal.hostReduceAdd_single reducesTo_S16384x128_S16384_d1 (by decide), constant_apply, Ideal.ofBits_zero_f32, zero_add]
  refine Finset.sum_congr rfl fun e _ => congrArg v (funext fun a => Fin.ext ?_)
  match a with
  | ⟨0, _⟩ => rfl
  | ⟨1, _⟩ => rfl

theorem exp_at {s : Shape} (a b : FVec Ideal s .f32) (i : s.Idx) : Host.exp (subf a b) i = Ideal.exp (a i - b i) := rfl

/-- The softmax of a row of real scores: one real shift and one positive real divisor. -/
theorem gates_real (xr : S16384x256.Idx → ℝ) (hx : ∀ i, x i = (xr i : EReal)) (Wr : S256x128.Idx → ℝ) (hW : ∀ i, W i = (Wr i : EReal)) (t : Fin 16384) :
    ∃ (s : Fin 128 → ℝ) (M Z : ℝ), 0 < Z ∧ (∀ e, scores x W (ix2 t e) = (s e : EReal))
      ∧ ∀ e, gates x W (ix2 t e) = Ideal.div (Ideal.exp ((s e : EReal) - M)) Z := by
  have hs : ∀ (t : Fin 16384) e, scores x W (ix2 t e) = ((∑ j : Fin 256, xr (ix2 t j) * Wr (ix2 j e) : ℝ) : EReal) := fun t e => by
    rw [scores_at, ← MoeMath.dot_real]
    exact Finset.sum_congr rfl fun j _ => by rw [hx, hW]
  obtain ⟨M, hM⟩ := max_real (scores x W) (fun i => by rw [eq_ix2 i]; exact ⟨_, hs (i 0) (i 1)⟩) t
  have he : ∀ e, exps x W (ix2 t e) = ((Real.exp ((∑ j : Fin 256, xr (ix2 t j) * Wr (ix2 j e)) - M) : ℝ) : EReal) := fun e => by
    unfold exps
    rw [exp_at, bcastCol, bcastVec, hM, hs, MoeMath.exp_sub]
  refine ⟨fun e => ∑ j : Fin 256, xr (ix2 t j) * Wr (ix2 j e), M, ∑ e : Fin 128, Real.exp ((∑ j : Fin 256, xr (ix2 t j) * Wr (ix2 j e)) - M),
    Finset.sum_pos (fun e _ => Real.exp_pos _) ⟨0, Finset.mem_univ _⟩, hs t, fun e => ?_⟩
  unfold gates
  rw [hostDivf_apply, bcastCol, bcastVec, sum_at, he, MoeMath.exp_sub]
  refine congrArg _ ?_
  rw [← MoeMath.coe_sum]
  exact Finset.sum_congr rfl fun e _ => he e

/-- A word below 128 is not negative, so the wrap leaves it. -/
theorem wrap_word (e : Fin 128) :
    Scalar.select (IntOp.cmpi .slt (BitVec.ofNat 32 e.val) 0#32) (IntOp.addi (BitVec.ofNat 32 e.val) 128#32) (BitVec.ofNat 32 e.val) = BitVec.ofNat 32 e.val := by
  revert e; decide
theorem word_clamp (e : Fin 128) : min (BitVec.ofNat 32 e.val).toInt.toNat (128 - 1) = e.val := by revert e; decide

/-- The wrapped index, where it names an expert. -/
theorem wrap_at {T : Shape} (dh : S_.BroadcastsInDim T ![]) (v : IVec T 32) (i : T.Idx) (e : Fin 128) (he : v i = BitVec.ofNat 32 e.val) :
    select (cmpi .slt v (broadcastInDim T ![] dh (constantI S_ 32 0#32))) (addi v (broadcastInDim T ![] dh (constantI S_ 32 128#32))) v i = BitVec.ofNat 32 e.val := by
  rw [select_apply]
  show Scalar.select (IntOp.cmpi .slt (v i) (broadcastInDim T ![] dh (constantI S_ 32 0#32) i)) (IntOp.addi (v i) (broadcastInDim T ![] dh (constantI S_ 32 128#32) i)) (v i) = _
  rw [broadcastInDim_scalar_apply, broadcastInDim_scalar_apply, constantI_apply, constantI_apply, he]
  exact wrap_word e

theorem takeCols_at {α : Type} (y : S16384x128.Idx → α) (v : IVec S16384x2 32) (t : Fin 16384) (s : Fin 2) (e : Fin 128) (he : v (ix2 t s) = BitVec.ofNat 32 e.val) :
    Host.gather gather_S16384x128_S16384x2x1_S16384x2_n_1_0_0_1_2_11 y (shapeCast S16384x2x1 v shapeCasts_S16384x2_S16384x2x1) (ix2 t s) = y (ix2 t e) := by
  have hi : shapeCast S16384x2x1 v shapeCasts_S16384x2_S16384x2x1 (takeIdx (ix2 t s)) = BitVec.ofNat 32 e.val :=
    (shapeCast_apply v _ _ (ix2 t s) (by
      rw [Shape.rowMajor_val_three, Shape.rowMajor_val_two]
      show t.val * 2 + s.val = (t.val * 2 + s.val) * 1 + 0
      omega)).trans he
  refine (gather_take_cols_apply (N := 16384) (C := 128) (B := 2) (by decide) _ y _ (ix2 t s)).trans (congrArg y ?_)
  refine congrArg (ix2 t) (Fin.ext ?_)
  exact (congrArg (fun w : BitVec 32 => min w.toInt.toNat (128 - 1)) hi).trans (word_clamp e)

theorem takeMats_at {α : Type} (y : S128x256x512.Idx → α) (v : IVec S16384 32) (t : Fin 16384) (j : Fin 256) (h : Fin 512) (e : Fin 128)
    (he : v (ix1 t) = BitVec.ofNat 32 e.val) :
    Host.gather gather_S128x256x512_S16384x1_S16384x256x512_12_0_n_n_0_1_1256512 y (broadcastInDim S16384x1 ![0] bcast_S16384_S16384x1_0 v) (ix3 t j h)
      = y (ix3 e j h) := by
  refine (gather_take_mats_apply (N := 128) (K := 256) (H := 512) (B := 16384) (by decide) _ y _ t j h).trans (congrArg y ?_)
  refine congrArg (fun f : Fin 128 => ix3 f j h) (Fin.ext ?_)
  exact (congrArg (fun w : BitVec 32 => min w.toInt.toNat (128 - 1)) ((bcastVec _ v t 0).trans he)).trans (word_clamp e)

theorem chosen_at (t : Fin 16384) (s : Fin 2) (e : Fin 128) (he : idx (ix2 t s) = BitVec.ofNat 32 e.val) : chosen x W idx (ix2 t s) = gates x W (ix2 t e) :=
  takeCols_at (gates x W) _ t s e (wrap_at bcast_S_S16384x2 idx (ix2 t s) e he)

theorem prods_at (v : IVec S16384x1 32) (t : Fin 16384) (h : Fin 512) (e : Fin 128) (he : v (ix2 t (0 : Fin 1)) = BitVec.ofNat 32 e.val) :
    prods x ew v (ix2 t h) = ∑ j : Fin 256, x (ix2 t j) * ew (ix3 e j h) := by
  have hi : shapeCast S16384 v shapeCasts_S16384x1_S16384 (ix1 t) = BitVec.ofNat 32 e.val :=
    (shapeCast_apply v _ _ (ix2 t (0 : Fin 1)) (by
      rw [Shape.rowMajor_val_two, Shape.rowMajor_val_one]
      show t.val * 1 + 0 = t.val
      omega)).trans he
  refine (rowMat_apply (T := 16384) (K := 256) (N := 512) _ _ x _ t h).trans (Finset.sum_congr rfl fun j _ => congrArg _ ?_)
  exact takeMats_at ew _ t j h e (wrap_at bcast_S_S16384 _ (ix1 t) e hi)

theorem share_at (g : FVec Ideal S16384x1 .f32) (v : IVec S16384x1 32) (t : Fin 16384) (h : Fin 512) (e : Fin 128) (he : v (ix2 t (0 : Fin 1)) = BitVec.ofNat 32 e.val) :
    share x W idx ew g v (ix2 t h) = Ideal.div (g (ix2 t (0 : Fin 1))) (chosen x W idx (ix2 t (0 : Fin 2)) + chosen x W idx (ix2 t (1 : Fin 2)))
      * ∑ j : Fin 256, x (ix2 t j) * ew (ix3 e j h) := by
  unfold share
  rw [mulf_apply, prods_at x ew v t h e he, bcastCol, hostDivf_apply, addf_apply]
  unfold chosen0 chosen1
  rw [slice2_axis1_apply 0 _ _ t (0 : Fin 1) (0 : Fin 2) rfl, slice2_axis1_apply 1 _ _ t (0 : Fin 1) (1 : Fin 2) rfl]

/-- What the reference returns for token `t`: its two experts' products, by the logistic function of the difference of their scores. -/
theorem refOut_at (xr : S16384x256.Idx → ℝ) (hx : ∀ i, x i = (xr i : EReal)) (Wr : S256x128.Idx → ℝ) (hW : ∀ i, W i = (Wr i : EReal))
    (t : Fin 16384) (h : Fin 512) (p q : Fin 128) (hp : idx (ix2 t (0 : Fin 2)) = BitVec.ofNat 32 p.val) (hq : idx (ix2 t (1 : Fin 2)) = BitVec.ofNat 32 q.val) :
    ∃ a b : ℝ, scores x W (ix2 t p) = (a : EReal) ∧ scores x W (ix2 t q) = (b : EReal)
      ∧ refOut x W idx ew (ix2 t h) = Ideal.logistic ((a : EReal) - b) * (∑ j : Fin 256, x (ix2 t j) * ew (ix3 p j h))
        + (1 - Ideal.logistic ((a : EReal) - b)) * ∑ j : Fin 256, x (ix2 t j) * ew (ix3 q j h) := by
  obtain ⟨s, M, Z, hZ, hs, hg⟩ := gates_real x W xr hx Wr hW t
  refine ⟨s p, s q, hs p, hs q, ?_⟩
  unfold refOut
  rw [addf_apply, share_at x W idx ew _ _ t h p (by rw [slice2_axis1_apply 0 _ _ t (0 : Fin 1) (0 : Fin 2) rfl, hp]),
    share_at x W idx ew _ _ t h q (by rw [slice2_axis1_apply 1 _ _ t (0 : Fin 1) (1 : Fin 2) rfl, hq])]
  unfold chosen0 chosen1
  rw [slice2_axis1_apply 0 _ _ t (0 : Fin 1) (0 : Fin 2) rfl, slice2_axis1_apply 1 _ _ t (0 : Fin 1) (1 : Fin 2) rfl,
    chosen_at x W idx t 0 p hp, chosen_at x W idx t 1 q hq, hg, hg, MoeMath.gate0 _ _ _ _ hZ, MoeMath.gate1 _ _ _ _ hZ]

end Cert.ReferenceIdeal.Moe

end
-- ==== Proof.Value.lean ====
/- The kernel's results are the reference's, by blocks: where the tokens and the router are finite and every index names an expert, what the ring leaves
   a core at a token and a column is what the reference returns for that token. -/
module

public import proofs.«01_k».proof.Defs
public import proofs.«01_k».proof.Proof.ValueKernel
public import proofs.«01_k».proof.Proof.ValueRef
public import proofs.«01_k».proof.Proof.ValueMath

@[expose] public section

set_option maxRecDepth 65536
set_option backward.isDefEq.respectTransparency.types false

noncomputable section

namespace Cert.KernelIdeal.Moe

open Idealize.ShloMosaic hiding ix1 ix2 ix3
open Idealize.ShloMosaic.TcCoe Idealize.ShloMosaic.ValueIdx
open Cert.KernelIdeal
open scoped BigOperators

variable [Facts]

/-! ## The precondition, decoded -/

/-- A number below infinity in size is real. -/
theorem real_of_bit (v : EReal) (h : FloatOps.cmpf (F := Ideal) (φ := .f32) .olt (FloatOps.hostAbsf (F := Ideal) (φ := .f32) v) (FloatOps.ofBits (F := Ideal) .f32 0x7F800000#32) = 1#1) :
    ∃ r : ℝ, v = (r : EReal) := by
  have hinf : FloatOps.ofBits (F := Ideal) .f32 0x7F800000#32 = (⊤ : EReal) := by show Ideal.ofBits .f32 0x7F800000#32 = ⊤; simp [Ideal.ofBits, Ideal.ieee]
  rw [hinf] at h
  induction v using EReal.rec with
  | coe r => exact ⟨r, rfl⟩
  | bot => exact absurd h (by show Ideal.cmp .olt (max (⊥ : EReal) (-⊥)) ⊤ ≠ 1#1; simp [Ideal.cmp])
  | top => exact absurd h (by show Ideal.cmp .olt (max (⊤ : EReal) (-⊤)) ⊤ ≠ 1#1; simp [Ideal.cmp])

/-- A word that is not negative and below 128 is an expert's number. -/
theorem expert_of_bit (v : BitVec 32) (h : IntOp.andi (IntOp.cmpi .sge v 0#32) (IntOp.cmpi .slt v 128#32) = 1#1) : ∃ e : Fin 128, v = BitVec.ofNat 32 e.val := by
  have h2 : (0#32).sle v = true ∧ v.slt 128#32 = true := by
    revert h
    show BitVec.ofBool ((0#32).sle v) &&& BitVec.ofBool (v.slt 128#32) = 1#1 → _
    cases (0#32).sle v <;> cases v.slt 128#32 <;> decide
  have h0 : (0 : ℤ) ≤ v.toInt := by simpa [BitVec.sle] using h2.1
  have h1 : v.toInt < 128 := by simpa [BitVec.slt] using h2.2
  have hn : v.toNat < 128 := by
    rw [BitVec.toInt_eq_toNat_cond] at h0 h1
    have := v.isLt
    split at h0 <;> omega
  exact ⟨⟨v.toNat, hn⟩, by simp⟩

/-! ## The sum over the experts -/

theorem sum_experts (f : Fin 128 → EReal) : ∑ d : Dev nD, ∑ k : Fin 4, f (expertOf d k) = ∑ e : Fin 128, f e := by
  rw [← Fintype.sum_prod_type' (fun (d : Fin 32) (k : Fin 4) => f (expertOf d k)), ← Equiv.sum_comp (finProdFinEquiv (m := 32) (n := 4)) f]
  refine Finset.sum_congr rfl fun p _ => congrArg f (Fin.ext ?_)
  show 4 * p.1.val + p.2.val = p.2.val + 4 * p.1.val
  omega

variable (A : Args Ideal)

theorem hot_at (c : Dev nD) (s : Fin 2) (t : Fin 512) (p : Fin 128) (hp : A.i c (ix2 t s) = BitVec.ofNat 32 p.val) (e : Fin 128) :
    hot A c s t e = if e = p then 1 else 0 := by
  unfold hot
  have : (BitVec.ofNat 32 e.val = A.i c (ix2 t s)) ↔ e = p := by
    rw [hp]
    constructor
    · intro h
      have := congrArg BitVec.toNat h
      rw [BitVec.toNat_ofNat, BitVec.toNat_ofNat] at this
      have h1 := e.isLt
      have h2 := p.isLt
      exact Fin.ext (by omega)
    · rintro rfl; rfl
  simp only [this]

theorem picked_at (c : Dev nD) (s : Fin 2) (t : Fin 512) (p : Fin 128) (hp : A.i c (ix2 t s) = BitVec.ofNat 32 p.val) : picked A c s t = score A c t p := by
  unfold picked
  rw [Finset.sum_congr rfl fun e _ => congrArg (score A c t e * ·) (hot_at A c s t p hp e)]
  simp

/-- What a core is left at a token and a column, its token's experts being `p` and `q`. -/
theorem outV_pair (c : Dev nD) (t h : Fin 512) (p q : Fin 128) (hp : A.i c (ix2 t 0) = BitVec.ofNat 32 p.val) (hq : A.i c (ix2 t 1) = BitVec.ofNat 32 q.val)
    (a b : ℝ) (ha : score A c t p = (a : EReal)) (hb : score A c t q = (b : EReal))
    (E : Fin 128 → Fin 256 → EReal) (hE : ∀ d k j, A.e d (ix3 k j h) = E (expertOf d k) j) :
    outV (inp A) c (ix2 t h) = Ideal.logistic ((a : EReal) - b) * (∑ j : Fin 256, A.x c (ix2 t j) * E p j)
      + (1 - Ideal.logistic ((a : EReal) - b)) * ∑ j : Fin 256, A.x c (ix2 t j) * E q j := by
  have hY : ∀ d k, prodK A c t h d k = ∑ j : Fin 256, A.x c (ix2 t j) * E (expertOf d k) j := fun d k =>
    Finset.sum_congr rfl fun j _ => by rw [hE]
  have hc : ∀ e, coefK A c t e = Ideal.logistic ((a : EReal) - b) * (if e = p then 1 else 0) + (1 - Ideal.logistic ((a : EReal) - b)) * (if e = q then 1 else 0) := fun e => by
    unfold coefK
    rw [picked_at A c 0 t p hp, picked_at A c 1 t q hq, ha, hb, hot_at A c 0 t p hp, hot_at A c 1 t q hq]
  have hn := MoeMath.weight_nonneg (a - b)
  rw [EReal.coe_sub] at hn
  rw [outV_at, ← MoeMath.two_hot _ _ hn.1 hn.2 p q (fun e => ∑ j : Fin 256, A.x c (ix2 t j) * E e j), ← sum_experts]
  refine Finset.sum_congr rfl fun d _ => Finset.sum_congr rfl fun k _ => ?_
  rw [hY, hc]

/-! ## The blocks -/

/-- Token `t` of core `c` among all. -/
def rowOf (c : Dev nD) (t : Fin 512) : Fin 16384 := ⟨c.val * 512 + t.val, by have := c.isLt; have := t.isLt; simp only [nD] at *; omega⟩

theorem rowOf_all (i : Fin 16384) : ∃ c t, i = rowOf c t :=
  ⟨⟨i.val / 512, by have := i.isLt; simp only [nD]; omega⟩, ⟨i.val % 512, Nat.mod_lt _ (by decide)⟩, Fin.ext (by show i.val = i.val / 512 * 512 + i.val % 512; omega)⟩

theorem block2 {α : Type} {n : ℕ} (hT : Layout.Tiles ⟨2, ![512, n]⟩ ⟨2, ![16384, n]⟩ 0 32) (c : Dev nD) (v : (⟨2, ![16384, n]⟩ : Shape).Idx → α) (t : Fin 512) (j : Fin n) :
    Layout.block ⟨2, ![512, n]⟩ ⟨2, ![16384, n]⟩ 0 32 c v hT (ix2 t j) = v (ix2 (rowOf c t) j) := by
  rw [Layout.block_apply]
  refine congrArg v (funext fun a => Fin.ext ?_)
  match a with
  | ⟨0, _⟩ => rfl
  | ⟨1, _⟩ => rfl

theorem block3 {α : Type} (hT : Layout.Tiles ⟨3, ![4, 256, 512]⟩ ⟨3, ![128, 256, 512]⟩ 0 32) (c : Dev nD) (v : (⟨3, ![128, 256, 512]⟩ : Shape).Idx → α)
    (k : Fin 4) (j : Fin 256) (h : Fin 512) :
    Layout.block ⟨3, ![4, 256, 512]⟩ ⟨3, ![128, 256, 512]⟩ 0 32 c v hT (ix3 k j h) = v (ix3 (expertOf c k) j h) := by
  rw [Layout.block_apply]
  refine congrArg v (funext fun a => Fin.ext ?_)
  match a with
  | ⟨0, _⟩ => show c.val * 4 + k.val = 4 * c.val + k.val; omega
  | ⟨1, _⟩ => rfl
  | ⟨2, _⟩ => rfl

/-- A core's result is its block of the reference's. -/
theorem out_block (X : FVec Ideal ⟨2, ![16384, 256]⟩ .f32) (W : FVec Ideal ⟨2, ![256, 128]⟩ .f32) (I : IVec ⟨2, ![16384, 2]⟩ 32) (E : FVec Ideal ⟨3, ![128, 256, 512]⟩ .f32)
    (hx : ∀ c t j, A.x c (ix2 t j) = X (ix2 (rowOf c t) j)) (hr : ∀ c, A.r c = W) (hi : ∀ c t s, A.i c (ix2 t s) = I (ix2 (rowOf c t) s))
    (he : ∀ c k j h, A.e c (ix3 k j h) = E (ix3 (expertOf c k) j h))
    (fx : ∀ c i, ∃ r : ℝ, A.x c i = (r : EReal)) (fW : ∀ i, ∃ r : ℝ, W i = (r : EReal)) (fi : ∀ c i, ∃ e : Fin 128, A.i c i = BitVec.ofNat 32 e.val)
    (c : Dev nD) (t h : Fin 512) : outV (inp A) c (ix2 t h) = ReferenceIdeal.Moe.refOut X W I E (ix2 (rowOf c t) h) := by
  have fX : ∀ i, ∃ r : ℝ, X i = (r : EReal) := fun i => by
    obtain ⟨c', t', h'⟩ := rowOf_all (i 0)
    obtain ⟨r, hr'⟩ := fx c' (ix2 t' (i 1))
    refine ⟨r, ?_⟩
    exact (congrArg X ((ValueIdx.eq_ix2 i).trans (congrArg (fun u : Fin 16384 => ix2 u (i 1)) h'))).trans ((hx c' t' (i 1)).symm.trans hr')
  choose xr hxr using fX
  choose Wr hWr using fW
  obtain ⟨p, hp⟩ := fi c (ix2 t 0)
  obtain ⟨q, hq⟩ := fi c (ix2 t 1)
  obtain ⟨a, b, ha, hb, hout⟩ := ReferenceIdeal.Moe.refOut_at X W I E xr hxr Wr hWr (rowOf c t) h p q ((hi c t 0).symm.trans hp) ((hi c t 1).symm.trans hq)
  have hs : ∀ e, score A c t e = ReferenceIdeal.Moe.scores X W (ix2 (rowOf c t) e) := fun e => by
    rw [ReferenceIdeal.Moe.scores_at]
    exact Finset.sum_congr rfl fun j _ => by rw [hx, hr]
  rw [hout, outV_pair A c t h p q hp hq a b ((hs p).trans ha) ((hs q).trans hb) (fun e j => E (ix3 e j h)) (fun d k j => he d k j h)]
  simp only [hx]

end Cert.KernelIdeal.Moe

namespace Cert.Proof

open Idealize.ShloMosaic hiding ix1 ix2 ix3
open Idealize.SL.Sem
open Idealize.ShloMosaic.TcCoe Idealize.ShloMosaic.ValueIdx
open Cert.KernelIdeal.Moe

theorem pre_facts_kernel : Cert.Pre_finite_and_routed_KernelIdeal.Facts := ⟨by decide, by decide, by decide⟩
theorem pre_facts_reference : Cert.Pre_finite_and_routed_ReferenceIdeal.Facts := ⟨by decide, by decide, by decide⟩

/-- The value claim. -/
theorem algebraic [Cert.KernelIdeal.Facts] [Cert.Pre_finite_and_routed_KernelIdeal.Facts] :
    algebraic_KernelIdeal_ReferenceIdeal_pre_finite_and_routed_KernelIdeal := by
  intro m g m' g' hpre hin
  refine ⟨Cert.ReferenceIdeal.Value.res_main_v40 m' 0, (θ_run _ _ _).mono (fun r h c => ⟨(h.1 c).1.trans ?_, (h.1 c).2⟩) (run_main m g),
    (θ_run _ _ _).mono (fun r h => h 0) (Cert.ReferenceIdeal.Value.run m' g')⟩
  have fx : ∀ c i, ∃ r : ℝ, (argsOf m).x c i = (r : EReal) := fun c i => real_of_bit _ (congrFun (hpre c).1 i)
  have fr : ∀ c i, ∃ r : ℝ, (argsOf m).r c i = (r : EReal) := fun c i => real_of_bit _ (congrFun (hpre c).2.1 i)
  have fi : ∀ c i, ∃ e : Fin 128, (argsOf m).i c i = BitVec.ofNat 32 e.val := fun c i => expert_of_bit _ (congrFun (hpre c).2.2 i)
  have fW : ∀ i, ∃ r : ℝ, m' (((0 : Dev Cert.ReferenceIdeal.nD).tc : Thread Cert.ReferenceIdeal.nD Cert.ReferenceIdeal.τ).loc Cert.ReferenceIdeal.main_arg1) i = (r : EReal) := fun i => by
    obtain ⟨r, hr⟩ := fr 0 i
    exact ⟨r, (congrFun (hin 0).2.1 i).symm.trans hr⟩
  have hout : ∀ t h : Fin 512, res m c (ix2 t h) = Cert.ReferenceIdeal.Value.res_main_v40 m' 0 (ix2 (rowOf c t) h) := fun t h => by
    rw [Cert.ReferenceIdeal.Moe.res_eq]
    exact out_block (argsOf m) _ _ _ _ (fun c t j => (congrFun (hin c).1 _).trans (block2 _ c _ t j)) (fun c => (hin c).2.1)
      (fun c t s => (congrFun (hin c).2.2.1 _).trans (block2 _ c _ t s)) (fun c k j h => (congrFun (hin c).2.2.2 _).trans (block3 _ c _ k j h)) fx fW fi c t h
  have hblk : ∀ t h : Fin 512, res m c (ix2 t h) = Layout.block ⟨2, ![512, 512]⟩ ⟨2, ![16384, 512]⟩ 0 32 c (Cert.ReferenceIdeal.Value.res_main_v40 m' 0) (by decide) (ix2 t h) :=
    fun t h => (hout t h).trans (block2 _ c _ t h).symm
  funext i
  obtain ⟨t, h, rfl⟩ : ∃ t h : Fin 512, i = ix2 t h := ⟨i 0, i 1, ValueIdx.eq_ix2 i⟩
  exact hblk t h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, pre_facts_kernel, pre_facts_reference, by
  haveI := Cert.KernelIdeal.Gen.facts
  haveI := pre_facts_kernel
  exact ⟨frame_kernel, frame_ideal, fun m g _ => frame_ideal m g trivial, frame_reference, fun m g _ => frame_reference m g trivial, trivial, algebraic⟩⟩

end Cert.Proof

end
